-- ==== Defs.lean ====
def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontIdeal_front_tame [hPre_front_tame : Cert.Pre_front_tame.Facts] (m : (ℓ : Loc Cert.FrontIdeal.nD Cert.FrontIdeal.τ Cert.FrontIdeal.sig) → Buf (Elt Ideal) ℓ) : Prop :=
  ∀ c : Dev Cert.FrontIdeal.nD,
    (Cert.Pre_front_tame.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7)) (m ((c.tc : Thread Cert.FrontIdeal.nD Cert.FrontIdeal.τ).loc Cert.FrontIdeal.main_arg8)) (m ((c.tc : Thread Cert.FrontIdeal.nD Cert.FrontIdeal.τ).loc Cert.FrontIdeal.main_arg9)) (m ((c.tc : Thread Cert.FrontIdeal.nD Cert.FrontIdeal.τ).loc Cert.FrontIdeal.main_arg10)) (m ((c.tc : Thread Cert.FrontIdeal.nD Cert.FrontIdeal.τ).loc Cert.FrontIdeal.main_arg11)) (m ((c.tc : Thread Cert.FrontIdeal.nD Cert.FrontIdeal.τ).loc Cert.FrontIdeal.main_arg12)) (m ((c.tc : Thread Cert.FrontIdeal.nD Cert.FrontIdeal.τ).loc Cert.FrontIdeal.main_arg13)) (m ((c.tc : Thread Cert.FrontIdeal.nD Cert.FrontIdeal.τ).loc Cert.FrontIdeal.main_arg14)) (m ((c.tc : Thread Cert.FrontIdeal.nD Cert.FrontIdeal.τ).loc Cert.FrontIdeal.main_arg15))) = (fun _ => 1#1)

def Pre_FrontRefIdeal (m : (ℓ : Loc Cert.FrontRefIdeal.nD Cert.FrontRefIdeal.τ Cert.FrontRefIdeal.sig) → Buf (Elt Ideal) ℓ) : Prop :=
  True

def Pre_FrontRefIdeal_front_tame [hPre_front_tame : Cert.Pre_front_tame.Facts] (m : (ℓ : Loc Cert.FrontRefIdeal.nD Cert.FrontRefIdeal.τ Cert.FrontRefIdeal.sig) → Buf (Elt Ideal) ℓ) : Prop :=
  ∀ c : Dev Cert.FrontRefIdeal.nD,
    (Cert.Pre_front_tame.fn (F := Ideal) (m ((c.tc : Thread Cert.FrontRefIdeal.nD Cert.FrontRefIdeal.τ).loc Cert.FrontRefIdeal.main_arg0)) (m ((c.tc : Thread Cert.FrontRefIdeal.nD Cert.FrontRefIdeal.τ).loc Cert.FrontRefIdeal.main_arg1)) (m ((c.tc : Thread Cert.FrontRefIdeal.nD Cert.FrontRefIdeal.τ).loc Cert.FrontRefIdeal.main_arg2)) (m ((c.tc : Thread Cert.FrontRefIdeal.nD Cert.FrontRefIdeal.τ).loc Cert.FrontRefIdeal.main_arg3)) (m ((c.tc : Thread Cert.FrontRefIdeal.nD Cert.FrontRefIdeal.τ).loc Cert.FrontRefIdeal.main_arg4)) (m ((c.tc : Thread Cert.FrontRefIdeal.nD Cert.FrontRefIdeal.τ).loc Cert.FrontRefIdeal.main_arg5)) (m ((c.tc : Thread Cert.FrontRefIdeal.nD Cert.FrontRefIdeal.τ).loc Cert.FrontRefIdeal.main_arg6)) (m ((c.tc : Thread Cert.FrontRefIdeal.nD Cert.FrontRefIdeal.τ).loc Cert.FrontRefIdeal.main_arg7)) (m ((c.tc : Thread Cert.FrontRefIdeal.nD Cert.FrontRefIdeal.τ).loc Cert.FrontRefIdeal.main_arg8)) (m ((c.tc : Thread Cert.FrontRefIdeal.nD Cert.FrontRefIdeal.τ).loc Cert.FrontRefIdeal.main_arg9)) (m ((c.tc : Thread Cert.FrontRefIdeal.nD Cert.FrontRefIdeal.τ).loc Cert.FrontRefIdeal.main_arg10)) (m ((c.tc : Thread Cert.FrontRefIdeal.nD Cert.FrontRefIdeal.τ).loc Cert.FrontRefIdeal.main_arg11)) (m ((c.tc : Thread Cert.FrontRefIdeal.nD Cert.FrontRefIdeal.τ).loc Cert.FrontRefIdeal.main_arg12)) (m ((c.tc : Thread Cert.FrontRefIdeal.nD Cert.FrontRefIdeal.τ).loc Cert.FrontRefIdeal.main_arg13)) (m ((c.tc : Thread Cert.FrontRefIdeal.nD Cert.FrontRefIdeal.τ).loc Cert.FrontRefIdeal.main_arg14)) (m ((c.tc : Thread Cert.FrontRefIdeal.nD Cert.FrontRefIdeal.τ).loc Cert.FrontRefIdeal.main_arg15))) = (fun _ => 1#1)

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackIdeal_back_tame [hPre_back_tame : Cert.Pre_back_tame.Facts] (m : (ℓ : Loc Cert.BackIdeal.nD Cert.BackIdeal.τ Cert.BackIdeal.sig) → Buf (Elt Ideal) ℓ) : Prop :=
  ∀ c : Dev Cert.BackIdeal.nD,
    (Cert.Pre_back_tame.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9)) (m ((c.tc : Thread Cert.BackIdeal.nD Cert.BackIdeal.τ).loc Cert.BackIdeal.main_arg10)) (m ((c.tc : Thread Cert.BackIdeal.nD Cert.BackIdeal.τ).loc Cert.BackIdeal.main_arg11)) (m ((c.tc : Thread Cert.BackIdeal.nD Cert.BackIdeal.τ).loc Cert.BackIdeal.main_arg12)) (m ((c.tc : Thread Cert.BackIdeal.nD Cert.BackIdeal.τ).loc Cert.BackIdeal.main_arg13)) (m ((c.tc : Thread Cert.BackIdeal.nD Cert.BackIdeal.τ).loc Cert.BackIdeal.main_arg14)) (m ((c.tc : Thread Cert.BackIdeal.nD Cert.BackIdeal.τ).loc Cert.BackIdeal.main_arg15)) (m ((c.tc : Thread Cert.BackIdeal.nD Cert.BackIdeal.τ).loc Cert.BackIdeal.main_arg16))) = (fun _ => 1#1)

def Pre_BackRefIdeal (m : (ℓ : Loc Cert.BackRefIdeal.nD Cert.BackRefIdeal.τ Cert.BackRefIdeal.sig) → Buf (Elt Ideal) ℓ) : Prop :=
  True

def Pre_BackRefIdeal_back_tame [hPre_back_tame : Cert.Pre_back_tame.Facts] (m : (ℓ : Loc Cert.BackRefIdeal.nD Cert.BackRefIdeal.τ Cert.BackRefIdeal.sig) → Buf (Elt Ideal) ℓ) : Prop :=
  ∀ c : Dev Cert.BackRefIdeal.nD,
    (Cert.Pre_back_tame.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1)) (m ((c.tc : Thread Cert.BackRefIdeal.nD Cert.BackRefIdeal.τ).loc Cert.BackRefIdeal.main_arg2)) (m ((c.tc : Thread Cert.BackRefIdeal.nD Cert.BackRefIdeal.τ).loc Cert.BackRefIdeal.main_arg3)) (m ((c.tc : Thread Cert.BackRefIdeal.nD Cert.BackRefIdeal.τ).loc Cert.BackRefIdeal.main_arg4)) (m ((c.tc : Thread Cert.BackRefIdeal.nD Cert.BackRefIdeal.τ).loc Cert.BackRefIdeal.main_arg5)) (m ((c.tc : Thread Cert.BackRefIdeal.nD Cert.BackRefIdeal.τ).loc Cert.BackRefIdeal.main_arg6)) (m ((c.tc : Thread Cert.BackRefIdeal.nD Cert.BackRefIdeal.τ).loc Cert.BackRefIdeal.main_arg7)) (m ((c.tc : Thread Cert.BackRefIdeal.nD Cert.BackRefIdeal.τ).loc Cert.BackRefIdeal.main_arg8)) (m ((c.tc : Thread Cert.BackRefIdeal.nD Cert.BackRefIdeal.τ).loc Cert.BackRefIdeal.main_arg9)) (m ((c.tc : Thread Cert.BackRefIdeal.nD Cert.BackRefIdeal.τ).loc Cert.BackRefIdeal.main_arg10)) (m ((c.tc : Thread Cert.BackRefIdeal.nD Cert.BackRefIdeal.τ).loc Cert.BackRefIdeal.main_arg11)) (m ((c.tc : Thread Cert.BackRefIdeal.nD Cert.BackRefIdeal.τ).loc Cert.BackRefIdeal.main_arg12)) (m ((c.tc : Thread Cert.BackRefIdeal.nD Cert.BackRefIdeal.τ).loc Cert.BackRefIdeal.main_arg13)) (m ((c.tc : Thread Cert.BackRefIdeal.nD Cert.BackRefIdeal.τ).loc Cert.BackRefIdeal.main_arg14)) (m ((c.tc : Thread Cert.BackRefIdeal.nD Cert.BackRefIdeal.τ).loc Cert.BackRefIdeal.main_arg15)) (m ((c.tc : Thread Cert.BackRefIdeal.nD Cert.BackRefIdeal.τ).loc Cert.BackRefIdeal.main_arg16))) = (fun _ => 1#1)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9)
      ∧ r.2.mem ((c.tc : Thread Cert.Front.nD Cert.Front.τ).loc Cert.Front.main_arg10) = m ((c.tc : Thread Cert.Front.nD Cert.Front.τ).loc Cert.Front.main_arg10)
      ∧ r.2.mem ((c.tc : Thread Cert.Front.nD Cert.Front.τ).loc Cert.Front.main_arg11) = m ((c.tc : Thread Cert.Front.nD Cert.Front.τ).loc Cert.Front.main_arg11)
      ∧ r.2.mem ((c.tc : Thread Cert.Front.nD Cert.Front.τ).loc Cert.Front.main_arg12) = m ((c.tc : Thread Cert.Front.nD Cert.Front.τ).loc Cert.Front.main_arg12)
      ∧ r.2.mem ((c.tc : Thread Cert.Front.nD Cert.Front.τ).loc Cert.Front.main_arg13) = m ((c.tc : Thread Cert.Front.nD Cert.Front.τ).loc Cert.Front.main_arg13)
      ∧ r.2.mem ((c.tc : Thread Cert.Front.nD Cert.Front.τ).loc Cert.Front.main_arg14) = m ((c.tc : Thread Cert.Front.nD Cert.Front.τ).loc Cert.Front.main_arg14)
      ∧ r.2.mem ((c.tc : Thread Cert.Front.nD Cert.Front.τ).loc Cert.Front.main_arg15) = m ((c.tc : Thread Cert.Front.nD Cert.Front.τ).loc Cert.Front.main_arg15))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
      ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
      ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13)
      ∧ r.2.mem ((c.tc : Thread Cert.FrontIdeal.nD Cert.FrontIdeal.τ).loc Cert.FrontIdeal.main_arg14) = m ((c.tc : Thread Cert.FrontIdeal.nD Cert.FrontIdeal.τ).loc Cert.FrontIdeal.main_arg14)
      ∧ r.2.mem ((c.tc : Thread Cert.FrontIdeal.nD Cert.FrontIdeal.τ).loc Cert.FrontIdeal.main_arg15) = m ((c.tc : Thread Cert.FrontIdeal.nD Cert.FrontIdeal.τ).loc Cert.FrontIdeal.main_arg15))
      ∧ r.2.sem = fun _ => 0)

def quiescent_FrontIdeal_pre_front_tame [hFrontIdeal : Cert.FrontIdeal.Facts] [hPre_front_tame : Cert.Pre_front_tame.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_front_tame m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
      ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
      ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13)
      ∧ r.2.mem ((c.tc : Thread Cert.FrontIdeal.nD Cert.FrontIdeal.τ).loc Cert.FrontIdeal.main_arg14) = m ((c.tc : Thread Cert.FrontIdeal.nD Cert.FrontIdeal.τ).loc Cert.FrontIdeal.main_arg14)
      ∧ r.2.mem ((c.tc : Thread Cert.FrontIdeal.nD Cert.FrontIdeal.τ).loc Cert.FrontIdeal.main_arg15) = m ((c.tc : Thread Cert.FrontIdeal.nD Cert.FrontIdeal.τ).loc Cert.FrontIdeal.main_arg15))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7)
      ∧ r.2.mem ((c.tc : Thread Cert.FrontRefIdeal.nD Cert.FrontRefIdeal.τ).loc Cert.FrontRefIdeal.main_arg8) = m ((c.tc : Thread Cert.FrontRefIdeal.nD Cert.FrontRefIdeal.τ).loc Cert.FrontRefIdeal.main_arg8)
      ∧ r.2.mem ((c.tc : Thread Cert.FrontRefIdeal.nD Cert.FrontRefIdeal.τ).loc Cert.FrontRefIdeal.main_arg9) = m ((c.tc : Thread Cert.FrontRefIdeal.nD Cert.FrontRefIdeal.τ).loc Cert.FrontRefIdeal.main_arg9)
      ∧ r.2.mem ((c.tc : Thread Cert.FrontRefIdeal.nD Cert.FrontRefIdeal.τ).loc Cert.FrontRefIdeal.main_arg10) = m ((c.tc : Thread Cert.FrontRefIdeal.nD Cert.FrontRefIdeal.τ).loc Cert.FrontRefIdeal.main_arg10)
      ∧ r.2.mem ((c.tc : Thread Cert.FrontRefIdeal.nD Cert.FrontRefIdeal.τ).loc Cert.FrontRefIdeal.main_arg11) = m ((c.tc : Thread Cert.FrontRefIdeal.nD Cert.FrontRefIdeal.τ).loc Cert.FrontRefIdeal.main_arg11)
      ∧ r.2.mem ((c.tc : Thread Cert.FrontRefIdeal.nD Cert.FrontRefIdeal.τ).loc Cert.FrontRefIdeal.main_arg12) = m ((c.tc : Thread Cert.FrontRefIdeal.nD Cert.FrontRefIdeal.τ).loc Cert.FrontRefIdeal.main_arg12)
      ∧ r.2.mem ((c.tc : Thread Cert.FrontRefIdeal.nD Cert.FrontRefIdeal.τ).loc Cert.FrontRefIdeal.main_arg13) = m ((c.tc : Thread Cert.FrontRefIdeal.nD Cert.FrontRefIdeal.τ).loc Cert.FrontRefIdeal.main_arg13)
      ∧ r.2.mem ((c.tc : Thread Cert.FrontRefIdeal.nD Cert.FrontRefIdeal.τ).loc Cert.FrontRefIdeal.main_arg14) = m ((c.tc : Thread Cert.FrontRefIdeal.nD Cert.FrontRefIdeal.τ).loc Cert.FrontRefIdeal.main_arg14)
      ∧ r.2.mem ((c.tc : Thread Cert.FrontRefIdeal.nD Cert.FrontRefIdeal.τ).loc Cert.FrontRefIdeal.main_arg15) = m ((c.tc : Thread Cert.FrontRefIdeal.nD Cert.FrontRefIdeal.τ).loc Cert.FrontRefIdeal.main_arg15))
      ∧ r.2.sem = fun _ => 0)

def quiescent_FrontRefIdeal_pre_front_tame [hFrontRefIdeal : Cert.FrontRefIdeal.Facts] [hPre_front_tame : Cert.Pre_front_tame.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal_front_tame m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7)
      ∧ r.2.mem ((c.tc : Thread Cert.FrontRefIdeal.nD Cert.FrontRefIdeal.τ).loc Cert.FrontRefIdeal.main_arg8) = m ((c.tc : Thread Cert.FrontRefIdeal.nD Cert.FrontRefIdeal.τ).loc Cert.FrontRefIdeal.main_arg8)
      ∧ r.2.mem ((c.tc : Thread Cert.FrontRefIdeal.nD Cert.FrontRefIdeal.τ).loc Cert.FrontRefIdeal.main_arg9) = m ((c.tc : Thread Cert.FrontRefIdeal.nD Cert.FrontRefIdeal.τ).loc Cert.FrontRefIdeal.main_arg9)
      ∧ r.2.mem ((c.tc : Thread Cert.FrontRefIdeal.nD Cert.FrontRefIdeal.τ).loc Cert.FrontRefIdeal.main_arg10) = m ((c.tc : Thread Cert.FrontRefIdeal.nD Cert.FrontRefIdeal.τ).loc Cert.FrontRefIdeal.main_arg10)
      ∧ r.2.mem ((c.tc : Thread Cert.FrontRefIdeal.nD Cert.FrontRefIdeal.τ).loc Cert.FrontRefIdeal.main_arg11) = m ((c.tc : Thread Cert.FrontRefIdeal.nD Cert.FrontRefIdeal.τ).loc Cert.FrontRefIdeal.main_arg11)
      ∧ r.2.mem ((c.tc : Thread Cert.FrontRefIdeal.nD Cert.FrontRefIdeal.τ).loc Cert.FrontRefIdeal.main_arg12) = m ((c.tc : Thread Cert.FrontRefIdeal.nD Cert.FrontRefIdeal.τ).loc Cert.FrontRefIdeal.main_arg12)
      ∧ r.2.mem ((c.tc : Thread Cert.FrontRefIdeal.nD Cert.FrontRefIdeal.τ).loc Cert.FrontRefIdeal.main_arg13) = m ((c.tc : Thread Cert.FrontRefIdeal.nD Cert.FrontRefIdeal.τ).loc Cert.FrontRefIdeal.main_arg13)
      ∧ r.2.mem ((c.tc : Thread Cert.FrontRefIdeal.nD Cert.FrontRefIdeal.τ).loc Cert.FrontRefIdeal.main_arg14) = m ((c.tc : Thread Cert.FrontRefIdeal.nD Cert.FrontRefIdeal.τ).loc Cert.FrontRefIdeal.main_arg14)
      ∧ r.2.mem ((c.tc : Thread Cert.FrontRefIdeal.nD Cert.FrontRefIdeal.τ).loc Cert.FrontRefIdeal.main_arg15) = m ((c.tc : Thread Cert.FrontRefIdeal.nD Cert.FrontRefIdeal.τ).loc Cert.FrontRefIdeal.main_arg15))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10)
      ∧ r.2.mem ((c.tc : Thread Cert.Back.nD Cert.Back.τ).loc Cert.Back.main_arg11) = m ((c.tc : Thread Cert.Back.nD Cert.Back.τ).loc Cert.Back.main_arg11)
      ∧ r.2.mem ((c.tc : Thread Cert.Back.nD Cert.Back.τ).loc Cert.Back.main_arg12) = m ((c.tc : Thread Cert.Back.nD Cert.Back.τ).loc Cert.Back.main_arg12)
      ∧ r.2.mem ((c.tc : Thread Cert.Back.nD Cert.Back.τ).loc Cert.Back.main_arg13) = m ((c.tc : Thread Cert.Back.nD Cert.Back.τ).loc Cert.Back.main_arg13)
      ∧ r.2.mem ((c.tc : Thread Cert.Back.nD Cert.Back.τ).loc Cert.Back.main_arg14) = m ((c.tc : Thread Cert.Back.nD Cert.Back.τ).loc Cert.Back.main_arg14)
      ∧ r.2.mem ((c.tc : Thread Cert.Back.nD Cert.Back.τ).loc Cert.Back.main_arg15) = m ((c.tc : Thread Cert.Back.nD Cert.Back.τ).loc Cert.Back.main_arg15)
      ∧ r.2.mem ((c.tc : Thread Cert.Back.nD Cert.Back.τ).loc Cert.Back.main_arg16) = m ((c.tc : Thread Cert.Back.nD Cert.Back.τ).loc Cert.Back.main_arg16))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
      ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
      ∧ r.2.mem ((c.tc : Thread Cert.BackIdeal.nD Cert.BackIdeal.τ).loc Cert.BackIdeal.main_arg12) = m ((c.tc : Thread Cert.BackIdeal.nD Cert.BackIdeal.τ).loc Cert.BackIdeal.main_arg12)
      ∧ r.2.mem ((c.tc : Thread Cert.BackIdeal.nD Cert.BackIdeal.τ).loc Cert.BackIdeal.main_arg13) = m ((c.tc : Thread Cert.BackIdeal.nD Cert.BackIdeal.τ).loc Cert.BackIdeal.main_arg13)
      ∧ r.2.mem ((c.tc : Thread Cert.BackIdeal.nD Cert.BackIdeal.τ).loc Cert.BackIdeal.main_arg14) = m ((c.tc : Thread Cert.BackIdeal.nD Cert.BackIdeal.τ).loc Cert.BackIdeal.main_arg14)
      ∧ r.2.mem ((c.tc : Thread Cert.BackIdeal.nD Cert.BackIdeal.τ).loc Cert.BackIdeal.main_arg15) = m ((c.tc : Thread Cert.BackIdeal.nD Cert.BackIdeal.τ).loc Cert.BackIdeal.main_arg15)
      ∧ r.2.mem ((c.tc : Thread Cert.BackIdeal.nD Cert.BackIdeal.τ).loc Cert.BackIdeal.main_arg16) = m ((c.tc : Thread Cert.BackIdeal.nD Cert.BackIdeal.τ).loc Cert.BackIdeal.main_arg16))
      ∧ r.2.sem = fun _ => 0)

def quiescent_BackIdeal_pre_back_tame [hBackIdeal : Cert.BackIdeal.Facts] [hPre_back_tame : Cert.Pre_back_tame.Facts] : Prop :=
  ∀ (m : (ℓ : Loc Cert.BackIdeal.nD Cert.BackIdeal.τ Cert.BackIdeal.sig) → Buf (Elt Ideal) ℓ) (g : Dev Cert.BackIdeal.nD → PrngReg), Pre_BackIdeal_back_tame m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
      ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
      ∧ r.2.mem ((c.tc : Thread Cert.BackIdeal.nD Cert.BackIdeal.τ).loc Cert.BackIdeal.main_arg12) = m ((c.tc : Thread Cert.BackIdeal.nD Cert.BackIdeal.τ).loc Cert.BackIdeal.main_arg12)
      ∧ r.2.mem ((c.tc : Thread Cert.BackIdeal.nD Cert.BackIdeal.τ).loc Cert.BackIdeal.main_arg13) = m ((c.tc : Thread Cert.BackIdeal.nD Cert.BackIdeal.τ).loc Cert.BackIdeal.main_arg13)
      ∧ r.2.mem ((c.tc : Thread Cert.BackIdeal.nD Cert.BackIdeal.τ).loc Cert.BackIdeal.main_arg14) = m ((c.tc : Thread Cert.BackIdeal.nD Cert.BackIdeal.τ).loc Cert.BackIdeal.main_arg14)
      ∧ r.2.mem ((c.tc : Thread Cert.BackIdeal.nD Cert.BackIdeal.τ).loc Cert.BackIdeal.main_arg15) = m ((c.tc : Thread Cert.BackIdeal.nD Cert.BackIdeal.τ).loc Cert.BackIdeal.main_arg15)
      ∧ r.2.mem ((c.tc : Thread Cert.BackIdeal.nD Cert.BackIdeal.τ).loc Cert.BackIdeal.main_arg16) = m ((c.tc : Thread Cert.BackIdeal.nD Cert.BackIdeal.τ).loc Cert.BackIdeal.main_arg16))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7)
      ∧ r.2.mem ((c.tc : Thread Cert.BackRefIdeal.nD Cert.BackRefIdeal.τ).loc Cert.BackRefIdeal.main_arg8) = m ((c.tc : Thread Cert.BackRefIdeal.nD Cert.BackRefIdeal.τ).loc Cert.BackRefIdeal.main_arg8)
      ∧ r.2.mem ((c.tc : Thread Cert.BackRefIdeal.nD Cert.BackRefIdeal.τ).loc Cert.BackRefIdeal.main_arg9) = m ((c.tc : Thread Cert.BackRefIdeal.nD Cert.BackRefIdeal.τ).loc Cert.BackRefIdeal.main_arg9)
      ∧ r.2.mem ((c.tc : Thread Cert.BackRefIdeal.nD Cert.BackRefIdeal.τ).loc Cert.BackRefIdeal.main_arg10) = m ((c.tc : Thread Cert.BackRefIdeal.nD Cert.BackRefIdeal.τ).loc Cert.BackRefIdeal.main_arg10)
      ∧ r.2.mem ((c.tc : Thread Cert.BackRefIdeal.nD Cert.BackRefIdeal.τ).loc Cert.BackRefIdeal.main_arg11) = m ((c.tc : Thread Cert.BackRefIdeal.nD Cert.BackRefIdeal.τ).loc Cert.BackRefIdeal.main_arg11)
      ∧ r.2.mem ((c.tc : Thread Cert.BackRefIdeal.nD Cert.BackRefIdeal.τ).loc Cert.BackRefIdeal.main_arg12) = m ((c.tc : Thread Cert.BackRefIdeal.nD Cert.BackRefIdeal.τ).loc Cert.BackRefIdeal.main_arg12)
      ∧ r.2.mem ((c.tc : Thread Cert.BackRefIdeal.nD Cert.BackRefIdeal.τ).loc Cert.BackRefIdeal.main_arg13) = m ((c.tc : Thread Cert.BackRefIdeal.nD Cert.BackRefIdeal.τ).loc Cert.BackRefIdeal.main_arg13)
      ∧ r.2.mem ((c.tc : Thread Cert.BackRefIdeal.nD Cert.BackRefIdeal.τ).loc Cert.BackRefIdeal.main_arg14) = m ((c.tc : Thread Cert.BackRefIdeal.nD Cert.BackRefIdeal.τ).loc Cert.BackRefIdeal.main_arg14)
      ∧ r.2.mem ((c.tc : Thread Cert.BackRefIdeal.nD Cert.BackRefIdeal.τ).loc Cert.BackRefIdeal.main_arg15) = m ((c.tc : Thread Cert.BackRefIdeal.nD Cert.BackRefIdeal.τ).loc Cert.BackRefIdeal.main_arg15)
      ∧ r.2.mem ((c.tc : Thread Cert.BackRefIdeal.nD Cert.BackRefIdeal.τ).loc Cert.BackRefIdeal.main_arg16) = m ((c.tc : Thread Cert.BackRefIdeal.nD Cert.BackRefIdeal.τ).loc Cert.BackRefIdeal.main_arg16))
      ∧ r.2.sem = fun _ => 0)

def quiescent_BackRefIdeal_pre_back_tame [hBackRefIdeal : Cert.BackRefIdeal.Facts] [hPre_back_tame : Cert.Pre_back_tame.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal_back_tame m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7)
      ∧ r.2.mem ((c.tc : Thread Cert.BackRefIdeal.nD Cert.BackRefIdeal.τ).loc Cert.BackRefIdeal.main_arg8) = m ((c.tc : Thread Cert.BackRefIdeal.nD Cert.BackRefIdeal.τ).loc Cert.BackRefIdeal.main_arg8)
      ∧ r.2.mem ((c.tc : Thread Cert.BackRefIdeal.nD Cert.BackRefIdeal.τ).loc Cert.BackRefIdeal.main_arg9) = m ((c.tc : Thread Cert.BackRefIdeal.nD Cert.BackRefIdeal.τ).loc Cert.BackRefIdeal.main_arg9)
      ∧ r.2.mem ((c.tc : Thread Cert.BackRefIdeal.nD Cert.BackRefIdeal.τ).loc Cert.BackRefIdeal.main_arg10) = m ((c.tc : Thread Cert.BackRefIdeal.nD Cert.BackRefIdeal.τ).loc Cert.BackRefIdeal.main_arg10)
      ∧ r.2.mem ((c.tc : Thread Cert.BackRefIdeal.nD Cert.BackRefIdeal.τ).loc Cert.BackRefIdeal.main_arg11) = m ((c.tc : Thread Cert.BackRefIdeal.nD Cert.BackRefIdeal.τ).loc Cert.BackRefIdeal.main_arg11)
      ∧ r.2.mem ((c.tc : Thread Cert.BackRefIdeal.nD Cert.BackRefIdeal.τ).loc Cert.BackRefIdeal.main_arg12) = m ((c.tc : Thread Cert.BackRefIdeal.nD Cert.BackRefIdeal.τ).loc Cert.BackRefIdeal.main_arg12)
      ∧ r.2.mem ((c.tc : Thread Cert.BackRefIdeal.nD Cert.BackRefIdeal.τ).loc Cert.BackRefIdeal.main_arg13) = m ((c.tc : Thread Cert.BackRefIdeal.nD Cert.BackRefIdeal.τ).loc Cert.BackRefIdeal.main_arg13)
      ∧ r.2.mem ((c.tc : Thread Cert.BackRefIdeal.nD Cert.BackRefIdeal.τ).loc Cert.BackRefIdeal.main_arg14) = m ((c.tc : Thread Cert.BackRefIdeal.nD Cert.BackRefIdeal.τ).loc Cert.BackRefIdeal.main_arg14)
      ∧ r.2.mem ((c.tc : Thread Cert.BackRefIdeal.nD Cert.BackRefIdeal.τ).loc Cert.BackRefIdeal.main_arg15) = m ((c.tc : Thread Cert.BackRefIdeal.nD Cert.BackRefIdeal.τ).loc Cert.BackRefIdeal.main_arg15)
      ∧ r.2.mem ((c.tc : Thread Cert.BackRefIdeal.nD Cert.BackRefIdeal.τ).loc Cert.BackRefIdeal.main_arg16) = m ((c.tc : Thread Cert.BackRefIdeal.nD Cert.BackRefIdeal.τ).loc Cert.BackRefIdeal.main_arg16))
      ∧ r.2.sem = fun _ => 0)

def preserves_Front_FrontIdeal : Prop :=
  True

def algebraic_FrontIdeal_FrontRefIdeal_pre_front_tame [hFrontIdeal : Cert.FrontIdeal.Facts] [hFrontRefIdeal : Cert.FrontRefIdeal.Facts] [hPre_front_tame : Cert.Pre_front_tame.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal_front_tame m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
      ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)
      ∧ m' ((c.tc : Thread Cert.FrontRefIdeal.nD Cert.FrontRefIdeal.τ).loc Cert.FrontRefIdeal.main_arg8) = m ((c.tc : Thread Cert.FrontIdeal.nD Cert.FrontIdeal.τ).loc Cert.FrontIdeal.main_arg8)
      ∧ m' ((c.tc : Thread Cert.FrontRefIdeal.nD Cert.FrontRefIdeal.τ).loc Cert.FrontRefIdeal.main_arg9) = m ((c.tc : Thread Cert.FrontIdeal.nD Cert.FrontIdeal.τ).loc Cert.FrontIdeal.main_arg9)
      ∧ m' ((c.tc : Thread Cert.FrontRefIdeal.nD Cert.FrontRefIdeal.τ).loc Cert.FrontRefIdeal.main_arg10) = m ((c.tc : Thread Cert.FrontIdeal.nD Cert.FrontIdeal.τ).loc Cert.FrontIdeal.main_arg10)
      ∧ m' ((c.tc : Thread Cert.FrontRefIdeal.nD Cert.FrontRefIdeal.τ).loc Cert.FrontRefIdeal.main_arg11) = m ((c.tc : Thread Cert.FrontIdeal.nD Cert.FrontIdeal.τ).loc Cert.FrontIdeal.main_arg11)
      ∧ m' ((c.tc : Thread Cert.FrontRefIdeal.nD Cert.FrontRefIdeal.τ).loc Cert.FrontRefIdeal.main_arg12) = m ((c.tc : Thread Cert.FrontIdeal.nD Cert.FrontIdeal.τ).loc Cert.FrontIdeal.main_arg12)
      ∧ m' ((c.tc : Thread Cert.FrontRefIdeal.nD Cert.FrontRefIdeal.τ).loc Cert.FrontRefIdeal.main_arg13) = m ((c.tc : Thread Cert.FrontIdeal.nD Cert.FrontIdeal.τ).loc Cert.FrontIdeal.main_arg13)
      ∧ m' ((c.tc : Thread Cert.FrontRefIdeal.nD Cert.FrontRefIdeal.τ).loc Cert.FrontRefIdeal.main_arg14) = m ((c.tc : Thread Cert.FrontIdeal.nD Cert.FrontIdeal.τ).loc Cert.FrontIdeal.main_arg14)
      ∧ m' ((c.tc : Thread Cert.FrontRefIdeal.nD Cert.FrontRefIdeal.τ).loc Cert.FrontRefIdeal.main_arg15) = m ((c.tc : Thread Cert.FrontIdeal.nD Cert.FrontIdeal.τ).loc Cert.FrontIdeal.main_arg15)) →
    ∃ (v0 : (c : Dev Cert.FrontIdeal.nD) → Buf (Elt Ideal) ((c.tc : Thread Cert.FrontIdeal.nD Cert.FrontIdeal.τ).loc Cert.FrontIdeal.main_v62)) (v1 : (c : Dev Cert.FrontIdeal.nD) → Buf (Elt Ideal) ((c.tc : Thread Cert.FrontIdeal.nD Cert.FrontIdeal.τ).loc Cert.FrontIdeal.main_v66)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v62) = v0 c
          ∧ r.2.mem ((c.tc : Thread Cert.FrontIdeal.nD Cert.FrontIdeal.τ).loc Cert.FrontIdeal.main_v66) = v1 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
          ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
          ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
          ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
          ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13)
          ∧ r.2.mem ((c.tc : Thread Cert.FrontIdeal.nD Cert.FrontIdeal.τ).loc Cert.FrontIdeal.main_arg14) = m ((c.tc : Thread Cert.FrontIdeal.nD Cert.FrontIdeal.τ).loc Cert.FrontIdeal.main_arg14)
          ∧ r.2.mem ((c.tc : Thread Cert.FrontIdeal.nD Cert.FrontIdeal.τ).loc Cert.FrontIdeal.main_arg15) = m ((c.tc : Thread Cert.FrontIdeal.nD Cert.FrontIdeal.τ).loc Cert.FrontIdeal.main_arg15))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v28) = v0 c
          ∧ r.2.mem ((c.tc : Thread Cert.FrontRefIdeal.nD Cert.FrontRefIdeal.τ).loc Cert.FrontRefIdeal.main_v47) = v1 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6)
          ∧ r.2.mem ((c.tc : Thread Cert.FrontRefIdeal.nD Cert.FrontRefIdeal.τ).loc Cert.FrontRefIdeal.main_arg7) = m' ((c.tc : Thread Cert.FrontRefIdeal.nD Cert.FrontRefIdeal.τ).loc Cert.FrontRefIdeal.main_arg7)
          ∧ r.2.mem ((c.tc : Thread Cert.FrontRefIdeal.nD Cert.FrontRefIdeal.τ).loc Cert.FrontRefIdeal.main_arg8) = m' ((c.tc : Thread Cert.FrontRefIdeal.nD Cert.FrontRefIdeal.τ).loc Cert.FrontRefIdeal.main_arg8)
          ∧ r.2.mem ((c.tc : Thread Cert.FrontRefIdeal.nD Cert.FrontRefIdeal.τ).loc Cert.FrontRefIdeal.main_arg9) = m' ((c.tc : Thread Cert.FrontRefIdeal.nD Cert.FrontRefIdeal.τ).loc Cert.FrontRefIdeal.main_arg9)
          ∧ r.2.mem ((c.tc : Thread Cert.FrontRefIdeal.nD Cert.FrontRefIdeal.τ).loc Cert.FrontRefIdeal.main_arg10) = m' ((c.tc : Thread Cert.FrontRefIdeal.nD Cert.FrontRefIdeal.τ).loc Cert.FrontRefIdeal.main_arg10)
          ∧ r.2.mem ((c.tc : Thread Cert.FrontRefIdeal.nD Cert.FrontRefIdeal.τ).loc Cert.FrontRefIdeal.main_arg11) = m' ((c.tc : Thread Cert.FrontRefIdeal.nD Cert.FrontRefIdeal.τ).loc Cert.FrontRefIdeal.main_arg11)
          ∧ r.2.mem ((c.tc : Thread Cert.FrontRefIdeal.nD Cert.FrontRefIdeal.τ).loc Cert.FrontRefIdeal.main_arg12) = m' ((c.tc : Thread Cert.FrontRefIdeal.nD Cert.FrontRefIdeal.τ).loc Cert.FrontRefIdeal.main_arg12)
          ∧ r.2.mem ((c.tc : Thread Cert.FrontRefIdeal.nD Cert.FrontRefIdeal.τ).loc Cert.FrontRefIdeal.main_arg13) = m' ((c.tc : Thread Cert.FrontRefIdeal.nD Cert.FrontRefIdeal.τ).loc Cert.FrontRefIdeal.main_arg13)
          ∧ r.2.mem ((c.tc : Thread Cert.FrontRefIdeal.nD Cert.FrontRefIdeal.τ).loc Cert.FrontRefIdeal.main_arg14) = m' ((c.tc : Thread Cert.FrontRefIdeal.nD Cert.FrontRefIdeal.τ).loc Cert.FrontRefIdeal.main_arg14)
          ∧ r.2.mem ((c.tc : Thread Cert.FrontRefIdeal.nD Cert.FrontRefIdeal.τ).loc Cert.FrontRefIdeal.main_arg15) = m' ((c.tc : Thread Cert.FrontRefIdeal.nD Cert.FrontRefIdeal.τ).loc Cert.FrontRefIdeal.main_arg15))

def preserves_Back_BackIdeal : Prop :=
  True

def algebraic_BackIdeal_BackRefIdeal_pre_back_tame [hBackIdeal : Cert.BackIdeal.Facts] [hBackRefIdeal : Cert.BackRefIdeal.Facts] [hPre_back_tame : Cert.Pre_back_tame.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal_back_tame m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
      ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)
      ∧ m' ((c.tc : Thread Cert.BackRefIdeal.nD Cert.BackRefIdeal.τ).loc Cert.BackRefIdeal.main_arg8) = m ((c.tc : Thread Cert.BackIdeal.nD Cert.BackIdeal.τ).loc Cert.BackIdeal.main_arg8)
      ∧ m' ((c.tc : Thread Cert.BackRefIdeal.nD Cert.BackRefIdeal.τ).loc Cert.BackRefIdeal.main_arg9) = m ((c.tc : Thread Cert.BackIdeal.nD Cert.BackIdeal.τ).loc Cert.BackIdeal.main_arg9)
      ∧ m' ((c.tc : Thread Cert.BackRefIdeal.nD Cert.BackRefIdeal.τ).loc Cert.BackRefIdeal.main_arg10) = m ((c.tc : Thread Cert.BackIdeal.nD Cert.BackIdeal.τ).loc Cert.BackIdeal.main_arg10)
      ∧ m' ((c.tc : Thread Cert.BackRefIdeal.nD Cert.BackRefIdeal.τ).loc Cert.BackRefIdeal.main_arg11) = m ((c.tc : Thread Cert.BackIdeal.nD Cert.BackIdeal.τ).loc Cert.BackIdeal.main_arg11)
      ∧ m' ((c.tc : Thread Cert.BackRefIdeal.nD Cert.BackRefIdeal.τ).loc Cert.BackRefIdeal.main_arg12) = m ((c.tc : Thread Cert.BackIdeal.nD Cert.BackIdeal.τ).loc Cert.BackIdeal.main_arg12)
      ∧ m' ((c.tc : Thread Cert.BackRefIdeal.nD Cert.BackRefIdeal.τ).loc Cert.BackRefIdeal.main_arg13) = m ((c.tc : Thread Cert.BackIdeal.nD Cert.BackIdeal.τ).loc Cert.BackIdeal.main_arg13)
      ∧ m' ((c.tc : Thread Cert.BackRefIdeal.nD Cert.BackRefIdeal.τ).loc Cert.BackRefIdeal.main_arg14) = m ((c.tc : Thread Cert.BackIdeal.nD Cert.BackIdeal.τ).loc Cert.BackIdeal.main_arg14)
      ∧ m' ((c.tc : Thread Cert.BackRefIdeal.nD Cert.BackRefIdeal.τ).loc Cert.BackRefIdeal.main_arg15) = m ((c.tc : Thread Cert.BackIdeal.nD Cert.BackIdeal.τ).loc Cert.BackIdeal.main_arg15)
      ∧ m' ((c.tc : Thread Cert.BackRefIdeal.nD Cert.BackRefIdeal.τ).loc Cert.BackRefIdeal.main_arg16) = m ((c.tc : Thread Cert.BackIdeal.nD Cert.BackIdeal.τ).loc Cert.BackIdeal.main_arg16)) →
    ∃ (v0 : (c : Dev Cert.BackIdeal.nD) → Buf (Elt Ideal) ((c.tc : Thread Cert.BackIdeal.nD Cert.BackIdeal.τ).loc Cert.BackIdeal.main_v49)) (v1 : (c : Dev Cert.BackIdeal.nD) → Buf (Elt Ideal) ((c.tc : Thread Cert.BackIdeal.nD Cert.BackIdeal.τ).loc Cert.BackIdeal.main_v53)) (v2 : (c : Dev Cert.BackIdeal.nD) → Buf (Elt Ideal) ((c.tc : Thread Cert.BackIdeal.nD Cert.BackIdeal.τ).loc Cert.BackIdeal.main_v47)) (v3 : (c : Dev Cert.BackIdeal.nD) → Buf (Elt Ideal) ((c.tc : Thread Cert.BackIdeal.nD Cert.BackIdeal.τ).loc Cert.BackIdeal.main_v57)) (v4 : (c : Dev Cert.BackIdeal.nD) → Buf (Elt Ideal) ((c.tc : Thread Cert.BackIdeal.nD Cert.BackIdeal.τ).loc Cert.BackIdeal.main_v61)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v49) = v0 c
          ∧ r.2.mem ((c.tc : Thread Cert.BackIdeal.nD Cert.BackIdeal.τ).loc Cert.BackIdeal.main_v53) = v1 c
          ∧ r.2.mem ((c.tc : Thread Cert.BackIdeal.nD Cert.BackIdeal.τ).loc Cert.BackIdeal.main_v47) = v2 c
          ∧ r.2.mem ((c.tc : Thread Cert.BackIdeal.nD Cert.BackIdeal.τ).loc Cert.BackIdeal.main_v57) = v3 c
          ∧ r.2.mem ((c.tc : Thread Cert.BackIdeal.nD Cert.BackIdeal.τ).loc Cert.BackIdeal.main_v61) = v4 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
          ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
          ∧ r.2.mem ((c.tc : Thread Cert.BackIdeal.nD Cert.BackIdeal.τ).loc Cert.BackIdeal.main_arg12) = m ((c.tc : Thread Cert.BackIdeal.nD Cert.BackIdeal.τ).loc Cert.BackIdeal.main_arg12)
          ∧ r.2.mem ((c.tc : Thread Cert.BackIdeal.nD Cert.BackIdeal.τ).loc Cert.BackIdeal.main_arg13) = m ((c.tc : Thread Cert.BackIdeal.nD Cert.BackIdeal.τ).loc Cert.BackIdeal.main_arg13)
          ∧ r.2.mem ((c.tc : Thread Cert.BackIdeal.nD Cert.BackIdeal.τ).loc Cert.BackIdeal.main_arg14) = m ((c.tc : Thread Cert.BackIdeal.nD Cert.BackIdeal.τ).loc Cert.BackIdeal.main_arg14)
          ∧ r.2.mem ((c.tc : Thread Cert.BackIdeal.nD Cert.BackIdeal.τ).loc Cert.BackIdeal.main_arg15) = m ((c.tc : Thread Cert.BackIdeal.nD Cert.BackIdeal.τ).loc Cert.BackIdeal.main_arg15)
          ∧ r.2.mem ((c.tc : Thread Cert.BackIdeal.nD Cert.BackIdeal.τ).loc Cert.BackIdeal.main_arg16) = m ((c.tc : Thread Cert.BackIdeal.nD Cert.BackIdeal.τ).loc Cert.BackIdeal.main_arg16))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v130) = v0 c
          ∧ r.2.mem ((c.tc : Thread Cert.BackRefIdeal.nD Cert.BackRefIdeal.τ).loc Cert.BackRefIdeal.main_v38) = v1 c
          ∧ r.2.mem ((c.tc : Thread Cert.BackRefIdeal.nD Cert.BackRefIdeal.τ).loc Cert.BackRefIdeal.main_v31) = v2 c
          ∧ r.2.mem ((c.tc : Thread Cert.BackRefIdeal.nD Cert.BackRefIdeal.τ).loc Cert.BackRefIdeal.main_v80) = v3 c
          ∧ r.2.mem ((c.tc : Thread Cert.BackRefIdeal.nD Cert.BackRefIdeal.τ).loc Cert.BackRefIdeal.main_v111) = v4 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4)
          ∧ r.2.mem ((c.tc : Thread Cert.BackRefIdeal.nD Cert.BackRefIdeal.τ).loc Cert.BackRefIdeal.main_arg5) = m' ((c.tc : Thread Cert.BackRefIdeal.nD Cert.BackRefIdeal.τ).loc Cert.BackRefIdeal.main_arg5)
          ∧ r.2.mem ((c.tc : Thread Cert.BackRefIdeal.nD Cert.BackRefIdeal.τ).loc Cert.BackRefIdeal.main_arg6) = m' ((c.tc : Thread Cert.BackRefIdeal.nD Cert.BackRefIdeal.τ).loc Cert.BackRefIdeal.main_arg6)
          ∧ r.2.mem ((c.tc : Thread Cert.BackRefIdeal.nD Cert.BackRefIdeal.τ).loc Cert.BackRefIdeal.main_arg7) = m' ((c.tc : Thread Cert.BackRefIdeal.nD Cert.BackRefIdeal.τ).loc Cert.BackRefIdeal.main_arg7)
          ∧ r.2.mem ((c.tc : Thread Cert.BackRefIdeal.nD Cert.BackRefIdeal.τ).loc Cert.BackRefIdeal.main_arg8) = m' ((c.tc : Thread Cert.BackRefIdeal.nD Cert.BackRefIdeal.τ).loc Cert.BackRefIdeal.main_arg8)
          ∧ r.2.mem ((c.tc : Thread Cert.BackRefIdeal.nD Cert.BackRefIdeal.τ).loc Cert.BackRefIdeal.main_arg9) = m' ((c.tc : Thread Cert.BackRefIdeal.nD Cert.BackRefIdeal.τ).loc Cert.BackRefIdeal.main_arg9)
          ∧ r.2.mem ((c.tc : Thread Cert.BackRefIdeal.nD Cert.BackRefIdeal.τ).loc Cert.BackRefIdeal.main_arg10) = m' ((c.tc : Thread Cert.BackRefIdeal.nD Cert.BackRefIdeal.τ).loc Cert.BackRefIdeal.main_arg10)
          ∧ r.2.mem ((c.tc : Thread Cert.BackRefIdeal.nD Cert.BackRefIdeal.τ).loc Cert.BackRefIdeal.main_arg11) = m' ((c.tc : Thread Cert.BackRefIdeal.nD Cert.BackRefIdeal.τ).loc Cert.BackRefIdeal.main_arg11)
          ∧ r.2.mem ((c.tc : Thread Cert.BackRefIdeal.nD Cert.BackRefIdeal.τ).loc Cert.BackRefIdeal.main_arg12) = m' ((c.tc : Thread Cert.BackRefIdeal.nD Cert.BackRefIdeal.τ).loc Cert.BackRefIdeal.main_arg12)
          ∧ r.2.mem ((c.tc : Thread Cert.BackRefIdeal.nD Cert.BackRefIdeal.τ).loc Cert.BackRefIdeal.main_arg13) = m' ((c.tc : Thread Cert.BackRefIdeal.nD Cert.BackRefIdeal.τ).loc Cert.BackRefIdeal.main_arg13)
          ∧ r.2.mem ((c.tc : Thread Cert.BackRefIdeal.nD Cert.BackRefIdeal.τ).loc Cert.BackRefIdeal.main_arg14) = m' ((c.tc : Thread Cert.BackRefIdeal.nD Cert.BackRefIdeal.τ).loc Cert.BackRefIdeal.main_arg14)
          ∧ r.2.mem ((c.tc : Thread Cert.BackRefIdeal.nD Cert.BackRefIdeal.τ).loc Cert.BackRefIdeal.main_arg15) = m' ((c.tc : Thread Cert.BackRefIdeal.nD Cert.BackRefIdeal.τ).loc Cert.BackRefIdeal.main_arg15)
          ∧ r.2.mem ((c.tc : Thread Cert.BackRefIdeal.nD Cert.BackRefIdeal.τ).loc Cert.BackRefIdeal.main_arg16) = m' ((c.tc : Thread Cert.BackRefIdeal.nD Cert.BackRefIdeal.τ).loc Cert.BackRefIdeal.main_arg16))

def Claim : Prop :=
  ∃ (hFront : Cert.Front.Facts) (hFrontIdeal : Cert.FrontIdeal.Facts) (hFrontRefIdeal : Cert.FrontRefIdeal.Facts) (hBack : Cert.Back.Facts) (hBackIdeal : Cert.BackIdeal.Facts) (hBackRefIdeal : Cert.BackRefIdeal.Facts) (hPre_front_tame : Cert.Pre_front_tame.Facts) (hPre_back_tame : Cert.Pre_back_tame.Facts),
    quiescent_Front (hFront := hFront)
    ∧ quiescent_FrontIdeal (hFrontIdeal := hFrontIdeal)
    ∧ quiescent_FrontIdeal_pre_front_tame (hFrontIdeal := hFrontIdeal) (hPre_front_tame := hPre_front_tame)
    ∧ quiescent_FrontRefIdeal (hFrontRefIdeal := hFrontRefIdeal)
    ∧ quiescent_FrontRefIdeal_pre_front_tame (hFrontRefIdeal := hFrontRefIdeal) (hPre_front_tame := hPre_front_tame)
    ∧ quiescent_Back (hBack := hBack)
    ∧ quiescent_BackIdeal (hBackIdeal := hBackIdeal)
    ∧ quiescent_BackIdeal_pre_back_tame (hBackIdeal := hBackIdeal) (hPre_back_tame := hPre_back_tame)
    ∧ quiescent_BackRefIdeal (hBackRefIdeal := hBackRefIdeal)
    ∧ quiescent_BackRefIdeal_pre_back_tame (hBackRefIdeal := hBackRefIdeal) (hPre_back_tame := hPre_back_tame)
    ∧ preserves_Front_FrontIdeal
    ∧ algebraic_FrontIdeal_FrontRefIdeal_pre_front_tame (hFrontIdeal := hFrontIdeal) (hFrontRefIdeal := hFrontRefIdeal) (hPre_front_tame := hPre_front_tame)
    ∧ preserves_Back_BackIdeal
    ∧ algebraic_BackIdeal_BackRefIdeal_pre_back_tame (hBackIdeal := hBackIdeal) (hBackRefIdeal := hBackRefIdeal) (hPre_back_tame := hPre_back_tame)
-- ==== Pre_back_tame.lean ====
abbrev S24x28x36x256 : Shape := ⟨4, ![24, 28, 36, 256]⟩
abbrev S28x36x3x8x512 : Shape := ⟨5, ![28, 36, 3, 8, 512]⟩
abbrev S512 : Shape := ⟨1, ![512]⟩
abbrev S512x256 : Shape := ⟨2, ![512, 256]⟩
abbrev S256 : Shape := ⟨1, ![256]⟩
abbrev S_ : Shape := ⟨0, ![]⟩
abbrev S256x1024 : Shape := ⟨2, ![256, 1024]⟩
abbrev S1024 : Shape := ⟨1, ![1024]⟩
abbrev S1024x256 : Shape := ⟨2, ![1024, 256]⟩

class Facts : Prop where
  bcast_S_S1024 : S_.BroadcastsInDim S1024 (![] : Fin 0 → Fin S1024.rank)

variable [Facts]

def fn {F : FTy → Type} [FloatOps F] (main_arg0 : FVec F S24x28x36x256 .bf16) (main_arg1 : FVec F S28x36x3x8x512 .f32) (main_arg2 : FVec F S512 .f32) (main_arg3 : FVec F S512 .f32) (main_arg4 : IVec S512x256 8) (main_arg5 : FVec F S256 .f32) (main_arg6 : FVec F S256 .f32) (main_arg7 : FVec F S256 .f32) (main_arg8 : FVec F S_ .f32) (main_arg9 : IVec S256x1024 8) (main_arg10 : FVec F S1024 .f32) (main_arg11 : FVec F S1024 .f32) (main_arg12 : FVec F S_ .f32) (main_arg13 : IVec S_ 32) (main_arg14 : IVec S1024x256 8) (main_arg15 : FVec F S256 .f32) (main_arg16 : FVec F S256 .f32) : IVec S1024 1 :=
  let main_v0 : FVec F S_ .f32 := Host.absf main_arg8
  let main_cst : FVec F S_ .f32 := constant S_ .f32 0x7F800000#32
  let main_v1 : IVec S_ 1 := cmpf .olt main_v0 main_cst
  let main_cst_0 : FVec F S_ .f32 := constant S_ .f32 0x00000000#32
  let main_v2 : IVec S_ 1 := cmpf .une main_arg8 main_cst_0
  let main_v3 : IVec S_ 1 := andi main_v1 main_v2
  let main_cst_1 : FVec F S_ .f32 := constant S_ .f32 0x00000000#32
  let main_v4 : IVec S_ 1 := cmpf .une main_arg12 main_cst_1
  let main_v5 : IVec S_ 1 := andi main_v3 main_v4
  let main_c : IVec S_ 32 := constantI S_ 32 2147483904#32
  let main_v6 : IVec S_ 1 := cmpi .sge main_arg13 main_c
  let main_v7 : IVec S_ 1 := andi main_v5 main_v6
  let main_v8 : FVec F S1024 .f32 := Host.absf main_arg10
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_v11 : FVec F S1024 .f32 := Host.absf main_arg11
  let main_cst_3 : FVec F S_ .f32 := constant S_ .f32 0x7F800000#32
  let main_v12 : FVec F S1024 .f32 := broadcastInDim S1024 ![] bcast_S_S1024 main_cst_3
  let main_v13 : IVec S1024 1 := cmpf .olt main_v11 main_v12
  let main_v14 : IVec S1024 1 := andi main_v10 main_v13
  let main_v15 : IVec S1024 1 := broadcastInDim S1024 ![] bcast_S_S1024 main_v7
  let main_v16 : IVec S1024 1 := andi main_v14 main_v15
  main_v16
-- ==== Pre_front_tame.lean ====
abbrev S24x28x36x256 : Shape := ⟨4, ![24, 28, 36, 256]⟩
abbrev S256 : Shape := ⟨1, ![256]⟩
abbrev S_ : Shape := ⟨0, ![]⟩
abbrev S256x512 : Shape := ⟨2, ![256, 512]⟩
abbrev S512 : Shape := ⟨1, ![512]⟩
abbrev S3x3x512 : Shape := ⟨3, ![3, 3, 512]⟩
abbrev S4x512x18 : Shape := ⟨3, ![4, 512, 18]⟩
abbrev S4x18 : Shape := ⟨2, ![4, 18]⟩
abbrev S4 : Shape := ⟨1, ![4]⟩

class Facts : Prop where
  bcast_S_S512 : S_.BroadcastsInDim S512 (![] : Fin 0 → Fin S512.rank)

variable [Facts]

def fn {F : FTy → Type} [FloatOps F] (main_arg0 : FVec F S24x28x36x256 .bf16) (main_arg1 : FVec F S256 .f32) (main_arg2 : FVec F S256 .f32) (main_arg3 : FVec F S_ .f32) (main_arg4 : IVec S256x512 8) (main_arg5 : FVec F S512 .f32) (main_arg6 : FVec F S512 .f32) (main_arg7 : IVec S3x3x512 8) (main_arg8 : FVec F S512 .f32) (main_arg9 : FVec F S512 .f32) (main_arg10 : FVec F S512 .f32) (main_arg11 : IVec S4x512x18 8) (main_arg12 : FVec F S4x18 .f32) (main_arg13 : FVec F S4 .f32) (main_arg14 : FVec F S4 .f32) (main_arg15 : FVec F S4 .f32) : IVec S512 1 :=
  let main_cst : FVec F S_ .f32 := constant S_ .f32 0x00000000#32
  let main_v0 : FVec F S512 .f32 := broadcastInDim S512 ![] bcast_S_S512 main_cst
  let main_v1 : IVec S512 1 := cmpf .une main_arg6 main_v0
  let main_cst_0 : FVec F S_ .f32 := constant S_ .f32 0x00000000#32
  let main_v2 : IVec S_ 1 := cmpf .une main_arg3 main_cst_0
  let main_v3 : IVec S512 1 := broadcastInDim S512 ![] bcast_S_S512 main_v2
  let main_v4 : IVec S512 1 := andi main_v1 main_v3
  main_v4
-- ==== Front.lean ====
abbrev S24x28x36x256 : Shape := ⟨4, ![24, 28, 36, 256]⟩
abbrev S256 : Shape := ⟨1, ![256]⟩
abbrev S_ : Shape := ⟨0, ![]⟩
abbrev S256x512 : Shape := ⟨2, ![256, 512]⟩
abbrev S512 : Shape := ⟨1, ![512]⟩
abbrev S3x3x512 : Shape := ⟨3, ![3, 3, 512]⟩
abbrev S4x512x18 : Shape := ⟨3, ![4, 512, 18]⟩
abbrev S4x18 : Shape := ⟨2, ![4, 18]⟩
abbrev S4 : Shape := ⟨1, ![4]⟩
abbrev S28x36x24x256 : Shape := ⟨4, ![28, 36, 24, 256]⟩
abbrev S3024x8x256 : Shape := ⟨3, ![3024, 8, 256]⟩
abbrev S1x256 : Shape := ⟨2, ![1, 256]⟩
abbrev S2x256 : Shape := ⟨2, ![2, 256]⟩
abbrev S8x256 : Shape := ⟨2, ![8, 256]⟩
abbrev S1x512 : Shape := ⟨2, ![1, 512]⟩
abbrev S5x512 : Shape := ⟨2, ![5, 512]⟩
abbrev S8x512 : Shape := ⟨2, ![8, 512]⟩
abbrev S9x512 : Shape := ⟨2, ![9, 512]⟩
abbrev S16x512 : Shape := ⟨2, ![16, 512]⟩
abbrev S512x4x18 : Shape := ⟨3, ![512, 4, 18]⟩
abbrev S512x4x16 : Shape := ⟨3, ![512, 4, 16]⟩
abbrev S512x64 : Shape := ⟨2, ![512, 64]⟩
abbrev S512x4x1 : Shape := ⟨3, ![512, 4, 1]⟩
abbrev S512x4 : Shape := ⟨2, ![512, 4]⟩
abbrev S512x72 : Shape := ⟨2, ![512, 72]⟩
abbrev S512x128 : Shape := ⟨2, ![512, 128]⟩
abbrev S4x16 : Shape := ⟨2, ![4, 16]⟩
abbrev S64 : Shape := ⟨1, ![64]⟩
abbrev S72 : Shape := ⟨1, ![72]⟩
abbrev S4x1 : Shape := ⟨2, ![4, 1]⟩
abbrev S128 : Shape := ⟨1, ![128]⟩
abbrev S1x128 : Shape := ⟨2, ![1, 128]⟩
abbrev S8x128 : Shape := ⟨2, ![8, 128]⟩
abbrev S1 : Shape := ⟨1, ![1]⟩
abbrev S48384x128 : Shape := ⟨2, ![48384, 128]⟩
abbrev S96768x128 : Shape := ⟨2, ![96768, 128]⟩
abbrev S3024x8x128 : Shape := ⟨3, ![3024, 8, 128]⟩
abbrev S108x8x256 : Shape := ⟨3, ![108, 8, 256]⟩
abbrev S1728x128 : Shape := ⟨2, ![1728, 128]⟩
abbrev S3456x128 : Shape := ⟨2, ![3456, 128]⟩
abbrev S108x8x128 : Shape := ⟨3, ![108, 8, 128]⟩
abbrev S3x114x8x512 : Shape := ⟨4, ![3, 114, 8, 512]⟩
abbrev S864x256 : Shape := ⟨2, ![864, 256]⟩
abbrev S864 : Shape := ⟨1, ![864]⟩
abbrev S864x1 : Shape := ⟨2, ![864, 1]⟩
abbrev S108x16x128 : Shape := ⟨3, ![108, 16, 128]⟩
abbrev S864x512 : Shape := ⟨2, ![864, 512]⟩
abbrev S108x8x512 : Shape := ⟨3, ![108, 8, 512]⟩
abbrev S108x32x128 : Shape := ⟨3, ![108, 32, 128]⟩
abbrev S1x108x8x512 : Shape := ⟨4, ![1, 108, 8, 512]⟩
abbrev S114x8x512 : Shape := ⟨3, ![114, 8, 512]⟩
abbrev S1x114x8x512 : Shape := ⟨4, ![1, 114, 8, 512]⟩
abbrev S1x1x512 : Shape := ⟨3, ![1, 1, 512]⟩
abbrev S864x128 : Shape := ⟨2, ![864, 128]⟩
abbrev S3024x2x8x128 : Shape := ⟨4, ![3024, 2, 8, 128]⟩
abbrev S3024x8x2x128 : Shape := ⟨4, ![3024, 8, 2, 128]⟩
abbrev S3024x4x8x128 : Shape := ⟨4, ![3024, 4, 8, 128]⟩
abbrev S3024x8x4x128 : Shape := ⟨4, ![3024, 8, 4, 128]⟩
abbrev S28x36x24x512 : Shape := ⟨4, ![28, 36, 24, 512]⟩
abbrev S24x28x36x512 : Shape := ⟨4, ![24, 28, 36, 512]⟩

abbrev nBuf : Space → Nat
  | .hbm => 102
  | .vmem => 17
  | .smem => 1
  | _ => 0

abbrev bufTy : (tb : Table) → Fin (tcTables nBuf tb) → BufTy
  | .hbm, ⟨0, _⟩ => ⟨S24x28x36x256, .bf16⟩
  | .hbm, ⟨1, _⟩ => ⟨S256, .f32⟩
  | .hbm, ⟨2, _⟩ => ⟨S256, .f32⟩
  | .hbm, ⟨3, _⟩ => ⟨S_, .f32⟩
  | .hbm, ⟨4, _⟩ => ⟨S256x512, .i8⟩
  | .hbm, ⟨5, _⟩ => ⟨S512, .f32⟩
  | .hbm, ⟨6, _⟩ => ⟨S512, .f32⟩
  | .hbm, ⟨7, _⟩ => ⟨S3x3x512, .i8⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S4x512x18, .i8⟩
  | .hbm, ⟨12, _⟩ => ⟨S4x18, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S28x36x24x256, .bf16⟩
  | .hbm, ⟨17, _⟩ => ⟨S3024x8x256, .bf16⟩
  | .hbm, ⟨18, _⟩ => ⟨S1x256, .f32⟩
  | .hbm, ⟨19, _⟩ => ⟨S1x256, .f32⟩
  | .hbm, ⟨20, _⟩ => ⟨S2x256, .f32⟩
  | .hbm, ⟨21, _⟩ => ⟨S_, .i32⟩
  | .hbm, ⟨22, _⟩ => ⟨S_, .f32⟩
  | .hbm, ⟨23, _⟩ => ⟨S8x256, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S5x512, .f32⟩
  | .hbm, ⟨43, _⟩ => ⟨S_, .i32⟩
  | .hbm, ⟨44, _⟩ => ⟨S_, .f32⟩
  | .hbm, ⟨45, _⟩ => ⟨S8x512, .f32⟩
  | .hbm, ⟨46, _⟩ => ⟨S9x512, .i8⟩
  | .hbm, ⟨47, _⟩ => ⟨S9x512, .i32⟩
  | .hbm, ⟨48, _⟩ => ⟨S9x512, .f32⟩
  | .hbm, ⟨49, _⟩ => ⟨S_, .i32⟩
  | .hbm, ⟨50, _⟩ => ⟨S_, .f32⟩
  | .hbm, ⟨51, _⟩ => ⟨S16x512, .f32⟩
  | .hbm, ⟨52, _⟩ => ⟨S512x4x18, .i8⟩
  | .hbm, ⟨53, _⟩ => ⟨S512x4x16, .i8⟩
  | .hbm, ⟨54, _⟩ => ⟨S512x64, .i8⟩
  | .hbm, ⟨55, _⟩ => ⟨S512x4x1, .i8⟩
  | .hbm, ⟨56, _⟩ => ⟨S512x4, .i8⟩
  | .hbm, ⟨57, _⟩ => ⟨S512x4x1, .i8⟩
  | .hbm, ⟨58, _⟩ => ⟨S512x4, .i8⟩
  | .hbm, ⟨59, _⟩ => ⟨S512x72, .i8⟩
  | .hbm, ⟨60, _⟩ => ⟨S_, .i32⟩
  | .hbm, ⟨61, _⟩ => ⟨S_, .i8⟩
  | .hbm, ⟨62, _⟩ => ⟨S512x128, .i8⟩
  | .hbm, ⟨63, _⟩ => ⟨S512x128, .i32⟩
  | .hbm, ⟨64, _⟩ => ⟨S512x128, .f32⟩
  | .hbm, ⟨65, _⟩ => ⟨S512x128, .bf16⟩
  | .hbm, ⟨66, _⟩ => ⟨S4x16, .f32⟩
  | .hbm, ⟨67, _⟩ => ⟨S64, .f32⟩
  | .hbm, ⟨68, _⟩ => ⟨S72, .f32⟩
  | .hbm, ⟨69, _⟩ => ⟨S4x16, .f32⟩
  | .hbm, ⟨70, _⟩ => ⟨S64, .f32⟩
  | .hbm, ⟨71, _⟩ => ⟨S4x1, .f32⟩
  | .hbm, ⟨72, _⟩ => ⟨S4, .f32⟩
  | .hbm, ⟨73, _⟩ => ⟨S4x1, .f32⟩
  | .hbm, ⟨74, _⟩ => ⟨S4, .f32⟩
  | .hbm, ⟨75, _⟩ => ⟨S72, .f32⟩
  | .hbm, ⟨76, _⟩ => ⟨S72, .f32⟩
  | .hbm, ⟨77, _⟩ => ⟨S_, .i32⟩
  | .hbm, ⟨78, _⟩ => ⟨S_, .f32⟩
  | .hbm, ⟨79, _⟩ => ⟨S128, .f32⟩
  | .hbm, ⟨80, _⟩ => ⟨S1x128, .f32⟩
  | .hbm, ⟨81, _⟩ => ⟨S_, .i32⟩
  | .hbm, ⟨82, _⟩ => ⟨S_, .f32⟩
  | .hbm, ⟨83, _⟩ => ⟨S8x128, .f32⟩
  | .hbm, ⟨84, _⟩ => ⟨S_, .f32⟩
  | .hbm, ⟨85, _⟩ => ⟨S_, .f32⟩
  | .hbm, ⟨86, _⟩ => ⟨S1, .f32⟩
  | .hbm, ⟨87, _⟩ => ⟨S256x512, .i32⟩
  | .hbm, ⟨88, _⟩ => ⟨S256x512, .f32⟩
  | .hbm, ⟨89, _⟩ => ⟨S256x512, .bf16⟩
  | .hbm, ⟨90, _⟩ => ⟨S48384x128, .i8⟩
  | .hbm, ⟨91, _⟩ => ⟨S96768x128, .i8⟩
  | .hbm, ⟨92, _⟩ => ⟨S96768x128, .i8⟩
  | .hbm, ⟨93, _⟩ => ⟨S3024x8x128, .bf16⟩
  | .hbm, ⟨94, _⟩ => ⟨S3024x2x8x128, .i8⟩
  | .hbm, ⟨95, _⟩ => ⟨S3024x8x2x128, .i8⟩
  | .hbm, ⟨96, _⟩ => ⟨S28x36x24x256, .i8⟩
  | .hbm, ⟨97, _⟩ => ⟨S24x28x36x256, .i8⟩
  | .hbm, ⟨98, _⟩ => ⟨S3024x4x8x128, .i8⟩
  | .hbm, ⟨99, _⟩ => ⟨S3024x8x4x128, .i8⟩
  | .hbm, ⟨100, _⟩ => ⟨S28x36x24x512, .i8⟩
  | .hbm, ⟨101, _⟩ => ⟨S24x28x36x512, .i8⟩
  | .local _ .vmem, ⟨0, _⟩ => ⟨S108x8x256, .bf16⟩
  | .local _ .vmem, ⟨1, _⟩ => ⟨S108x8x256, .bf16⟩
  | .local _ .vmem, ⟨2, _⟩ => ⟨S8x256, .f32⟩
  | .local _ .vmem, ⟨3, _⟩ => ⟨S256x512, .bf16⟩
  | .local _ .vmem, ⟨4, _⟩ => ⟨S8x512, .f32⟩
  | .local _ .vmem, ⟨5, _⟩ => ⟨S16x512, .f32⟩
  | .local _ .vmem, ⟨6, _⟩ => ⟨S512x128, .bf16⟩
  | .local _ .vmem, ⟨7, _⟩ => ⟨S8x128, .f32⟩
  | .local _ .vmem, ⟨8, _⟩ => ⟨S1728x128, .i8⟩
  | .local _ .vmem, ⟨9, _⟩ => ⟨S1728x128, .i8⟩
  | .local _ .vmem, ⟨10, _⟩ => ⟨S3456x128, .i8⟩
  | .local _ .vmem, ⟨11, _⟩ => ⟨S3456x128, .i8⟩
  | .local _ .vmem, ⟨12, _⟩ => ⟨S3456x128, .i8⟩
  | .local _ .vmem, ⟨13, _⟩ => ⟨S3456x128, .i8⟩
  | .local _ .vmem, ⟨14, _⟩ => ⟨S108x8x128, .bf16⟩
  | .local _ .vmem, ⟨15, _⟩ => ⟨S108x8x128, .bf16⟩
  | .local _ .vmem, ⟨16, _⟩ => ⟨S3x114x8x512, .f32⟩
  | .local _ .smem, ⟨0, _⟩ => ⟨S1, .f32⟩
  | _, _ => ⟨S24x28x36x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_2 : Ref sig .tc := ⟨.hbm, 43, rfl⟩
abbrev main_call1_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_3 : Ref sig .tc := ⟨.hbm, 49, rfl⟩
abbrev main_call2_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_4 : Ref sig .tc := ⟨.hbm, 60, rfl⟩
abbrev main_call3_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_5 : Ref sig .tc := ⟨.hbm, 77, rfl⟩
abbrev main_call4_v0 : Ref sig .tc := ⟨.hbm, 78, rfl⟩
abbrev main_v50 : Ref sig .tc := ⟨.hbm, 79, rfl⟩
abbrev main_v51 : Ref sig .tc := ⟨.hbm, 80, rfl⟩
abbrev main_c_6 : Ref sig .tc := ⟨.hbm, 81, rfl⟩
abbrev main_call5_v0 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58_0 : Ref sig .tc := ⟨.hbm, 90, rfl⟩
abbrev main_v58_1 : Ref sig .tc := ⟨.hbm, 91, rfl⟩
abbrev main_v58_2 : Ref sig .tc := ⟨.hbm, 92, rfl⟩
abbrev main_v58_3 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![29], ![false]⟩

def k0_cond2 (i : grid0.Coords) : BitVec 1 :=
  let arg0 : BitVec 32 := BitVec.ofNat 32 (i 0).val
  let c28_i32 : BitVec 32 := 28#32
  let v3 : BitVec 1 := Scalar.cmpi .slt arg0 c28_i32
  let v4 : BitVec 32 := Scalar.extui v3
  let c0_i32_1 : BitVec 32 := 0#32
  let v5 : BitVec 1 := Scalar.cmpi .ne v4 c0_i32_1
  v5

def k0_off1 (i : grid0.Coords) : Fin 4 → Nat :=
  let arg0 : BitVec 32 := BitVec.ofNat 32 (i 0).val
  let c3_i32 : BitVec 32 := 3#32
  let c0_i32_29 : BitVec 32 := 0#32
  let v82 : BitVec 1 := Scalar.cmpi .eq c3_i32 c0_i32_29
  let c1_i32 : BitVec 32 := 1#32
  let v83 : BitVec 32 := Scalar.select v82 c1_i32 c3_i32
  let v84 : BitVec 32 := Scalar.remsi arg0 v83
  let c0_i32_31 : BitVec 32 := 0#32
  let v86 : BitVec 1 := Scalar.cmpi .slt v84 c0_i32_31
  let c0_i32_32 : BitVec 32 := 0#32
  let v87 : BitVec 1 := Scalar.cmpi .slt v83 c0_i32_32
  let v88 : BitVec 1 := Scalar.xori v86 v87
  let c0_i32_30 : BitVec 32 := 0#32
  let v85 : BitVec 1 := Scalar.cmpi .ne v84 c0_i32_30
  let v89 : BitVec 1 := Scalar.andi v88 v85
  let v90 : BitVec 32 := Scalar.addi v84 v83
  let v91 : BitVec 32 := Scalar.select v89 v90 v84
  let v92 : Index := Scalar.indexCast v91
  let c3 : Index := 3#32
  let c0_33 : Index := 0#32
  let c0_34 : Index := 0#32
  ![v92.toNat, 3, 0, 0]
def k0_cond3 (i : grid0.Coords) : BitVec 1 :=
  let arg0 : BitVec 32 := BitVec.ofNat 32 (i 0).val
  let c28_i32_2 : BitVec 32 := 28#32
  let v6 : BitVec 1 := Scalar.cmpi .eq arg0 c28_i32_2
  let v7 : BitVec 32 := Scalar.extui v6
  let c0_i32_3 : BitVec 32 := 0#32
  let v8 : BitVec 1 := Scalar.cmpi .ne v7 c0_i32_3
  v8

def k0_off2 (i : grid0.Coords) : Fin 4 → Nat :=
  let arg0 : BitVec 32 := BitVec.ofNat 32 (i 0).val
  let c3_i32 : BitVec 32 := 3#32
  let c0_i32_6 : BitVec 32 := 0#32
  let v13 : BitVec 1 := Scalar.cmpi .eq c3_i32 c0_i32_6
  let c1_i32 : BitVec 32 := 1#32
  let v14 : BitVec 32 := Scalar.select v13 c1_i32 c3_i32
  let v15 : BitVec 32 := Scalar.remsi arg0 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v23 : Index := Scalar.indexCast v22
  let c0 : Index := 0#32
  let c0_10 : Index := 0#32
  let c0_11 : Index := 0#32
  ![v23.toNat, 0, 0, 0]
def k0_cond4 (i : grid0.Coords) : BitVec 1 :=
  let arg0 : BitVec 32 := BitVec.ofNat 32 (i 0).val
  let c0_i32_4 : BitVec 32 := 0#32
  let v9 : BitVec 1 := Scalar.cmpi .sgt arg0 c0_i32_4
  let v10 : BitVec 32 := Scalar.extui v9
  let c0_i32_5 : BitVec 32 := 0#32
  let v11 : BitVec 1 := Scalar.cmpi .ne v10 c0_i32_5
  v11

def k0_off3 (i : grid0.Coords) (c0_i32_6 : BitVec 32) : Fin 4 → Nat :=
  let arg0 : BitVec 32 := BitVec.ofNat 32 (i 0).val
  let c1_i32 : BitVec 32 := 1#32
  let v12 : BitVec 32 := Scalar.addi arg0 c1_i32
  let v13 : BitVec 32 := Scalar.addi v12 c0_i32_6
  let c3_i32 : BitVec 32 := 3#32
  let c0_i32_7 : BitVec 32 := 0#32
  let v14 : BitVec 1 := Scalar.cmpi .eq c3_i32 c0_i32_7
  let c1_i32_8 : BitVec 32 := 1#32
  let v15 : BitVec 32 := Scalar.select v14 c1_i32_8 c3_i32
  let v16 : BitVec 32 := Scalar.remsi v13 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let c0_i32_12 : BitVec 32 := 0#32
  let c0_i32_13 : BitVec 32 := 0#32
  let c0_i32_14 : BitVec 32 := 0#32
  ![v23.toNat, 0, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c27_i32 : BitVec 32 := 27#32
  let v0 : BitVec 32 := Scalar.minsi arg0 c27_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c27_i32 : BitVec 32 := 27#32
  let v0 : BitVec 32 := Scalar.minsi arg0 c27_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c27_i32 : BitVec 32 := 27#32
  let v0 : BitVec 32 := Scalar.minsi arg0 c27_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S108x8x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1728x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3456x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3456x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S108x8x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FrontRefIdeal.lean ====
abbrev S24x28x36x256 : Shape := ⟨4, ![24, 28, 36, 256]⟩
abbrev S256 : Shape := ⟨1, ![256]⟩
abbrev S_ : Shape := ⟨0, ![]⟩
abbrev S256x512 : Shape := ⟨2, ![256, 512]⟩
abbrev S512 : Shape := ⟨1, ![512]⟩
abbrev S3x3x512 : Shape := ⟨3, ![3, 3, 512]⟩
abbrev S4x512x18 : Shape := ⟨3, ![4, 512, 18]⟩
abbrev S4x18 : Shape := ⟨2, ![4, 18]⟩
abbrev S4 : Shape := ⟨1, ![4]⟩
abbrev S24x28x36 : Shape := ⟨3, ![24, 28, 36]⟩
abbrev S24x28x36x1 : Shape := ⟨4, ![24, 28, 36, 1]⟩
abbrev S1x1x1x256 : Shape := ⟨4, ![1, 1, 1, 256]⟩
abbrev S24x28x36x512 : Shape := ⟨4, ![24, 28, 36, 512]⟩
abbrev S1x1x1x512 : Shape := ⟨4, ![1, 1, 1, 512]⟩

abbrev nBuf : Space → Nat
  | .hbm => 83
  | .vmem => 0
  | .smem => 0
  | _ => 0

abbrev bufTy : (tb : Table) → Fin (tcTables nBuf tb) → BufTy
  | .hbm, ⟨0, _⟩ => ⟨S24x28x36x256, .bf16⟩
  | .hbm, ⟨1, _⟩ => ⟨S256, .f32⟩
  | .hbm, ⟨2, _⟩ => ⟨S256, .f32⟩
  | .hbm, ⟨3, _⟩ => ⟨S_, .f32⟩
  | .hbm, ⟨4, _⟩ => ⟨S256x512, .i8⟩
  | .hbm, ⟨5, _⟩ => ⟨S512, .f32⟩
  | .hbm, ⟨6, _⟩ => ⟨S512, .f32⟩
  | .hbm, ⟨7, _⟩ => ⟨S3x3x512, .i8⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S4x512x18, .i8⟩
  | .hbm, ⟨12, _⟩ => ⟨S4x18, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S24x28x36x256, .f32⟩
  | .hbm, ⟨17, _⟩ => ⟨S_, .f32⟩
  | .hbm, ⟨18, _⟩ => ⟨S24x28x36, .f32⟩
  | .hbm, ⟨19, _⟩ => ⟨S24x28x36x1, .f32⟩
  | .hbm, ⟨20, _⟩ => ⟨S_, .f32⟩
  | .hbm, ⟨21, _⟩ => ⟨S24x28x36x1, .f32⟩
  | .hbm, ⟨22, _⟩ => ⟨S24x28x36x1, .f32⟩
  | .hbm, ⟨23, _⟩ => ⟨S24x28x36x256, .f32⟩
  | .hbm, ⟨24, _⟩ => ⟨S24x28x36x256, .f32⟩
  | .hbm, ⟨25, _⟩ => ⟨S24x28x36x256, .f32⟩
  | .hbm, ⟨26, _⟩ => ⟨S_, .f32⟩
  | .hbm, ⟨27, _⟩ => ⟨S24x28x36, .f32⟩
  | .hbm, ⟨28, _⟩ => ⟨S24x28x36x1, .f32⟩
  | .hbm, ⟨29, _⟩ => ⟨S_, .f32⟩
  | .hbm, ⟨30, _⟩ => ⟨S24x28x36x1, .f32⟩
  | .hbm, ⟨31, _⟩ => ⟨S24x28x36x1, .f32⟩
  | .hbm, ⟨32, _⟩ => ⟨S_, .f32⟩
  | .hbm, ⟨33, _⟩ => ⟨S24x28x36x1, .f32⟩
  | .hbm, ⟨34, _⟩ => ⟨S24x28x36x1, .f32⟩
  | .hbm, ⟨35, _⟩ => ⟨S24x28x36x1, .f32⟩
  | .hbm, ⟨36, _⟩ => ⟨S24x28x36x256, .f32⟩
  | .hbm, ⟨37, _⟩ => ⟨S24x28x36x256, .f32⟩
  | .hbm, ⟨38, _⟩ => ⟨S1x1x1x256, .f32⟩
  | .hbm, ⟨39, _⟩ => ⟨S24x28x36x256, .f32⟩
  | .hbm, ⟨40, _⟩ => ⟨S24x28x36x256, .f32⟩
  | .hbm, ⟨41, _⟩ => ⟨S1x1x1x256, .f32⟩
  | .hbm, ⟨42, _⟩ => ⟨S24x28x36x256, .f32⟩
  | .hbm, ⟨43, _⟩ => ⟨S24x28x36x256, .f32⟩
  | .hbm, ⟨44, _⟩ => ⟨S24x28x36x256, .f32⟩
  | .hbm, ⟨45, _⟩ => ⟨S24x28x36x256, .f32⟩
  | .hbm, ⟨46, _⟩ => ⟨S24x28x36x256, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S24x28x36x256, .f32⟩
  | .hbm, ⟨51, _⟩ => ⟨S24x28x36x256, .f32⟩
  | .hbm, ⟨52, _⟩ => ⟨S_, .f32⟩
  | .hbm, ⟨53, _⟩ => ⟨S24x28x36x256, .f32⟩
  | .hbm, ⟨54, _⟩ => ⟨S24x28x36x256, .f32⟩
  | .hbm, ⟨55, _⟩ => ⟨S24x28x36x256, .i32⟩
  | .hbm, ⟨56, _⟩ => ⟨S24x28x36x256, .i8⟩
  | .hbm, ⟨57, _⟩ => ⟨S24x28x36x256, .i32⟩
  | .hbm, ⟨58, _⟩ => ⟨S24x28x36x256, .f32⟩
  | .hbm, ⟨59, _⟩ => ⟨S24x28x36x256, .bf16⟩
  | .hbm, ⟨60, _⟩ => ⟨S256x512, .i32⟩
  | .hbm, ⟨61, _⟩ => ⟨S256x512, .f32⟩
  | .hbm, ⟨62, _⟩ => ⟨S256x512, .bf16⟩
  | .hbm, ⟨63, _⟩ => ⟨S24x28x36x512, .f32⟩
  | .hbm, ⟨64, _⟩ => ⟨S24x28x36x512, .f32⟩
  | .hbm, ⟨65, _⟩ => ⟨S24x28x36x512, .f32⟩
  | .hbm, ⟨66, _⟩ => ⟨S1x1x1x512, .f32⟩
  | .hbm, ⟨67, _⟩ => ⟨S24x28x36x512, .f32⟩
  | .hbm, ⟨68, _⟩ => ⟨S24x28x36x512, .f32⟩
  | .hbm, ⟨69, _⟩ => ⟨S1x1x1x512, .f32⟩
  | .hbm, ⟨70, _⟩ => ⟨S24x28x36x512, .f32⟩
  | .hbm, ⟨71, _⟩ => ⟨S24x28x36x512, .f32⟩
  | .hbm, ⟨72, _⟩ => ⟨S24x28x36x512, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S24x28x36x512, .f32⟩
  | .hbm, ⟨77, _⟩ => ⟨S24x28x36x512, .f32⟩
  | .hbm, ⟨78, _⟩ => ⟨S_, .f32⟩
  | .hbm, ⟨79, _⟩ => ⟨S24x28x36x512, .f32⟩
  | .hbm, ⟨80, _⟩ => ⟨S24x28x36x512, .f32⟩
  | .hbm, ⟨81, _⟩ => ⟨S24x28x36x512, .i32⟩
  | .hbm, ⟨82, _⟩ => ⟨S24x28x36x512, .i8⟩
  | _, _ => ⟨S24x28x36x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_cst_5 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_cst_7 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩

abbrev nD : Nat := 1
abbrev τ : Topo := Topo.v7x

variable {F : FTy → Type} [FloatOps F]
-- ==== Back.lean ====
abbrev S24x28x36x256 : Shape := ⟨4, ![24, 28, 36, 256]⟩
abbrev S28x36x3x8x512 : Shape := ⟨5, ![28, 36, 3, 8, 512]⟩
abbrev S512 : Shape := ⟨1, ![512]⟩
abbrev S512x256 : Shape := ⟨2, ![512, 256]⟩
abbrev S256 : Shape := ⟨1, ![256]⟩
abbrev S_ : Shape := ⟨0, ![]⟩
abbrev S256x1024 : Shape := ⟨2, ![256, 1024]⟩
abbrev S1024 : Shape := ⟨1, ![1024]⟩
abbrev S1024x256 : Shape := ⟨2, ![1024, 256]⟩
abbrev S28x36x24x256 : Shape := ⟨4, ![28, 36, 24, 256]⟩
abbrev S3024x8x256 : Shape := ⟨3, ![3024, 8, 256]⟩
abbrev S1 : Shape := ⟨1, ![1]⟩
abbrev S3 : Shape := ⟨1, ![3]⟩
abbrev S1x512 : Shape := ⟨2, ![1, 512]⟩
abbrev S2x512 : Shape := ⟨2, ![2, 512]⟩
abbrev S8x512 : Shape := ⟨2, ![8, 512]⟩
abbrev S1x256 : Shape := ⟨2, ![1, 256]⟩
abbrev S5x256 : Shape := ⟨2, ![5, 256]⟩
abbrev S8x256 : Shape := ⟨2, ![8, 256]⟩
abbrev S1x1024 : Shape := ⟨2, ![1, 1024]⟩
abbrev S2x1024 : Shape := ⟨2, ![2, 1024]⟩
abbrev S8x1024 : Shape := ⟨2, ![8, 1024]⟩
abbrev S3024x8x512 : Shape := ⟨3, ![3024, 8, 512]⟩
abbrev S96768x128 : Shape := ⟨2, ![96768, 128]⟩
abbrev S3024x8x128 : Shape := ⟨3, ![3024, 8, 128]⟩
abbrev S48384x128 : Shape := ⟨2, ![48384, 128]⟩
abbrev S193536x128 : Shape := ⟨2, ![193536, 128]⟩
abbrev S54x8x512 : Shape := ⟨3, ![54, 8, 512]⟩
abbrev S54x8x256 : Shape := ⟨3, ![54, 8, 256]⟩
abbrev S1728x128 : Shape := ⟨2, ![1728, 128]⟩
abbrev S54x8x128 : Shape := ⟨3, ![54, 8, 128]⟩
abbrev S864x128 : Shape := ⟨2, ![864, 128]⟩
abbrev S3456x128 : Shape := ⟨2, ![3456, 128]⟩
abbrev S432x512 : Shape := ⟨2, ![432, 512]⟩
abbrev S432 : Shape := ⟨1, ![432]⟩
abbrev S432x1 : Shape := ⟨2, ![432, 1]⟩
abbrev S54x32x128 : Shape := ⟨3, ![54, 32, 128]⟩
abbrev S432x128 : Shape := ⟨2, ![432, 128]⟩
abbrev S432x256 : Shape := ⟨2, ![432, 256]⟩
abbrev S54x16x128 : Shape := ⟨3, ![54, 16, 128]⟩
abbrev S432x1024 : Shape := ⟨2, ![432, 1024]⟩
abbrev S54x8x1024 : Shape := ⟨3, ![54, 8, 1024]⟩
abbrev S54x64x128 : Shape := ⟨3, ![54, 64, 128]⟩
abbrev S3024x8x1 : Shape := ⟨3, ![3024, 8, 1]⟩
abbrev S3024x8 : Shape := ⟨2, ![3024, 8]⟩
abbrev S28x36x24 : Shape := ⟨3, ![28, 36, 24]⟩
abbrev S24x28x36 : Shape := ⟨3, ![24, 28, 36]⟩
abbrev S3024x4x8x128 : Shape := ⟨4, ![3024, 4, 8, 128]⟩
abbrev S3024x8x4x128 : Shape := ⟨4, ![3024, 8, 4, 128]⟩
abbrev S28x36x24x512 : Shape := ⟨4, ![28, 36, 24, 512]⟩
abbrev S24x28x36x512 : Shape := ⟨4, ![24, 28, 36, 512]⟩
abbrev S3024x2x8x128 : Shape := ⟨4, ![3024, 2, 8, 128]⟩
abbrev S3024x8x2x128 : Shape := ⟨4, ![3024, 8, 2, 128]⟩
abbrev S3024x8x8x128 : Shape := ⟨4, ![3024, 8, 8, 128]⟩
abbrev S28x36x24x1024 : Shape := ⟨4, ![28, 36, 24, 1024]⟩
abbrev S24x28x36x1024 : Shape := ⟨4, ![24, 28, 36, 1024]⟩

abbrev nBuf : Space → Nat
  | .hbm => 94
  | .vmem => 20
  | .smem => 1
  | _ => 0

abbrev bufTy : (tb : Table) → Fin (tcTables nBuf tb) → BufTy
  | .hbm, ⟨0, _⟩ => ⟨S24x28x36x256, .bf16⟩
  | .hbm, ⟨1, _⟩ => ⟨S28x36x3x8x512, .f32⟩
  | .hbm, ⟨2, _⟩ => ⟨S512, .f32⟩
  | .hbm, ⟨3, _⟩ => ⟨S512, .f32⟩
  | .hbm, ⟨4, _⟩ => ⟨S512x256, .i8⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256x1024, .i8⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S_, .i32⟩
  | .hbm, ⟨14, _⟩ => ⟨S1024x256, .i8⟩
  | .hbm, ⟨15, _⟩ => ⟨S256, .f32⟩
  | .hbm, ⟨16, _⟩ => ⟨S256, .f32⟩
  | .hbm, ⟨17, _⟩ => ⟨S28x36x24x256, .bf16⟩
  | .hbm, ⟨18, _⟩ => ⟨S3024x8x256, .bf16⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S1, .f32⟩
  | .hbm, ⟨29, _⟩ => ⟨S3, .f32⟩
  | .hbm, ⟨30, _⟩ => ⟨S1x512, .f32⟩
  | .hbm, ⟨31, _⟩ => ⟨S1x512, .f32⟩
  | .hbm, ⟨32, _⟩ => ⟨S2x512, .f32⟩
  | .hbm, ⟨33, _⟩ => ⟨S_, .i32⟩
  | .hbm, ⟨34, _⟩ => ⟨S_, .f32⟩
  | .hbm, ⟨35, _⟩ => ⟨S8x512, .f32⟩
  | .hbm, ⟨36, _⟩ => ⟨S256, .f32⟩
  | .hbm, ⟨37, _⟩ => ⟨S256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S5x256, .f32⟩
  | .hbm, ⟨44, _⟩ => ⟨S_, .i32⟩
  | .hbm, ⟨45, _⟩ => ⟨S_, .f32⟩
  | .hbm, ⟨46, _⟩ => ⟨S8x256, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1x1024, .f32⟩
  | .hbm, ⟨56, _⟩ => ⟨S1x1024, .f32⟩
  | .hbm, ⟨57, _⟩ => ⟨S2x1024, .f32⟩
  | .hbm, ⟨58, _⟩ => ⟨S_, .i32⟩
  | .hbm, ⟨59, _⟩ => ⟨S_, .f32⟩
  | .hbm, ⟨60, _⟩ => ⟨S8x1024, .f32⟩
  | .hbm, ⟨61, _⟩ => ⟨S3024x8x512, .f32⟩
  | .hbm, ⟨62, _⟩ => ⟨S512x256, .i32⟩
  | .hbm, ⟨63, _⟩ => ⟨S512x256, .f32⟩
  | .hbm, ⟨64, _⟩ => ⟨S512x256, .bf16⟩
  | .hbm, ⟨65, _⟩ => ⟨S256x1024, .i32⟩
  | .hbm, ⟨66, _⟩ => ⟨S256x1024, .f32⟩
  | .hbm, ⟨67, _⟩ => ⟨S256x1024, .bf16⟩
  | .hbm, ⟨68, _⟩ => ⟨S1024x256, .i32⟩
  | .hbm, ⟨69, _⟩ => ⟨S1024x256, .f32⟩
  | .hbm, ⟨70, _⟩ => ⟨S1024x256, .bf16⟩
  | .hbm, ⟨71, _⟩ => ⟨S3024x8x256, .bf16⟩
  | .hbm, ⟨72, _⟩ => ⟨S96768x128, .i8⟩
  | .hbm, ⟨73, _⟩ => ⟨S3024x8x128, .f32⟩
  | .hbm, ⟨74, _⟩ => ⟨S48384x128, .i8⟩
  | .hbm, ⟨75, _⟩ => ⟨S193536x128, .i8⟩
  | .hbm, ⟨76, _⟩ => ⟨S3024x8x1, .f32⟩
  | .hbm, ⟨77, _⟩ => ⟨S3024x8, .f32⟩
  | .hbm, ⟨78, _⟩ => ⟨S28x36x24, .f32⟩
  | .hbm, ⟨79, _⟩ => ⟨S24x28x36, .f32⟩
  | .hbm, ⟨80, _⟩ => ⟨S28x36x24x256, .bf16⟩
  | .hbm, ⟨81, _⟩ => ⟨S24x28x36x256, .bf16⟩
  | .hbm, ⟨82, _⟩ => ⟨S3024x4x8x128, .i8⟩
  | .hbm, ⟨83, _⟩ => ⟨S3024x8x4x128, .i8⟩
  | .hbm, ⟨84, _⟩ => ⟨S28x36x24x512, .i8⟩
  | .hbm, ⟨85, _⟩ => ⟨S24x28x36x512, .i8⟩
  | .hbm, ⟨86, _⟩ => ⟨S3024x2x8x128, .i8⟩
  | .hbm, ⟨87, _⟩ => ⟨S3024x8x2x128, .i8⟩
  | .hbm, ⟨88, _⟩ => ⟨S28x36x24x256, .i8⟩
  | .hbm, ⟨89, _⟩ => ⟨S24x28x36x256, .i8⟩
  | .hbm, ⟨90, _⟩ => ⟨S3024x8x8x128, .i8⟩
  | .hbm, ⟨91, _⟩ => ⟨S3024x8x8x128, .i8⟩
  | .hbm, ⟨92, _⟩ => ⟨S28x36x24x1024, .i8⟩
  | .hbm, ⟨93, _⟩ => ⟨S24x28x36x1024, .i8⟩
  | .local _ .vmem, ⟨0, _⟩ => ⟨S54x8x512, .f32⟩
  | .local _ .vmem, ⟨1, _⟩ => ⟨S54x8x512, .f32⟩
  | .local _ .vmem, ⟨2, _⟩ => ⟨S54x8x256, .bf16⟩
  | .local _ .vmem, ⟨3, _⟩ => ⟨S54x8x256, .bf16⟩
  | .local _ .vmem, ⟨4, _⟩ => ⟨S8x512, .f32⟩
  | .local _ .vmem, ⟨5, _⟩ => ⟨S8x256, .f32⟩
  | .local _ .vmem, ⟨6, _⟩ => ⟨S512x256, .bf16⟩
  | .local _ .vmem, ⟨7, _⟩ => ⟨S256x1024, .bf16⟩
  | .local _ .vmem, ⟨8, _⟩ => ⟨S8x1024, .f32⟩
  | .local _ .vmem, ⟨9, _⟩ => ⟨S1024x256, .bf16⟩
  | .local _ .vmem, ⟨10, _⟩ => ⟨S54x8x256, .bf16⟩
  | .local _ .vmem, ⟨11, _⟩ => ⟨S54x8x256, .bf16⟩
  | .local _ .vmem, ⟨12, _⟩ => ⟨S1728x128, .i8⟩
  | .local _ .vmem, ⟨13, _⟩ => ⟨S1728x128, .i8⟩
  | .local _ .vmem, ⟨14, _⟩ => ⟨S54x8x128, .f32⟩
  | .local _ .vmem, ⟨15, _⟩ => ⟨S54x8x128, .f32⟩
  | .local _ .vmem, ⟨16, _⟩ => ⟨S864x128, .i8⟩
  | .local _ .vmem, ⟨17, _⟩ => ⟨S864x128, .i8⟩
  | .local _ .vmem, ⟨18, _⟩ => ⟨S3456x128, .i8⟩
  | .local _ .vmem, ⟨19, _⟩ => ⟨S3456x128, .i8⟩
  | .local _ .smem, ⟨0, _⟩ => ⟨S3, .f32⟩
  | _, _ => ⟨S24x28x36x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_call0_v0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_call1_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_call2_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43_0 : Ref sig .tc := ⟨.hbm, 71, rfl⟩
abbrev main_v43_1 : Ref sig .tc := ⟨.hbm, 72, rfl⟩
abbrev main_v43_2 : Ref sig .tc := ⟨.hbm, 73, rfl⟩
abbrev main_v43_3 : Ref sig .tc := ⟨.hbm, 74, rfl⟩
abbrev main_v43_4 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![56], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S54x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S54x8x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S54x8x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1728x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S54x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S864x128 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3456x128 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== BackRefIdeal.lean ====
abbrev S24x28x36x256 : Shape := ⟨4, ![24, 28, 36, 256]⟩
abbrev S28x36x3x8x512 : Shape := ⟨5, ![28, 36, 3, 8, 512]⟩
abbrev S512 : Shape := ⟨1, ![512]⟩
abbrev S512x256 : Shape := ⟨2, ![512, 256]⟩
abbrev S256 : Shape := ⟨1, ![256]⟩
abbrev S_ : Shape := ⟨0, ![]⟩
abbrev S256x1024 : Shape := ⟨2, ![256, 1024]⟩
abbrev S1024 : Shape := ⟨1, ![1024]⟩
abbrev S1024x256 : Shape := ⟨2, ![1024, 256]⟩
abbrev S28x36x24x512 : Shape := ⟨4, ![28, 36, 24, 512]⟩
abbrev S24x28x36x512 : Shape := ⟨4, ![24, 28, 36, 512]⟩
abbrev S24x28x36 : Shape := ⟨3, ![24, 28, 36]⟩
abbrev S24x28x36x1 : Shape := ⟨4, ![24, 28, 36, 1]⟩
abbrev S1x1x1x512 : Shape := ⟨4, ![1, 1, 1, 512]⟩
abbrev S1x1x1x256 : Shape := ⟨4, ![1, 1, 1, 256]⟩
abbrev S24x28x36x1024 : Shape := ⟨4, ![24, 28, 36, 1024]⟩
abbrev S1x1x1x1024 : Shape := ⟨4, ![1, 1, 1, 1024]⟩

abbrev nBuf : Space → Nat
  | .hbm => 187
  | .vmem => 0
  | .smem => 0
  | _ => 0

abbrev hbmTy0_0 (i : Nat) : BufTy := match i % 128 with
  | 0 => ⟨S24x28x36x256, .bf16⟩
  | 1 => ⟨S28x36x3x8x512, .f32⟩
  | 2 => ⟨S512, .f32⟩
  | 3 => ⟨S512, .f32⟩
  | 4 => ⟨S512x256, .i8⟩
  | 5 => ⟨S256, .f32⟩
  | 6 => ⟨S256, .f32⟩
  | 7 => ⟨S256, .f32⟩
  | 8 => ⟨S_, .f32⟩
  | 9 => ⟨S256x1024, .i8⟩
  | 10 => ⟨S1024, .f32⟩
  | 11 => ⟨S1024, .f32⟩
  | 12 => ⟨S_, .f32⟩
  | 13 => ⟨S_, .i32⟩
  | 14 => ⟨S1024x256, .i8⟩
  | 15 => ⟨S256, .f32⟩
  | 16 => ⟨S256, .f32⟩
  | 17 => ⟨S24x28x36x256, .f32⟩
  | 18 => ⟨S28x36x24x512, .f32⟩
  | 19 => ⟨S24x28x36x512, .f32⟩
  | 20 => ⟨S_, .f32⟩
  | 21 => ⟨S24x28x36, .f32⟩
  | 22 => ⟨S24x28x36x1, .f32⟩
  | 23 => ⟨S_, .f32⟩
  | 24 => ⟨S24x28x36x1, .f32⟩
  | 25 => ⟨S24x28x36x1, .f32⟩
  | 26 => ⟨S24x28x36x512, .f32⟩
  | 27 => ⟨S24x28x36x512, .f32⟩
  | 28 => ⟨S24x28x36x512, .f32⟩
  | 29 => ⟨S_, .f32⟩
  | 30 => ⟨S24x28x36, .f32⟩
  | 31 => ⟨S24x28x36x1, .f32⟩
  | 32 => ⟨S_, .f32⟩
  | 33 => ⟨S24x28x36x1, .f32⟩
  | 34 => ⟨S24x28x36x1, .f32⟩
  | 35 => ⟨S_, .f32⟩
  | 36 => ⟨S24x28x36x1, .f32⟩
  | 37 => ⟨S24x28x36x1, .f32⟩
  | 38 => ⟨S24x28x36x1, .f32⟩
  | 39 => ⟨S24x28x36x512, .f32⟩
  | 40 => ⟨S24x28x36x512, .f32⟩
  | 41 => ⟨S1x1x1x512, .f32⟩
  | 42 => ⟨S24x28x36x512, .f32⟩
  | 43 => ⟨S24x28x36x512, .f32⟩
  | 44 => ⟨S1x1x1x512, .f32⟩
  | 45 => ⟨S24x28x36x512, .f32⟩
  | 46 => ⟨S24x28x36x512, .f32⟩
  | 47 => ⟨S24x28x36x512, .f32⟩
  | 48 => ⟨S_, .f32⟩
  | 49 => ⟨S24x28x36, .f32⟩
  | 50 => ⟨S_, .f32⟩
  | 51 => ⟨S24x28x36, .f32⟩
  | 52 => ⟨S24x28x36, .i1⟩
  | 53 => ⟨S_, .f32⟩
  | 54 => ⟨S24x28x36, .f32⟩
  | 55 => ⟨S24x28x36, .f32⟩
  | 56 => ⟨S_, .f32⟩
  | 57 => ⟨S_, .f32⟩
  | 58 => ⟨S24x28x36, .f32⟩
  | 59 => ⟨S24x28x36, .f32⟩
  | 60 => ⟨S24x28x36x1, .f32⟩
  | 61 => ⟨S24x28x36x512, .f32⟩
  | 62 => ⟨S24x28x36x512, .f32⟩
  | 63 => ⟨S24x28x36x512, .f32⟩
  | 64 => ⟨S_, .f32⟩
  | 65 => ⟨S_, .f32⟩
  | 66 => ⟨S_, .f32⟩
  | 67 => ⟨S24x28x36x512, .f32⟩
  | 68 => ⟨S24x28x36x512, .f32⟩
  | 69 => ⟨S_, .f32⟩
  | 70 => ⟨S24x28x36x512, .f32⟩
  | 71 => ⟨S24x28x36x512, .f32⟩
  | 72 => ⟨S24x28x36x512, .i32⟩
  | 73 => ⟨S24x28x36x512, .i8⟩
  | 74 => ⟨S24x28x36x512, .i32⟩
  | 75 => ⟨S24x28x36x512, .f32⟩
  | 76 => ⟨S24x28x36x512, .bf16⟩
  | 77 => ⟨S512x256, .i32⟩
  | 78 => ⟨S512x256, .f32⟩
  | 79 => ⟨S512x256, .bf16⟩
  | 80 => ⟨S24x28x36x256, .f32⟩
  | 81 => ⟨S24x28x36x1, .f32⟩
  | 82 => ⟨S24x28x36x256, .f32⟩
  | 83 => ⟨S24x28x36x256, .f32⟩
  | 84 => ⟨S1x1x1x256, .f32⟩
  | 85 => ⟨S24x28x36x256, .f32⟩
  | 86 => ⟨S24x28x36x256, .f32⟩
  | 87 => ⟨S24x28x36x256, .f32⟩
  | 88 => ⟨S_, .f32⟩
  | 89 => ⟨S24x28x36, .f32⟩
  | 90 => ⟨S24x28x36x1, .f32⟩
  | 91 => ⟨S_, .f32⟩
  | 92 => ⟨S24x28x36x1, .f32⟩
  | 93 => ⟨S24x28x36x1, .f32⟩
  | 94 => ⟨S24x28x36x256, .f32⟩
  | 95 => ⟨S24x28x36x256, .f32⟩
  | 96 => ⟨S24x28x36x256, .f32⟩
  | 97 => ⟨S_, .f32⟩
  | 98 => ⟨S24x28x36, .f32⟩
  | 99 => ⟨S24x28x36x1, .f32⟩
  | 100 => ⟨S_, .f32⟩
  | 101 => ⟨S24x28x36x1, .f32⟩
  | 102 => ⟨S24x28x36x1, .f32⟩
  | 103 => ⟨S_, .f32⟩
  | 104 => ⟨S24x28x36x1, .f32⟩
  | 105 => ⟨S24x28x36x1, .f32⟩
  | 106 => ⟨S24x28x36x1, .f32⟩
  | 107 => ⟨S24x28x36x256, .f32⟩
  | 108 => ⟨S24x28x36x256, .f32⟩
  | 109 => ⟨S1x1x1x256, .f32⟩
  | 110 => ⟨S24x28x36x256, .f32⟩
  | 111 => ⟨S24x28x36x256, .f32⟩
  | 112 => ⟨S1x1x1x256, .f32⟩
  | 113 => ⟨S24x28x36x256, .f32⟩
  | 114 => ⟨S24x28x36x256, .f32⟩
  | 115 => ⟨S24x28x36x256, .f32⟩
  | 116 => ⟨S24x28x36x256, .f32⟩
  | 117 => ⟨S24x28x36x256, .f32⟩
  | 118 => ⟨S_, .f32⟩
  | 119 => ⟨S_, .f32⟩
  | 120 => ⟨S_, .f32⟩
  | 121 => ⟨S24x28x36x256, .f32⟩
  | 122 => ⟨S24x28x36x256, .f32⟩
  | 123 => ⟨S_, .f32⟩
  | 124 => ⟨S24x28x36x256, .f32⟩
  | 125 => ⟨S24x28x36x256, .f32⟩
  | 126 => ⟨S24x28x36x256, .i32⟩
  | 127 => ⟨S24x28x36x256, .i8⟩
  | _ => ⟨S24x28x36x256, .bf16⟩

abbrev hbmTy0_1 (i : Nat) : BufTy := match i % 128 with
  | 0 => ⟨S24x28x36x256, .i32⟩
  | 1 => ⟨S24x28x36x256, .f32⟩
  | 2 => ⟨S24x28x36x256, .bf16⟩
  | 3 => ⟨S256x1024, .i32⟩
  | 4 => ⟨S256x1024, .f32⟩
  | 5 => ⟨S256x1024, .bf16⟩
  | 6 => ⟨S24x28x36x1024, .f32⟩
  | 7 => ⟨S24x28x36x1024, .f32⟩
  | 8 => ⟨S24x28x36x1024, .f32⟩
  | 9 => ⟨S1x1x1x1024, .f32⟩
  | 10 => ⟨S24x28x36x1024, .f32⟩
  | 11 => ⟨S24x28x36x1024, .f32⟩
  | 12 => ⟨S1x1x1x1024, .f32⟩
  | 13 => ⟨S24x28x36x1024, .f32⟩
  | 14 => ⟨S24x28x36x1024, .f32⟩
  | 15 => ⟨S_, .f32⟩
  | 16 => ⟨S24x28x36x1024, .f32⟩
  | 17 => ⟨S24x28x36x1024, .f32⟩
  | 18 => ⟨S24x28x36x1024, .f32⟩
  | 19 => ⟨S_, .f32⟩
  | 20 => ⟨S24x28x36x1024, .f32⟩
  | 21 => ⟨S24x28x36x1024, .f32⟩
  | 22 => ⟨S24x28x36x1024, .f32⟩
  | 23 => ⟨S24x28x36x1024, .f32⟩
  | 24 => ⟨S24x28x36x1024, .f32⟩
  | 25 => ⟨S24x28x36x1024, .f32⟩
  | 26 => ⟨S24x28x36x1024, .f32⟩
  | 27 => ⟨S_, .f32⟩
  | 28 => ⟨S24x28x36x1024, .f32⟩
  | 29 => ⟨S24x28x36x1024, .f32⟩
  | 30 => ⟨S_, .f32⟩
  | 31 => ⟨S_, .f32⟩
  | 32 => ⟨S_, .f32⟩
  | 33 => ⟨S24x28x36x1024, .f32⟩
  | 34 => ⟨S24x28x36x1024, .f32⟩
  | 35 => ⟨S_, .f32⟩
  | 36 => ⟨S24x28x36x1024, .f32⟩
  | 37 => ⟨S24x28x36x1024, .f32⟩
  | 38 => ⟨S24x28x36x1024, .i32⟩
  | 39 => ⟨S24x28x36x1024, .i8⟩
  | 40 => ⟨S24x28x36x1024, .i32⟩
  | 41 => ⟨S24x28x36x1024, .i32⟩
  | 42 => ⟨S24x28x36x1024, .i32⟩
  | 43 => ⟨S24x28x36x1024, .f32⟩
  | 44 => ⟨S24x28x36x1024, .bf16⟩
  | 45 => ⟨S1024x256, .i32⟩
  | 46 => ⟨S1024x256, .f32⟩
  | 47 => ⟨S1024x256, .bf16⟩
  | 48 => ⟨S24x28x36x256, .f32⟩
  | 49 => ⟨S24x28x36x256, .f32⟩
  | 50 => ⟨S24x28x36x256, .f32⟩
  | 51 => ⟨S1x1x1x256, .f32⟩
  | 52 => ⟨S24x28x36x256, .f32⟩
  | 53 => ⟨S24x28x36x256, .f32⟩
  | 54 => ⟨S1x1x1x256, .f32⟩
  | 55 => ⟨S24x28x36x256, .f32⟩
  | 56 => ⟨S24x28x36x256, .f32⟩
  | 57 => ⟨S24x28x36x256, .f32⟩
  | 58 => ⟨S24x28x36x256, .bf16⟩
  | _ => ⟨S24x28x36x256, .bf16⟩

abbrev hbmTy (i : Nat) : BufTy := match i / 128 with
  | 0 => hbmTy0_0 i
  | 1 => hbmTy0_1 i
  | _ => ⟨S24x28x36x256, .bf16⟩

abbrev bufTy : (tb : Table) → Fin (tcTables nBuf tb) → BufTy
  | .hbm, ⟨i, _⟩ => hbmTy i
  | _, _ => ⟨S24x28x36x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_call0_v0 : Ref sig .tc := ⟨.hbm, 57, rfl⟩
abbrev main_call0_v1 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_cst_9 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_10 : Ref sig .tc := ⟨.hbm, 88, rfl⟩
abbrev main_v53 : Ref sig .tc := ⟨.hbm, 89, rfl⟩
abbrev main_v54 : Ref sig .tc := ⟨.hbm, 90, rfl⟩
abbrev main_cst_11 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_12 : Ref sig .tc := ⟨.hbm, 97, rfl⟩
abbrev main_v60 : Ref sig .tc := ⟨.hbm, 98, rfl⟩
abbrev main_v61 : Ref sig .tc := ⟨.hbm, 99, rfl⟩
abbrev main_cst_13 : Ref sig .tc := ⟨.hbm, 100, rfl⟩
abbrev main_v62 : Ref sig .tc := ⟨.hbm, 101, rfl⟩
abbrev main_v63 : Ref sig .tc := ⟨.hbm, 102, rfl⟩
abbrev main_cst_14 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_15 : Ref sig .tc := ⟨.hbm, 118, rfl⟩
abbrev main_cst_16 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_17 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_18 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_19 : Ref sig .tc := ⟨.hbm, 158, rfl⟩
abbrev main_cst_20 : Ref sig .tc := ⟨.hbm, 159, rfl⟩
abbrev main_call6_v0 : Ref sig .tc := ⟨.hbm, 160, rfl⟩
abbrev main_call6_v1 : Ref sig .tc := ⟨.hbm, 161, rfl⟩
abbrev main_call6_v2 : Ref sig .tc := ⟨.hbm, 162, rfl⟩
abbrev main_call6_v3 : Ref sig .tc := ⟨.hbm, 163, rfl⟩
abbrev main_call6_v4 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩

abbrev nD : Nat := 1
abbrev τ : Topo := Topo.v7x

variable {F : FTy → Type} [FloatOps F]
-- ==== Proof.FrontRunBits.Cases.lean ====
/- The cases of the front kernel's conditionals, its staging memrefs and its scratch. -/
module

public import proofs.«01_k».proof.Proof.Gen.Front.Frame
public import proofs.«01_k».proof.Proof.Gen.Front.Skeleton
public import Idealize.ShloMosaic.Lib.Claim

@[expose] public section

set_option maxRecDepth 16384

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first condition's word, from the grid coordinate. -/
abbrev k0_cond1 (i : grid0.Coords) : BitVec 1 :=
  Scalar.cmpi .ne (Scalar.extui (Scalar.cmpi .eq (BitVec.ofNat 32 (i 0).val) 0#32) : BitVec 32) 0#32

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 29 = 0 :=
  (fun t => by
    have ht : t.val < 29 := Nat.lt_of_lt_of_eq t.isLt N_0
    have e0 : (grid0.coords t 0).val = t.val / 1 % 29 := Pipeline.Grid.coords_val t 0 (by decide) rfl
    simp only [cond0_0, k0_cond1, e0]
    word_cmp
   : ∀ t : Fin grid0.N, cond0_0 (grid0.coords t) ↔ t.val % 29 = 0)

/-- The condition of the body's `scf.if` 1 (`k0_h2`), from the grid coordinates (the skeleton's scalar
    chain substituted). -/
abbrev cond0_1 (i : grid0.Coords) : Prop := k0_cond2 i = 1#1
/-- It holds at the points before point 28 — decided over the grid. -/
theorem hcond0_1 : ∀ t : Fin cfg0.N, cond0_1 (grid0.coords t) ↔ t.val < 28 :=
  (by decide +kernel : ∀ t : Fin grid0.N, cond0_1 (grid0.coords t) ↔ t.val < 28)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 29 = 28 :=
  (fun t => by
    have ht : t.val < 29 := Nat.lt_of_lt_of_eq t.isLt N_0
    have e0 : (grid0.coords t 0).val = t.val / 1 % 29 := Pipeline.Grid.coords_val t 0 (by decide) rfl
    simp only [cond0_2, k0_cond3, e0]
    word_cmp
   : ∀ t : Fin grid0.N, cond0_2 (grid0.coords t) ↔ t.val % 29 = 28)

/-- The condition of the body's `scf.if` 3 (`k0_h4`), from the grid coordinates (the skeleton's scalar
    chain substituted). -/
abbrev cond0_3 (i : grid0.Coords) : Prop := k0_cond4 i = 1#1
/-- It holds at the points from point 1 on — decided over the grid. -/
theorem hcond0_3 : ∀ t : Fin cfg0.N, cond0_3 (grid0.coords t) ↔ 1 ≤ t.val :=
  (by decide +kernel : ∀ t : Fin grid0.N, cond0_3 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ cond0_3 i
instance conds0_C.dec (i : grid0.Coords) : Decidable (conds0_C i) :=
  @instDecidableAnd _ _ inferInstance (@instDecidableAnd _ _ inferInstance (@instDecidableAnd _ _ inferInstance inferInstance))
/-- Where the kernel's condition 2 holds, output 8 is stored, -/
theorem live0_8 (t : Fin cfg0.N) (h : cond0_1 (grid0.coords t)) : cfg0.idle 8 (grid0.coords t) = false := by
  show (!(k0_cond2 (grid0.coords t) == 1#1)) = false
  rw [show k0_cond2 (grid0.coords t) = 1#1 from h]; rfl
/-- and elsewhere it is left alone. -/
theorem idle0_8 (t : Fin cfg0.N) (h : ¬cond0_1 (grid0.coords t)) : cfg0.idle 8 (grid0.coords t) = true := by
  show (!(k0_cond2 (grid0.coords t) == 1#1)) = true
  rw [beq_eq_false_iff_ne.mpr (show k0_cond2 (grid0.coords t) ≠ 1#1 from h)]; rfl
/-- Where the kernel's condition 2 holds, output 9 is stored, -/
theorem live0_9 (t : Fin cfg0.N) (h : cond0_1 (grid0.coords t)) : cfg0.idle 9 (grid0.coords t) = false := by
  show (!(k0_cond2 (grid0.coords t) == 1#1)) = false
  rw [show k0_cond2 (grid0.coords t) = 1#1 from h]; rfl
/-- and elsewhere it is left alone. -/
theorem idle0_9 (t : Fin cfg0.N) (h : ¬cond0_1 (grid0.coords t)) : cfg0.idle 9 (grid0.coords t) = true := by
  show (!(k0_cond2 (grid0.coords t) == 1#1)) = true
  rw [beq_eq_false_iff_ne.mpr (show k0_cond2 (grid0.coords t) ≠ 1#1 from h)]; rfl
/-- Where the kernel's condition 4 holds, output 10 is stored, -/
theorem live0_10 (t : Fin cfg0.N) (h : cond0_3 (grid0.coords t)) : cfg0.idle 10 (grid0.coords t) = false := by
  show (!(k0_cond4 (grid0.coords t) == 1#1)) = false
  rw [show k0_cond4 (grid0.coords t) = 1#1 from h]; rfl
/-- and elsewhere it is left alone. -/
theorem idle0_10 (t : Fin cfg0.N) (h : ¬cond0_3 (grid0.coords t)) : cfg0.idle 10 (grid0.coords t) = true := by
  show (!(k0_cond4 (grid0.coords t) == 1#1)) = true
  rw [beq_eq_false_iff_ne.mpr (show k0_cond4 (grid0.coords t) ≠ 1#1 from h)]; rfl
/-- Where the kernel's condition 4 holds, output 11 is stored, -/
theorem live0_11 (t : Fin cfg0.N) (h : cond0_3 (grid0.coords t)) : cfg0.idle 11 (grid0.coords t) = false := by
  show (!(k0_cond4 (grid0.coords t) == 1#1)) = false
  rw [show k0_cond4 (grid0.coords t) = 1#1 from h]; rfl
/-- and elsewhere it is left alone. -/
theorem idle0_11 (t : Fin cfg0.N) (h : ¬cond0_3 (grid0.coords t)) : cfg0.idle 11 (grid0.coords t) = true := by
  show (!(k0_cond4 (grid0.coords t) == 1#1)) = true
  rw [beq_eq_false_iff_ne.mpr (show k0_cond4 (grid0.coords t) ≠ 1#1 from h)]; rfl

/-! ## The kernel body on any staging memrefs: a subtype the run finds -/

/-- One staging buffer of output window 8, through which its contents are stated (`View.read_writes_of_cover`: the
    choice does not matter). -/
abbrev VO0_8 : View sig .tc .vmem S1728x128 .i8 := (Memref.whole cc0_stg8_0 : Memref sig .tc .vmem S1728x128 .i8).view
/-- One staging buffer of output window 9, through which its contents are stated (`View.read_writes_of_cover`: the
    choice does not matter). -/
abbrev VO0_9 : View sig .tc .vmem S3456x128 .i8 := (Memref.whole cc0_stg9_0 : Memref sig .tc .vmem S3456x128 .i8).view
/-- One staging buffer of output window 10, through which its contents are stated (`View.read_writes_of_cover`: the
    choice does not matter). -/
abbrev VO0_10 : View sig .tc .vmem S3456x128 .i8 := (Memref.whole cc0_stg10_0 : Memref sig .tc .vmem S3456x128 .i8).view
/-- One staging buffer of output window 11, through which its contents are stated (`View.read_writes_of_cover`: the
    choice does not matter). -/
abbrev VO0_11 : View sig .tc .vmem S108x8x128 .bf16 := (Memref.whole cc0_stg11_0 : Memref sig .tc .vmem S108x8x128 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S108x8x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1728x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3456x128 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3456x128 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S108x8x128 .bf16 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S3x114x8x512 .f32 := Memref.whole cc0_scratch0
/-- The scratch `arg13` the kernel carries between points, as a view: what it holds is stated through it. -/
abbrev VS0_0 : View sig .tc .vmem S3x114x8x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Front.Gen

end
-- ==== Proof.FrontRunBits.RunA.lean ====
/- The front kernel's body at the first grid step: the scratch cleared, the first image row's norm codes and projection codes stored, and the row put in the scratch. -/
module

public import proofs.«01_k».proof.Proof.FrontRunBits.Cases

@[expose] public section

set_option maxRecDepth 16384

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at the first grid step: the scratch cleared, the first image row's norm codes and projection codes stored, and the row put in the scratch. The pieces it leaves in each buffer it stores into, with the proof that on whole
    staging memrefs it runs to the continuation holding the inputs as they were, those pieces written, and the buffers it
    does not store into as they were. -/
noncomputable def kernelRun0_A (c : Dev nD) (i : grid0.Coords) (arg1 : Memref sig .tc .smem S1 .f32) (harg1 : arg1.IsWhole) (arg2 : Memref sig .tc .vmem S108x8x256 .bf16) (harg2 : arg2.IsWhole) (arg3 : Memref sig .tc .vmem S8x256 .f32) (harg3 : arg3.IsWhole) (arg4 : Memref sig .tc .vmem S256x512 .bf16) (harg4 : arg4.IsWhole) (arg5 : Memref sig .tc .vmem S8x512 .f32) (harg5 : arg5.IsWhole) (arg6 : Memref sig .tc .vmem S16x512 .f32) (harg6 : arg6.IsWhole) (arg7 : Memref sig .tc .vmem S512x128 .bf16) (harg7 : arg7.IsWhole) (arg8 : Memref sig .tc .vmem S8x128 .f32) (harg8 : arg8.IsWhole) (arg9 : Memref sig .tc .vmem S1728x128 .i8) (harg9 : arg9.IsWhole) (arg10 : Memref sig .tc .vmem S3456x128 .i8) (harg10 : arg10.IsWhole) (arg11 : Memref sig .tc .vmem S3456x128 .i8) (harg11 : arg11.IsWhole) (arg12 : Memref sig .tc .vmem S108x8x128 .bf16) (harg12 : arg12.IsWhole) (arg13 : Memref sig .tc .vmem S3x114x8x512 .f32) (harg13 : arg13.IsWhole) (hc0 : cond0_0 i) (hc1 : cond0_1 i) (hc2 : ¬cond0_2 i) (hc3 : ¬cond0_3 i)
    (x0 : Vec F S1 .f32) (x1 : Vec F S108x8x256 .bf16) (x2 : Vec F S8x256 .f32) (x3 : Vec F S256x512 .bf16) (x4 : Vec F S8x512 .f32) (x5 : Vec F S16x512 .f32) (x6 : Vec F S512x128 .bf16) (x7 : Vec F S8x128 .f32) :
    Σ' (L8 : List (View.Piece (Elt F) S1728x128 .i8)), Σ' (L9 : List (View.Piece (Elt F) S3456x128 .i8)), { LS0 : List (View.Piece (Elt F) S3x114x8x512 .f32) //
      ∀ (xo10 : Vec F S3456x128 .i8) (xo11 : Vec F S108x8x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xo10 ∗ owns (c : Thread nD τ) arg12 fullShare xo11 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xo10 ∗ owns (c : Thread nD τ) arg12 fullShare xo11 ∗ (∃ f, arg13.view.loc (c : Thread nD τ) ↦[arg13.view.set]{fullShare} arg13.view.writes (Elt F) f LS0)) -∗ K ⟨⟩))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xo10 xo11 E K => ?run⟩
  case run =>
    simp only [cc0_front_eq_skeleton]; unfold cc0_front_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fo10, %ho10, H10⟩, ⟨%fo11, %ho11, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact ho10
      iexact H10
    isplitl [H11]
    · iexists _; isplitr; · ipureintro; exact ho11
      iexact H11
    iexists _; iexact HS0

end Cert.Front.Gen

end
-- ==== Proof.FrontRunBits.RunB.lean ====
/- The front kernel's body at a grid step between: an image row's codes stored, the row put in the scratch, and the convolution of the row before. -/
module

public import proofs.«01_k».proof.Proof.FrontRunBits.Cases

@[expose] public section

set_option maxRecDepth 16384

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at a grid step between: an image row's codes stored, the row put in the scratch, and the convolution of the row before. The pieces it leaves in each buffer it stores into, with the proof that on whole
    staging memrefs it runs to the continuation holding the inputs as they were, those pieces written, and the buffers it
    does not store into as they were. -/
noncomputable def kernelRun0_B (c : Dev nD) (i : grid0.Coords) (arg1 : Memref sig .tc .smem S1 .f32) (harg1 : arg1.IsWhole) (arg2 : Memref sig .tc .vmem S108x8x256 .bf16) (harg2 : arg2.IsWhole) (arg3 : Memref sig .tc .vmem S8x256 .f32) (harg3 : arg3.IsWhole) (arg4 : Memref sig .tc .vmem S256x512 .bf16) (harg4 : arg4.IsWhole) (arg5 : Memref sig .tc .vmem S8x512 .f32) (harg5 : arg5.IsWhole) (arg6 : Memref sig .tc .vmem S16x512 .f32) (harg6 : arg6.IsWhole) (arg7 : Memref sig .tc .vmem S512x128 .bf16) (harg7 : arg7.IsWhole) (arg8 : Memref sig .tc .vmem S8x128 .f32) (harg8 : arg8.IsWhole) (arg9 : Memref sig .tc .vmem S1728x128 .i8) (harg9 : arg9.IsWhole) (arg10 : Memref sig .tc .vmem S3456x128 .i8) (harg10 : arg10.IsWhole) (arg11 : Memref sig .tc .vmem S3456x128 .i8) (harg11 : arg11.IsWhole) (arg12 : Memref sig .tc .vmem S108x8x128 .bf16) (harg12 : arg12.IsWhole) (arg13 : Memref sig .tc .vmem S3x114x8x512 .f32) (harg13 : arg13.IsWhole) (hc0 : ¬cond0_0 i) (hc1 : cond0_1 i) (hc2 : ¬cond0_2 i) (hc3 : cond0_3 i)
    (x0 : Vec F S1 .f32) (x1 : Vec F S108x8x256 .bf16) (x2 : Vec F S8x256 .f32) (x3 : Vec F S256x512 .bf16) (x4 : Vec F S8x512 .f32) (x5 : Vec F S16x512 .f32) (x6 : Vec F S512x128 .bf16) (x7 : Vec F S8x128 .f32) (xs0 : Vec F S3x114x8x512 .f32) :
    Σ' (L8 : List (View.Piece (Elt F) S1728x128 .i8)), Σ' (L9 : List (View.Piece (Elt F) S3456x128 .i8)), Σ' (L10 : List (View.Piece (Elt F) S3456x128 .i8)), Σ' (L11 : List (View.Piece (Elt F) S108x8x128 .bf16)), { LS0 : List (View.Piece (Elt F) S3x114x8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread xs0) LS0)) -∗ K ⟨⟩))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_front_eq_skeleton]; unfold cc0_front_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    iexact HS0

end Cert.Front.Gen

end
-- ==== Proof.FrontRunBits.RunC.lean ====
/- The front kernel's body at the last grid step: a row of zeros put in the scratch, and the convolution of the last image row. -/
module

public import proofs.«01_k».proof.Proof.FrontRunBits.Cases

@[expose] public section

set_option maxRecDepth 16384

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at the last grid step: a row of zeros put in the scratch, and the convolution of the last image row. The pieces it leaves in each buffer it stores into, with the proof that on whole
    staging memrefs it runs to the continuation holding the inputs as they were, those pieces written, and the buffers it
    does not store into as they were. -/
noncomputable def kernelRun0_C (c : Dev nD) (i : grid0.Coords) (arg1 : Memref sig .tc .smem S1 .f32) (harg1 : arg1.IsWhole) (arg2 : Memref sig .tc .vmem S108x8x256 .bf16) (harg2 : arg2.IsWhole) (arg3 : Memref sig .tc .vmem S8x256 .f32) (harg3 : arg3.IsWhole) (arg4 : Memref sig .tc .vmem S256x512 .bf16) (harg4 : arg4.IsWhole) (arg5 : Memref sig .tc .vmem S8x512 .f32) (harg5 : arg5.IsWhole) (arg6 : Memref sig .tc .vmem S16x512 .f32) (harg6 : arg6.IsWhole) (arg7 : Memref sig .tc .vmem S512x128 .bf16) (harg7 : arg7.IsWhole) (arg8 : Memref sig .tc .vmem S8x128 .f32) (harg8 : arg8.IsWhole) (arg9 : Memref sig .tc .vmem S1728x128 .i8) (harg9 : arg9.IsWhole) (arg10 : Memref sig .tc .vmem S3456x128 .i8) (harg10 : arg10.IsWhole) (arg11 : Memref sig .tc .vmem S3456x128 .i8) (harg11 : arg11.IsWhole) (arg12 : Memref sig .tc .vmem S108x8x128 .bf16) (harg12 : arg12.IsWhole) (arg13 : Memref sig .tc .vmem S3x114x8x512 .f32) (harg13 : arg13.IsWhole) (hc0 : ¬cond0_0 i) (hc1 : ¬cond0_1 i) (hc2 : cond0_2 i) (hc3 : cond0_3 i)
    (x0 : Vec F S1 .f32) (x1 : Vec F S108x8x256 .bf16) (x2 : Vec F S8x256 .f32) (x3 : Vec F S256x512 .bf16) (x4 : Vec F S8x512 .f32) (x5 : Vec F S16x512 .f32) (x6 : Vec F S512x128 .bf16) (x7 : Vec F S8x128 .f32) (xs0 : Vec F S3x114x8x512 .f32) :
    Σ' (L10 : List (View.Piece (Elt F) S3456x128 .i8)), Σ' (L11 : List (View.Piece (Elt F) S108x8x128 .bf16)), { LS0 : List (View.Piece (Elt F) S3x114x8x512 .f32) //
      ∀ (xo8 : Vec F S1728x128 .i8) (xo9 : Vec F S3456x128 .i8) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ owns (c : Thread nD τ) arg10 fullShare xo9 ∗ (∃ d, owns (c : Thread nD τ) arg11 fullShare d) ∗ (∃ d, owns (c : Thread nD τ) arg12 fullShare d) ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ owns (c : Thread nD τ) arg10 fullShare xo9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread xs0) LS0)) -∗ K ⟨⟩))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xo8 xo9 E K => ?run⟩
  case run =>
    simp only [cc0_front_eq_skeleton]; unfold cc0_front_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo8, %ho8, H8⟩, ⟨%fo9, %ho9, H9⟩, ⟨%d10, %f10, -, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact ho8
      iexact H8
    isplitl [H9]
    · iexists _; isplitr; · ipureintro; exact ho9
      iexact H9
    isplitl [H10]; · iexists _; iexact H10
    isplitl [H11]; · iexists _; iexact H11
    iexact HS0

end Cert.Front.Gen

end
-- ==== Proof.FrontRunBits.Outs.lean ====
/- What the front kernel's body leaves in the outputs' buffers and in the scratch, point by point: the three kinds of point, each buffer's stores covering it, and the recursion over the grid that carries the scratch from one point to the next. -/
module

public import proofs.«01_k».proof.Proof.FrontRunBits.RunA
public import proofs.«01_k».proof.Proof.FrontRunBits.RunB
public import proofs.«01_k».proof.Proof.FrontRunBits.RunC

@[expose] public section

set_option maxRecDepth 16384

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at the first point. -/
abbrev runA (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    ((hcond0_0 t).mpr (by omega)) ((hcond0_1 t).mpr (by omega)) (fun q => by have := (hcond0_2 t).mp q; omega) (fun q => by have := (hcond0_3 t).mp q; omega) (iblk m c 0 t) (iblk m c 1 t) (iblk m c 2 t) (iblk m c 3 t) (iblk m c 4 t) (iblk m c 5 t) (iblk m c 6 t) (iblk m c 7 t)

/-- The body's run at a point between, from scratch contents `xs`. -/
abbrev runB (c : Dev nD) (t : Fin cfg0.N) (h : t.val ≠ 0) (h' : t.val < 28) (xs : Vec F S3x114x8x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    (fun q => by have := (hcond0_0 t).mp q; omega) ((hcond0_1 t).mpr h') (fun q => by have := (hcond0_2 t).mp q; omega) ((hcond0_3 t).mpr (by omega)) (iblk m c 0 t) (iblk m c 1 t) (iblk m c 2 t) (iblk m c 3 t) (iblk m c 4 t) (iblk m c 5 t) (iblk m c 6 t) (iblk m c 7 t) xs

/-- A point that is not before point 28 is point 28. -/
theorem last_val (t : Fin cfg0.N) (h : ¬t.val < 28) : t.val = 28 := by
  have hN : t.val < 29 := lt_of_lt_of_eq t.isLt (show cfg0.N = 29 from N_0); omega

/-- The body's run at the last point, from scratch contents `xs`. -/
abbrev runC (c : Dev nD) (t : Fin cfg0.N) (h : ¬t.val < 28) (xs : Vec F S3x114x8x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    (fun q => by have := (hcond0_0 t).mp q; have := last_val t h; omega) (fun q => h ((hcond0_1 t).mp q)) ((hcond0_2 t).mpr (by have := last_val t h; omega)) ((hcond0_3 t).mpr (by omega)) (iblk m c 0 t) (iblk m c 1 t) (iblk m c 2 t) (iblk m c 3 t) (iblk m c 4 t) (iblk m c 5 t) (iblk m c 6 t) (iblk m c 7 t) xs

/-- Output 8's stores cover its buffer. -/
theorem coverA_8 (c : Dev nD) (t : Fin cfg0.N) (h : t.val = 0) (y : S1728x128.Idx) : ∃ pc ∈ (runA m c t h).1, y ∈ pc.1.set :=
  View.cover_of_tiledL (runA m c t h).1 S1728x128.size (by sl_kernel_rfl) y

/-- Output 9's stores cover its buffer. -/
theorem coverA_9 (c : Dev nD) (t : Fin cfg0.N) (h : t.val = 0) (y : S3456x128.Idx) : ∃ pc ∈ (runA m c t h).2.1, y ∈ pc.1.set :=
  View.cover_of_tiledL (runA m c t h).2.1 S3456x128.size (by sl_kernel_rfl) y

/-- Output 8's stores cover its buffer. -/
theorem coverB_8 (c : Dev nD) (t : Fin cfg0.N) (h : t.val ≠ 0) (h' : t.val < 28) (xs : Vec F S3x114x8x512 .f32) (y : S1728x128.Idx) : ∃ pc ∈ (runB m c t h h' xs).1, y ∈ pc.1.set :=
  View.cover_of_tiledL (runB m c t h h' xs).1 S1728x128.size (by sl_kernel_rfl) y

/-- Output 9's stores cover its buffer. -/
theorem coverB_9 (c : Dev nD) (t : Fin cfg0.N) (h : t.val ≠ 0) (h' : t.val < 28) (xs : Vec F S3x114x8x512 .f32) (y : S3456x128.Idx) : ∃ pc ∈ (runB m c t h h' xs).2.1, y ∈ pc.1.set :=
  View.cover_of_tiledL (runB m c t h h' xs).2.1 S3456x128.size (by sl_kernel_rfl) y

/-- Output 10's stores cover its buffer. -/
theorem coverB_10 (c : Dev nD) (t : Fin cfg0.N) (h : t.val ≠ 0) (h' : t.val < 28) (xs : Vec F S3x114x8x512 .f32) (y : S3456x128.Idx) : ∃ pc ∈ (runB m c t h h' xs).2.2.1, y ∈ pc.1.set :=
  View.cover_of_tiledL (runB m c t h h' xs).2.2.1 S3456x128.size (by sl_kernel_rfl) y

/-- Output 11's stores cover its buffer. -/
theorem coverB_11 (c : Dev nD) (t : Fin cfg0.N) (h : t.val ≠ 0) (h' : t.val < 28) (xs : Vec F S3x114x8x512 .f32) (y : S108x8x128.Idx) : ∃ pc ∈ (runB m c t h h' xs).2.2.2.1, y ∈ pc.1.set :=
  View.cover_of_tiledL (runB m c t h h' xs).2.2.2.1 S108x8x128.size (by sl_kernel_rfl) y

/-- Output 10's stores cover its buffer. -/
theorem coverC_10 (c : Dev nD) (t : Fin cfg0.N) (h : ¬t.val < 28) (xs : Vec F S3x114x8x512 .f32) (y : S3456x128.Idx) : ∃ pc ∈ (runC m c t h xs).1, y ∈ pc.1.set :=
  View.cover_of_tiledL (runC m c t h xs).1 S3456x128.size (by sl_kernel_rfl) y

/-- Output 11's stores cover its buffer. -/
theorem coverC_11 (c : Dev nD) (t : Fin cfg0.N) (h : ¬t.val < 28) (xs : Vec F S3x114x8x512 .f32) (y : S108x8x128.Idx) : ∃ pc ∈ (runC m c t h xs).2.1, y ∈ pc.1.set :=
  View.cover_of_tiledL (runC m c t h xs).2.1 S108x8x128.size (by sl_kernel_rfl) y

/-- At the first point the stores into the scratch cover it: the one that clears it does. -/
theorem coverA_s (c : Dev nD) (t : Fin cfg0.N) (h : t.val = 0) (y : S3x114x8x512.Idx) : ∃ pc ∈ (runA m c t h).2.2.1, y ∈ pc.1.set := by
  obtain ⟨pc, hp, hy⟩ := View.cover_of_tiledL (runA m c t h).2.2.1.tail S3x114x8x512.size (by sl_kernel_rfl) y
  exact ⟨pc, List.mem_of_mem_tail hp, hy⟩

/-- The outputs' buffers' contents (windows 8 to 11) and the scratch's after a point. -/
abbrev Outs (F : FTy → Type) := Vec F S1728x128 .i8 × Vec F S3456x128 .i8 × Vec F S3456x128 .i8 × Vec F S108x8x128 .bf16 × Vec F S3x114x8x512 .f32

/-- What the first point leaves; the two buffers it does not store into stand at an arbitrary value. -/
def outsA (c : Dev nD) (t : Fin cfg0.N) (h : t.val = 0) : Outs F :=
  (VO0_8.read (Elt F) (VO0_8.writes (Elt F) VO0_8.junk (runA m c t h).1), VO0_9.read (Elt F) (VO0_9.writes (Elt F) VO0_9.junk (runA m c t h).2.1),
    VO0_10.read (Elt F) VO0_10.junk, VO0_11.read (Elt F) VO0_11.junk, VS0_0.read (Elt F) (VS0_0.writes (Elt F) VS0_0.junk (runA m c t h).2.2.1))

/-- What a point between leaves, from scratch contents `xs`. -/
def outsB (c : Dev nD) (t : Fin cfg0.N) (h : t.val ≠ 0) (h' : t.val < 28) (xs : Vec F S3x114x8x512 .f32) : Outs F :=
  (VO0_8.read (Elt F) (VO0_8.writes (Elt F) VO0_8.junk (runB m c t h h' xs).1), VO0_9.read (Elt F) (VO0_9.writes (Elt F) VO0_9.junk (runB m c t h h' xs).2.1),
    VO0_10.read (Elt F) (VO0_10.writes (Elt F) VO0_10.junk (runB m c t h h' xs).2.2.1), VO0_11.read (Elt F) (VO0_11.writes (Elt F) VO0_11.junk (runB m c t h h' xs).2.2.2.1),
    scM0_0.view.read (Elt F) (scM0_0.view.writes (Elt F) ((Memref.isWhole_whole cc0_scratch0).unread xs) (runB m c t h h' xs).2.2.2.2.1))

/-- What the last point leaves, from the contents `p` the point before left: windows 8 and 9 keep theirs. -/
def outsC (c : Dev nD) (t : Fin cfg0.N) (h : ¬t.val < 28) (p : Outs F) : Outs F :=
  (p.1, p.2.1, VO0_10.read (Elt F) (VO0_10.writes (Elt F) VO0_10.junk (runC m c t h p.2.2.2.2).1), VO0_11.read (Elt F) (VO0_11.writes (Elt F) VO0_11.junk (runC m c t h p.2.2.2.2).2.1),
    scM0_0.view.read (Elt F) (scM0_0.view.writes (Elt F) ((Memref.isWhole_whole cc0_scratch0).unread p.2.2.2.2) (runC m c t h p.2.2.2.2).2.2.1))

/-- What point `n` leaves: the recursion over the grid. -/
def outsAt0 (c : Dev nD) : (n : ℕ) → n < cfg0.N → Outs F
  | 0, hn => outsA m c ⟨0, hn⟩ rfl
  | n + 1, hn => if h : n + 1 < 28 then outsB m c ⟨n + 1, hn⟩ (Nat.succ_ne_zero n) h (outsAt0 c n (Nat.lt_of_succ_lt hn)).2.2.2.2
      else outsC m c ⟨n + 1, hn⟩ h (outsAt0 c n (Nat.lt_of_succ_lt hn))

/-- At the first point. -/
theorem outsAt0_A (c : Dev nD) (t : Fin cfg0.N) (h : t.val = 0) : outsAt0 m c t.val t.isLt = outsA m c t h := by
  obtain ⟨n, hn⟩ := t
  cases n with
  | zero => rfl
  | succ n => exact absurd h (Nat.succ_ne_zero n)

/-- At a point between. -/
theorem outsAt0_B (c : Dev nD) (t : Fin cfg0.N) (h : t.val ≠ 0) (h' : t.val < 28) :
    outsAt0 m c t.val t.isLt = outsB m c t h h' (outsAt0 m c (t.val - 1) (Nat.lt_of_le_of_lt (Nat.sub_le _ _) t.isLt)).2.2.2.2 := by
  obtain ⟨n, hn⟩ := t
  cases n with
  | zero => exact absurd rfl h
  | succ n => exact dif_pos h'

/-- At the last point. -/
theorem outsAt0_C (c : Dev nD) (t : Fin cfg0.N) (h : ¬t.val < 28) :
    outsAt0 m c t.val t.isLt = outsC m c t h (outsAt0 m c (t.val - 1) (Nat.lt_of_le_of_lt (Nat.sub_le _ _) t.isLt)) := by
  obtain ⟨n, hn⟩ := t
  cases n with
  | zero => exact absurd (show (0 : ℕ) < 28 by decide) h
  | succ n => exact dif_neg h

end Cert.Front.Gen

end
-- ==== Proof.FrontRunBits.Frame.lean ====
/- The front kernel's body obligation, its run and its frame. -/
module

public import proofs.«01_k».proof.Proof.FrontRunBits.Outs
public import Idealize.ShloMosaic.Lib.Claim

@[expose] public section

set_option maxRecDepth 16384

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n`: before the first point every scratch at anything; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- Window 8 and 9 are written back at the last point only among points 27 and 28, and windows 10 and 11 are not written back at
    point 0. -/
theorem flush8 : ∀ t : Fin cfg0.N, t.val = 27 → (cfg0.win 8).flush t = false := by decide +kernel
theorem flush9 : ∀ t : Fin cfg0.N, t.val = 27 → (cfg0.win 9).flush t = false := by decide +kernel
theorem flush8' : ∀ t : Fin cfg0.N, t.val = 28 → (cfg0.win 8).flush t = true := by decide +kernel
theorem flush9' : ∀ t : Fin cfg0.N, t.val = 28 → (cfg0.win 9).flush t = true := by decide +kernel
theorem flush10 : ∀ t : Fin cfg0.N, t.val = 0 → (cfg0.win 10).flush t = false := by decide +kernel
theorem flush11 : ∀ t : Fin cfg0.N, t.val = 0 → (cfg0.win 11).flush t = false := by decide +kernel

theorem leaves_0 (c : Dev nD) (t : Fin cfg0.N) : (dats m 0 c).leavesExact 0 t = owns (c : Thread nD τ) (ms0_0 t) fullShare (iblk m c 0 t) := by
  unfold Dat.leavesExact; rw [liveAt0_0 t, after0_0]
theorem leaves_1 (c : Dev nD) (t : Fin cfg0.N) : (dats m 0 c).leavesExact 1 t = owns (c : Thread nD τ) (ms0_1 t) fullShare (iblk m c 1 t) := by
  unfold Dat.leavesExact; rw [liveAt0_1 t, after0_1]
theorem leaves_2 (c : Dev nD) (t : Fin cfg0.N) : (dats m 0 c).leavesExact 2 t = owns (c : Thread nD τ) (ms0_2 t) fullShare (iblk m c 2 t) := by
  unfold Dat.leavesExact; rw [liveAt0_2 t, after0_2]
theorem leaves_3 (c : Dev nD) (t : Fin cfg0.N) : (dats m 0 c).leavesExact 3 t = owns (c : Thread nD τ) (ms0_3 t) fullShare (iblk m c 3 t) := by
  unfold Dat.leavesExact; rw [liveAt0_3 t, after0_3]
theorem leaves_4 (c : Dev nD) (t : Fin cfg0.N) : (dats m 0 c).leavesExact 4 t = owns (c : Thread nD τ) (ms0_4 t) fullShare (iblk m c 4 t) := by
  unfold Dat.leavesExact; rw [liveAt0_4 t, after0_4]
theorem leaves_5 (c : Dev nD) (t : Fin cfg0.N) : (dats m 0 c).leavesExact 5 t = owns (c : Thread nD τ) (ms0_5 t) fullShare (iblk m c 5 t) := by
  unfold Dat.leavesExact; rw [liveAt0_5 t, after0_5]
theorem leaves_6 (c : Dev nD) (t : Fin cfg0.N) : (dats m 0 c).leavesExact 6 t = owns (c : Thread nD τ) (ms0_6 t) fullShare (iblk m c 6 t) := by
  unfold Dat.leavesExact; rw [liveAt0_6 t, after0_6]
theorem leaves_7 (c : Dev nD) (t : Fin cfg0.N) : (dats m 0 c).leavesExact 7 t = owns (c : Thread nD τ) (ms0_7 t) fullShare (iblk m c 7 t) := by
  unfold Dat.leavesExact; rw [liveAt0_7 t, after0_7]
theorem leaves_8 (c : Dev nD) (t : Fin cfg0.N) (h : t.val < 28) : (dats m 0 c).leavesExact 8 t = owns (c : Thread nD τ) (ms0_8 t) fullShare (outsAt0 m c t.val t.isLt).1 := by
  unfold Dat.leavesExact; rw [live0_8 t ((hcond0_1 t).mpr h), after0_8]
theorem leaves_9 (c : Dev nD) (t : Fin cfg0.N) (h : t.val < 28) : (dats m 0 c).leavesExact 9 t = owns (c : Thread nD τ) (ms0_9 t) fullShare (outsAt0 m c t.val t.isLt).2.1 := by
  unfold Dat.leavesExact; rw [live0_9 t ((hcond0_1 t).mpr h), after0_9]
theorem leaves_10 (c : Dev nD) (t : Fin cfg0.N) (h : 1 ≤ t.val) : (dats m 0 c).leavesExact 10 t = owns (c : Thread nD τ) (ms0_10 t) fullShare (outsAt0 m c t.val t.isLt).2.2.1 := by
  unfold Dat.leavesExact; rw [live0_10 t ((hcond0_3 t).mpr h), after0_10]
theorem leaves_11 (c : Dev nD) (t : Fin cfg0.N) (h : 1 ≤ t.val) : (dats m 0 c).leavesExact 11 t = owns (c : Thread nD τ) (ms0_11 t) fullShare (outsAt0 m c t.val t.isLt).2.2.2.1 := by
  unfold Dat.leavesExact; rw [live0_11 t ((hcond0_3 t).mpr h), after0_11]
theorem leaves_8_last (c : Dev nD) (t : Fin cfg0.N) (h : ¬t.val < 28) : (dats m 0 c).leavesExact 8 t = owns (c : Thread nD τ) (ms0_8 t) fullShare (outsAt0 m c t.val t.isLt).1 := by
  unfold Dat.leavesExact; rw [idle0_8 t (fun q => h ((hcond0_1 t).mp q)), flush8' t (last_val t h), after0_8]
theorem before_8_last (c : Dev nD) (t : Fin cfg0.N) (h : ¬t.val < 28) (d) :
    (dats m 0 c).before 8 t d = (outsAt0 m c (t.val - 1) (Nat.lt_of_le_of_lt (Nat.sub_le _ _) t.isLt)).1 := by
  have h28 := last_val t h
  have hlt : t.val - 1 < cfg0.N := Nat.lt_of_le_of_lt (Nat.sub_le _ _) t.isLt
  rw [(dats m 0 c).before_of_pos 8 t (by omega) ((cfg0.win 8).fetch_out rfl t), flush8 ⟨t.val - 1, hlt⟩ (by simp only [h28]), if_neg Bool.false_ne_true]
  unfold Dat.left
  rw [live0_8 ⟨t.val - 1, hlt⟩ ((hcond0_1 _).mpr (by simp only [h28]; omega))]
  exact after0_8 m c ⟨t.val - 1, hlt⟩
theorem leaves_9_last (c : Dev nD) (t : Fin cfg0.N) (h : ¬t.val < 28) : (dats m 0 c).leavesExact 9 t = owns (c : Thread nD τ) (ms0_9 t) fullShare (outsAt0 m c t.val t.isLt).2.1 := by
  unfold Dat.leavesExact; rw [idle0_9 t (fun q => h ((hcond0_1 t).mp q)), flush9' t (last_val t h), after0_9]
theorem before_9_last (c : Dev nD) (t : Fin cfg0.N) (h : ¬t.val < 28) (d) :
    (dats m 0 c).before 9 t d = (outsAt0 m c (t.val - 1) (Nat.lt_of_le_of_lt (Nat.sub_le _ _) t.isLt)).2.1 := by
  have h28 := last_val t h
  have hlt : t.val - 1 < cfg0.N := Nat.lt_of_le_of_lt (Nat.sub_le _ _) t.isLt
  rw [(dats m 0 c).before_of_pos 9 t (by omega) ((cfg0.win 9).fetch_out rfl t), flush9 ⟨t.val - 1, hlt⟩ (by simp only [h28]), if_neg Bool.false_ne_true]
  unfold Dat.left
  rw [live0_9 ⟨t.val - 1, hlt⟩ ((hcond0_1 _).mpr (by simp only [h28]; omega))]
  exact after0_9 m c ⟨t.val - 1, hlt⟩
theorem leaves_10_first (c : Dev nD) (t : Fin cfg0.N) (h : t.val = 0) :
    (dats m 0 c).leavesExact 10 t = iprop(∃ d, owns (c : Thread nD τ) (ms0_10 t) fullShare ((dats m 0 c).before 10 t d)) :=
  (dats m 0 c).leavesExact_idle 10 t (idle0_10 t (fun q => by have := (hcond0_3 t).mp q; omega)) (flush10 t h)
theorem leaves_11_first (c : Dev nD) (t : Fin cfg0.N) (h : t.val = 0) :
    (dats m 0 c).leavesExact 11 t = iprop(∃ d, owns (c : Thread nD τ) (ms0_11 t) fullShare ((dats m 0 c).before 11 t d)) :=
  (dats m 0 c).leavesExact_idle 11 t (idle0_11 t (fun q => by have := (hcond0_3 t).mp q; omega)) (flush11 t h)

set_option maxHeartbeats 2000000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8 m c t (by omega), leaves_9 m c t (by omega), leaves_10_first m c t h, leaves_11_first m c t h]
  rw [PhiS_castSucc m c t, PhiS_zero m c _ _ h, PhiA0_eq, outsAt0_A m c t h]
  unfold outsA; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runA m c t h).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [HS0]; · iexact HS0
  iintro ⟨H0, H1, H2, H3, H4, H5, H6, H7, ⟨%e8, H8⟩, ⟨%e9, H9⟩, H10, H11, ⟨%es0, HS0⟩⟩
  isplitl [HS0 Hg]
  · isplitl [HS0]
    · unfold owns; iexists _; isplitr
      swap; · iexact HS0
      ipureintro; exact View.read_writes_of_cover _ _ _ _ _ (coverA_s m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverA_8 m c t h)
  isplitl [H9]
  · unfold owns; iexists _; isplitr
    swap; · iexact H9
    ipureintro; exact View.read_writes_of_cover _ _ _ _ _ (coverA_9 m c t h)
  isplitl [H10]; · iexists _; iexact H10
  iexists _; iexact H11

set_option maxHeartbeats 2000000 in
/-- The body at a point between. -/
theorem sound_B (c : Dev nD) (t : Fin cfg0.N) (h : t.val ≠ 0) (h' : t.val < 28) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8 m c t h', leaves_9 m c t h', leaves_10 m c t (by omega), leaves_11 m c t (by omega)]
  rw [PhiS_castSucc m c t, PhiS_pos m c _ _ h, outsAt0_B m c t h h']
  unfold outsB; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB m c t h h' (outsAt0 m c (t.val - 1) (Nat.lt_of_le_of_lt (Nat.sub_le _ _) t.isLt)).2.2.2.2).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  iintro ⟨H0, H1, H2, H3, H4, H5, H6, H7, ⟨%e8, H8⟩, ⟨%e9, H9⟩, ⟨%e10, H10⟩, ⟨%e11, H11⟩, HS0⟩
  isplitl [HS0 Hg]
  · isplitl [HS0]
    · unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverB_8 m c t h h' (outsAt0 m c (t.val - 1) (Nat.lt_of_le_of_lt (Nat.sub_le _ _) t.isLt)).2.2.2.2)
  isplitl [H9]
  · unfold owns; iexists _; isplitr
    swap; · iexact H9
    ipureintro; exact View.read_writes_of_cover _ _ _ _ _ (coverB_9 m c t h h' (outsAt0 m c (t.val - 1) (Nat.lt_of_le_of_lt (Nat.sub_le _ _) t.isLt)).2.2.2.2)
  isplitl [H10]
  · unfold owns; iexists _; isplitr
    swap; · iexact H10
    ipureintro; exact View.read_writes_of_cover _ _ _ _ _ (coverB_10 m c t h h' (outsAt0 m c (t.val - 1) (Nat.lt_of_le_of_lt (Nat.sub_le _ _) t.isLt)).2.2.2.2)
  unfold owns; iexists _; isplitr
  swap; · iexact H11
  ipureintro; exact View.read_writes_of_cover _ _ _ _ _ (coverB_11 m c t h h' (outsAt0 m c (t.val - 1) (Nat.lt_of_le_of_lt (Nat.sub_le _ _) t.isLt)).2.2.2.2)

set_option maxHeartbeats 2000000 in
/-- The body at the last point. -/
theorem sound_C (c : Dev nD) (t : Fin cfg0.N) (h : ¬t.val < 28) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8_last m c t h, leaves_9_last m c t h, leaves_10 m c t (by omega), leaves_11 m c t (by omega)]
  rw [PhiS_castSucc m c t, PhiS_pos m c _ _ (by omega), outsAt0_C m c t h]
  simp only [before_8_last m c t h, before_9_last m c t h]
  unfold outsC; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runC m c t h (outsAt0 m c (t.val - 1) (Nat.lt_of_le_of_lt (Nat.sub_le _ _) t.isLt)).2.2.2.2).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  iintro ⟨H0, H1, H2, H3, H4, H5, H6, H7, H8, H9, ⟨%e10, H10⟩, ⟨%e11, H11⟩, HS0⟩
  isplitl [HS0 Hg]
  · isplitl [HS0]
    · unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverC_10 m c t h (outsAt0 m c (t.val - 1) (Nat.lt_of_le_of_lt (Nat.sub_le _ _) t.isLt)).2.2.2.2)
  unfold owns; iexists _; isplitr
  swap; · iexact H11
  ipureintro; exact View.read_writes_of_cover _ _ _ _ _ (coverC_11 m c t h (outsAt0 m c (t.val - 1) (Nat.lt_of_le_of_lt (Nat.sub_le _ _) t.isLt)).2.2.2.2)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_A m c t h
  by_cases h' : t.val < 28
  · exact sound_B m c t h h'
  · exact sound_C m c t h'

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 29 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The frame claim's statement: the run ends, the argument arrays end unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Front.Gen

end
-- ==== Proof.FrontRun.Cases.lean ====
/- The cases of the front kernel's conditionals, its staging memrefs and its scratch. -/
module

public import proofs.«01_k».proof.Proof.Gen.FrontIdeal.Frame
public import proofs.«01_k».proof.Proof.Gen.FrontIdeal.Skeleton
public import Idealize.ShloMosaic.Lib.Claim

@[expose] public section

set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first condition's word, from the grid coordinate. -/
abbrev k0_cond1 (i : grid0.Coords) : BitVec 1 :=
  Scalar.cmpi .ne (Scalar.extui (Scalar.cmpi .eq (BitVec.ofNat 32 (i 0).val) 0#32) : BitVec 32) 0#32

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 29 = 0 :=
  (fun t => by
    have ht : t.val < 29 := Nat.lt_of_lt_of_eq t.isLt N_0
    have e0 : (grid0.coords t 0).val = t.val / 1 % 29 := Pipeline.Grid.coords_val t 0 (by decide) rfl
    simp only [cond0_0, k0_cond1, e0]
    word_cmp
   : ∀ t : Fin grid0.N, cond0_0 (grid0.coords t) ↔ t.val % 29 = 0)

/-- The condition of the body's `scf.if` 1 (`k0_h2`), from the grid coordinates (the skeleton's scalar
    chain substituted). -/
abbrev cond0_1 (i : grid0.Coords) : Prop := k0_cond2 i = 1#1
/-- It holds at the points before point 28 — decided over the grid. -/
theorem hcond0_1 : ∀ t : Fin cfg0.N, cond0_1 (grid0.coords t) ↔ t.val < 28 :=
  (by decide +kernel : ∀ t : Fin grid0.N, cond0_1 (grid0.coords t) ↔ t.val < 28)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 29 = 28 :=
  (fun t => by
    have ht : t.val < 29 := Nat.lt_of_lt_of_eq t.isLt N_0
    have e0 : (grid0.coords t 0).val = t.val / 1 % 29 := Pipeline.Grid.coords_val t 0 (by decide) rfl
    simp only [cond0_2, k0_cond3, e0]
    word_cmp
   : ∀ t : Fin grid0.N, cond0_2 (grid0.coords t) ↔ t.val % 29 = 28)

/-- The condition of the body's `scf.if` 3 (`k0_h4`), from the grid coordinates (the skeleton's scalar
    chain substituted). -/
abbrev cond0_3 (i : grid0.Coords) : Prop := k0_cond4 i = 1#1
/-- It holds at the points from point 1 on — decided over the grid. -/
theorem hcond0_3 : ∀ t : Fin cfg0.N, cond0_3 (grid0.coords t) ↔ 1 ≤ t.val :=
  (by decide +kernel : ∀ t : Fin grid0.N, cond0_3 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ cond0_3 i
instance conds0_C.dec (i : grid0.Coords) : Decidable (conds0_C i) :=
  @instDecidableAnd _ _ inferInstance (@instDecidableAnd _ _ inferInstance (@instDecidableAnd _ _ inferInstance inferInstance))
/-- Where the kernel's condition 2 holds, output 8 is stored, -/
theorem live0_8 (t : Fin cfg0.N) (h : cond0_1 (grid0.coords t)) : cfg0.idle 8 (grid0.coords t) = false := by
  show (!(k0_cond2 (grid0.coords t) == 1#1)) = false
  rw [show k0_cond2 (grid0.coords t) = 1#1 from h]; rfl
/-- and elsewhere it is left alone. -/
theorem idle0_8 (t : Fin cfg0.N) (h : ¬cond0_1 (grid0.coords t)) : cfg0.idle 8 (grid0.coords t) = true := by
  show (!(k0_cond2 (grid0.coords t) == 1#1)) = true
  rw [beq_eq_false_iff_ne.mpr (show k0_cond2 (grid0.coords t) ≠ 1#1 from h)]; rfl
/-- Where the kernel's condition 2 holds, output 9 is stored, -/
theorem live0_9 (t : Fin cfg0.N) (h : cond0_1 (grid0.coords t)) : cfg0.idle 9 (grid0.coords t) = false := by
  show (!(k0_cond2 (grid0.coords t) == 1#1)) = false
  rw [show k0_cond2 (grid0.coords t) = 1#1 from h]; rfl
/-- and elsewhere it is left alone. -/
theorem idle0_9 (t : Fin cfg0.N) (h : ¬cond0_1 (grid0.coords t)) : cfg0.idle 9 (grid0.coords t) = true := by
  show (!(k0_cond2 (grid0.coords t) == 1#1)) = true
  rw [beq_eq_false_iff_ne.mpr (show k0_cond2 (grid0.coords t) ≠ 1#1 from h)]; rfl
/-- Where the kernel's condition 4 holds, output 10 is stored, -/
theorem live0_10 (t : Fin cfg0.N) (h : cond0_3 (grid0.coords t)) : cfg0.idle 10 (grid0.coords t) = false := by
  show (!(k0_cond4 (grid0.coords t) == 1#1)) = false
  rw [show k0_cond4 (grid0.coords t) = 1#1 from h]; rfl
/-- and elsewhere it is left alone. -/
theorem idle0_10 (t : Fin cfg0.N) (h : ¬cond0_3 (grid0.coords t)) : cfg0.idle 10 (grid0.coords t) = true := by
  show (!(k0_cond4 (grid0.coords t) == 1#1)) = true
  rw [beq_eq_false_iff_ne.mpr (show k0_cond4 (grid0.coords t) ≠ 1#1 from h)]; rfl
/-- Where the kernel's condition 4 holds, output 11 is stored, -/
theorem live0_11 (t : Fin cfg0.N) (h : cond0_3 (grid0.coords t)) : cfg0.idle 11 (grid0.coords t) = false := by
  show (!(k0_cond4 (grid0.coords t) == 1#1)) = false
  rw [show k0_cond4 (grid0.coords t) = 1#1 from h]; rfl
/-- and elsewhere it is left alone. -/
theorem idle0_11 (t : Fin cfg0.N) (h : ¬cond0_3 (grid0.coords t)) : cfg0.idle 11 (grid0.coords t) = true := by
  show (!(k0_cond4 (grid0.coords t) == 1#1)) = true
  rw [beq_eq_false_iff_ne.mpr (show k0_cond4 (grid0.coords t) ≠ 1#1 from h)]; rfl

/-! ## The kernel body on any staging memrefs: a subtype the run finds -/

/-- One staging buffer of output window 8, through which its contents are stated (`View.read_writes_of_cover`: the
    choice does not matter). -/
abbrev VO0_8 : View sig .tc .vmem S1728x128 .i8 := (Memref.whole cc0_stg8_0 : Memref sig .tc .vmem S1728x128 .i8).view
/-- One staging buffer of output window 9, through which its contents are stated (`View.read_writes_of_cover`: the
    choice does not matter). -/
abbrev VO0_9 : View sig .tc .vmem S3456x128 .i8 := (Memref.whole cc0_stg9_0 : Memref sig .tc .vmem S3456x128 .i8).view
/-- One staging buffer of output window 10, through which its contents are stated (`View.read_writes_of_cover`: the
    choice does not matter). -/
abbrev VO0_10 : View sig .tc .vmem S3456x128 .i8 := (Memref.whole cc0_stg10_0 : Memref sig .tc .vmem S3456x128 .i8).view
/-- One staging buffer of output window 11, through which its contents are stated (`View.read_writes_of_cover`: the
    choice does not matter). -/
abbrev VO0_11 : View sig .tc .vmem S108x8x128 .bf16 := (Memref.whole cc0_stg11_0 : Memref sig .tc .vmem S108x8x128 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S108x8x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1728x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3456x128 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3456x128 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S108x8x128 .bf16 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S3x114x8x512 .f32 := Memref.whole cc0_scratch0
/-- The scratch `arg13` the kernel carries between points, as a view: what it holds is stated through it. -/
abbrev VS0_0 : View sig .tc .vmem S3x114x8x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.FrontIdeal.Gen

end
-- ==== Proof.FrontRun.RunA.lean ====
/- The front kernel's body at the first grid step: the scratch cleared, the first image row's norm codes and projection codes stored, and the row put in the scratch. -/
module

public import proofs.«01_k».proof.Proof.FrontRun.Cases

@[expose] public section

set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at the first grid step: the scratch cleared, the first image row's norm codes and projection codes stored, and the row put in the scratch. The pieces it leaves in each buffer it stores into, with the proof that on whole
    staging memrefs it runs to the continuation holding the inputs as they were, those pieces written, and the buffers it
    does not store into as they were. -/
noncomputable def kernelRun0_A (c : Dev nD) (i : grid0.Coords) (arg1 : Memref sig .tc .smem S1 .f32) (harg1 : arg1.IsWhole) (arg2 : Memref sig .tc .vmem S108x8x256 .bf16) (harg2 : arg2.IsWhole) (arg3 : Memref sig .tc .vmem S8x256 .f32) (harg3 : arg3.IsWhole) (arg4 : Memref sig .tc .vmem S256x512 .bf16) (harg4 : arg4.IsWhole) (arg5 : Memref sig .tc .vmem S8x512 .f32) (harg5 : arg5.IsWhole) (arg6 : Memref sig .tc .vmem S16x512 .f32) (harg6 : arg6.IsWhole) (arg7 : Memref sig .tc .vmem S512x128 .bf16) (harg7 : arg7.IsWhole) (arg8 : Memref sig .tc .vmem S8x128 .f32) (harg8 : arg8.IsWhole) (arg9 : Memref sig .tc .vmem S1728x128 .i8) (harg9 : arg9.IsWhole) (arg10 : Memref sig .tc .vmem S3456x128 .i8) (harg10 : arg10.IsWhole) (arg11 : Memref sig .tc .vmem S3456x128 .i8) (harg11 : arg11.IsWhole) (arg12 : Memref sig .tc .vmem S108x8x128 .bf16) (harg12 : arg12.IsWhole) (arg13 : Memref sig .tc .vmem S3x114x8x512 .f32) (harg13 : arg13.IsWhole) (hc0 : cond0_0 i) (hc1 : cond0_1 i) (hc2 : ¬cond0_2 i) (hc3 : ¬cond0_3 i)
    (x0 : Vec F S1 .f32) (x1 : Vec F S108x8x256 .bf16) (x2 : Vec F S8x256 .f32) (x3 : Vec F S256x512 .bf16) (x4 : Vec F S8x512 .f32) (x5 : Vec F S16x512 .f32) (x6 : Vec F S512x128 .bf16) (x7 : Vec F S8x128 .f32) :
    Σ' (L8 : List (View.Piece (Elt F) S1728x128 .i8)), Σ' (L9 : List (View.Piece (Elt F) S3456x128 .i8)), { LS0 : List (View.Piece (Elt F) S3x114x8x512 .f32) //
      ∀ (xo10 : Vec F S3456x128 .i8) (xo11 : Vec F S108x8x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xo10 ∗ owns (c : Thread nD τ) arg12 fullShare xo11 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xo10 ∗ owns (c : Thread nD τ) arg12 fullShare xo11 ∗ (∃ f, arg13.view.loc (c : Thread nD τ) ↦[arg13.view.set]{fullShare} arg13.view.writes (Elt F) f LS0)) -∗ K ⟨⟩))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xo10 xo11 E K => ?run⟩
  case run =>
    simp only [cc0_front_eq_skeleton]; unfold cc0_front_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fo10, %ho10, H10⟩, ⟨%fo11, %ho11, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact ho10
      iexact H10
    isplitl [H11]
    · iexists _; isplitr; · ipureintro; exact ho11
      iexact H11
    iexists _; iexact HS0

end Cert.FrontIdeal.Gen

end
-- ==== Proof.FrontRun.RunB.lean ====
/- The front kernel's body at a grid step between: an image row's codes stored, the row put in the scratch, and the convolution of the row before. -/
module

public import proofs.«01_k».proof.Proof.FrontRun.Cases

@[expose] public section

set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at a grid step between: an image row's codes stored, the row put in the scratch, and the convolution of the row before. The pieces it leaves in each buffer it stores into, with the proof that on whole
    staging memrefs it runs to the continuation holding the inputs as they were, those pieces written, and the buffers it
    does not store into as they were. -/
noncomputable def kernelRun0_B (c : Dev nD) (i : grid0.Coords) (arg1 : Memref sig .tc .smem S1 .f32) (harg1 : arg1.IsWhole) (arg2 : Memref sig .tc .vmem S108x8x256 .bf16) (harg2 : arg2.IsWhole) (arg3 : Memref sig .tc .vmem S8x256 .f32) (harg3 : arg3.IsWhole) (arg4 : Memref sig .tc .vmem S256x512 .bf16) (harg4 : arg4.IsWhole) (arg5 : Memref sig .tc .vmem S8x512 .f32) (harg5 : arg5.IsWhole) (arg6 : Memref sig .tc .vmem S16x512 .f32) (harg6 : arg6.IsWhole) (arg7 : Memref sig .tc .vmem S512x128 .bf16) (harg7 : arg7.IsWhole) (arg8 : Memref sig .tc .vmem S8x128 .f32) (harg8 : arg8.IsWhole) (arg9 : Memref sig .tc .vmem S1728x128 .i8) (harg9 : arg9.IsWhole) (arg10 : Memref sig .tc .vmem S3456x128 .i8) (harg10 : arg10.IsWhole) (arg11 : Memref sig .tc .vmem S3456x128 .i8) (harg11 : arg11.IsWhole) (arg12 : Memref sig .tc .vmem S108x8x128 .bf16) (harg12 : arg12.IsWhole) (arg13 : Memref sig .tc .vmem S3x114x8x512 .f32) (harg13 : arg13.IsWhole) (hc0 : ¬cond0_0 i) (hc1 : cond0_1 i) (hc2 : ¬cond0_2 i) (hc3 : cond0_3 i)
    (x0 : Vec F S1 .f32) (x1 : Vec F S108x8x256 .bf16) (x2 : Vec F S8x256 .f32) (x3 : Vec F S256x512 .bf16) (x4 : Vec F S8x512 .f32) (x5 : Vec F S16x512 .f32) (x6 : Vec F S512x128 .bf16) (x7 : Vec F S8x128 .f32) (xs0 : Vec F S3x114x8x512 .f32) :
    Σ' (L8 : List (View.Piece (Elt F) S1728x128 .i8)), Σ' (L9 : List (View.Piece (Elt F) S3456x128 .i8)), Σ' (L10 : List (View.Piece (Elt F) S3456x128 .i8)), Σ' (L11 : List (View.Piece (Elt F) S108x8x128 .bf16)), { LS0 : List (View.Piece (Elt F) S3x114x8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread xs0) LS0)) -∗ K ⟨⟩))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_front_eq_skeleton]; unfold cc0_front_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    iexact HS0

end Cert.FrontIdeal.Gen

end
-- ==== Proof.FrontRun.RunC.lean ====
/- The front kernel's body at the last grid step: a row of zeros put in the scratch, and the convolution of the last image row. -/
module

public import proofs.«01_k».proof.Proof.FrontRun.Cases

@[expose] public section

set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at the last grid step: a row of zeros put in the scratch, and the convolution of the last image row. The pieces it leaves in each buffer it stores into, with the proof that on whole
    staging memrefs it runs to the continuation holding the inputs as they were, those pieces written, and the buffers it
    does not store into as they were. -/
noncomputable def kernelRun0_C (c : Dev nD) (i : grid0.Coords) (arg1 : Memref sig .tc .smem S1 .f32) (harg1 : arg1.IsWhole) (arg2 : Memref sig .tc .vmem S108x8x256 .bf16) (harg2 : arg2.IsWhole) (arg3 : Memref sig .tc .vmem S8x256 .f32) (harg3 : arg3.IsWhole) (arg4 : Memref sig .tc .vmem S256x512 .bf16) (harg4 : arg4.IsWhole) (arg5 : Memref sig .tc .vmem S8x512 .f32) (harg5 : arg5.IsWhole) (arg6 : Memref sig .tc .vmem S16x512 .f32) (harg6 : arg6.IsWhole) (arg7 : Memref sig .tc .vmem S512x128 .bf16) (harg7 : arg7.IsWhole) (arg8 : Memref sig .tc .vmem S8x128 .f32) (harg8 : arg8.IsWhole) (arg9 : Memref sig .tc .vmem S1728x128 .i8) (harg9 : arg9.IsWhole) (arg10 : Memref sig .tc .vmem S3456x128 .i8) (harg10 : arg10.IsWhole) (arg11 : Memref sig .tc .vmem S3456x128 .i8) (harg11 : arg11.IsWhole) (arg12 : Memref sig .tc .vmem S108x8x128 .bf16) (harg12 : arg12.IsWhole) (arg13 : Memref sig .tc .vmem S3x114x8x512 .f32) (harg13 : arg13.IsWhole) (hc0 : ¬cond0_0 i) (hc1 : ¬cond0_1 i) (hc2 : cond0_2 i) (hc3 : cond0_3 i)
    (x0 : Vec F S1 .f32) (x1 : Vec F S108x8x256 .bf16) (x2 : Vec F S8x256 .f32) (x3 : Vec F S256x512 .bf16) (x4 : Vec F S8x512 .f32) (x5 : Vec F S16x512 .f32) (x6 : Vec F S512x128 .bf16) (x7 : Vec F S8x128 .f32) (xs0 : Vec F S3x114x8x512 .f32) :
    Σ' (L10 : List (View.Piece (Elt F) S3456x128 .i8)), Σ' (L11 : List (View.Piece (Elt F) S108x8x128 .bf16)), { LS0 : List (View.Piece (Elt F) S3x114x8x512 .f32) //
      ∀ (xo8 : Vec F S1728x128 .i8) (xo9 : Vec F S3456x128 .i8) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ owns (c : Thread nD τ) arg10 fullShare xo9 ∗ (∃ d, owns (c : Thread nD τ) arg11 fullShare d) ∗ (∃ d, owns (c : Thread nD τ) arg12 fullShare d) ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ owns (c : Thread nD τ) arg10 fullShare xo9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread xs0) LS0)) -∗ K ⟨⟩))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xo8 xo9 E K => ?run⟩
  case run =>
    simp only [cc0_front_eq_skeleton]; unfold cc0_front_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo8, %ho8, H8⟩, ⟨%fo9, %ho9, H9⟩, ⟨%d10, %f10, -, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact ho8
      iexact H8
    isplitl [H9]
    · iexists _; isplitr; · ipureintro; exact ho9
      iexact H9
    isplitl [H10]; · iexists _; iexact H10
    isplitl [H11]; · iexists _; iexact H11
    iexact HS0

end Cert.FrontIdeal.Gen

end
-- ==== Proof.FrontRun.Outs.lean ====
/- What the front kernel's body leaves in the outputs' buffers and in the scratch, point by point: the three kinds of point, each buffer's stores covering it, and the recursion over the grid that carries the scratch from one point to the next. -/
module

public import proofs.«01_k».proof.Proof.FrontRun.RunA
public import proofs.«01_k».proof.Proof.FrontRun.RunB
public import proofs.«01_k».proof.Proof.FrontRun.RunC

@[expose] public section

set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at the first point. -/
abbrev runA (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    ((hcond0_0 t).mpr (by omega)) ((hcond0_1 t).mpr (by omega)) (fun q => by have := (hcond0_2 t).mp q; omega) (fun q => by have := (hcond0_3 t).mp q; omega) (iblk m c 0 t) (iblk m c 1 t) (iblk m c 2 t) (iblk m c 3 t) (iblk m c 4 t) (iblk m c 5 t) (iblk m c 6 t) (iblk m c 7 t)

/-- The body's run at a point between, from scratch contents `xs`. -/
abbrev runB (c : Dev nD) (t : Fin cfg0.N) (h : t.val ≠ 0) (h' : t.val < 28) (xs : Vec F S3x114x8x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    (fun q => by have := (hcond0_0 t).mp q; omega) ((hcond0_1 t).mpr h') (fun q => by have := (hcond0_2 t).mp q; omega) ((hcond0_3 t).mpr (by omega)) (iblk m c 0 t) (iblk m c 1 t) (iblk m c 2 t) (iblk m c 3 t) (iblk m c 4 t) (iblk m c 5 t) (iblk m c 6 t) (iblk m c 7 t) xs

/-- A point that is not before point 28 is point 28. -/
theorem last_val (t : Fin cfg0.N) (h : ¬t.val < 28) : t.val = 28 := by
  have hN : t.val < 29 := lt_of_lt_of_eq t.isLt (show cfg0.N = 29 from N_0); omega

/-- The body's run at the last point, from scratch contents `xs`. -/
abbrev runC (c : Dev nD) (t : Fin cfg0.N) (h : ¬t.val < 28) (xs : Vec F S3x114x8x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    (fun q => by have := (hcond0_0 t).mp q; have := last_val t h; omega) (fun q => h ((hcond0_1 t).mp q)) ((hcond0_2 t).mpr (by have := last_val t h; omega)) ((hcond0_3 t).mpr (by omega)) (iblk m c 0 t) (iblk m c 1 t) (iblk m c 2 t) (iblk m c 3 t) (iblk m c 4 t) (iblk m c 5 t) (iblk m c 6 t) (iblk m c 7 t) xs

/-- Output 8's stores cover its buffer. -/
theorem coverA_8 (c : Dev nD) (t : Fin cfg0.N) (h : t.val = 0) (y : S1728x128.Idx) : ∃ pc ∈ (runA m c t h).1, y ∈ pc.1.set :=
  View.cover_of_tiledL (runA m c t h).1 S1728x128.size (by sl_kernel_rfl) y

/-- Output 9's stores cover its buffer. -/
theorem coverA_9 (c : Dev nD) (t : Fin cfg0.N) (h : t.val = 0) (y : S3456x128.Idx) : ∃ pc ∈ (runA m c t h).2.1, y ∈ pc.1.set :=
  View.cover_of_tiledL (runA m c t h).2.1 S3456x128.size (by sl_kernel_rfl) y

/-- Output 8's stores cover its buffer. -/
theorem coverB_8 (c : Dev nD) (t : Fin cfg0.N) (h : t.val ≠ 0) (h' : t.val < 28) (xs : Vec F S3x114x8x512 .f32) (y : S1728x128.Idx) : ∃ pc ∈ (runB m c t h h' xs).1, y ∈ pc.1.set :=
  View.cover_of_tiledL (runB m c t h h' xs).1 S1728x128.size (by sl_kernel_rfl) y

/-- Output 9's stores cover its buffer. -/
theorem coverB_9 (c : Dev nD) (t : Fin cfg0.N) (h : t.val ≠ 0) (h' : t.val < 28) (xs : Vec F S3x114x8x512 .f32) (y : S3456x128.Idx) : ∃ pc ∈ (runB m c t h h' xs).2.1, y ∈ pc.1.set :=
  View.cover_of_tiledL (runB m c t h h' xs).2.1 S3456x128.size (by sl_kernel_rfl) y

/-- Output 10's stores cover its buffer. -/
theorem coverB_10 (c : Dev nD) (t : Fin cfg0.N) (h : t.val ≠ 0) (h' : t.val < 28) (xs : Vec F S3x114x8x512 .f32) (y : S3456x128.Idx) : ∃ pc ∈ (runB m c t h h' xs).2.2.1, y ∈ pc.1.set :=
  View.cover_of_tiledL (runB m c t h h' xs).2.2.1 S3456x128.size (by sl_kernel_rfl) y

/-- Output 11's stores cover its buffer. -/
theorem coverB_11 (c : Dev nD) (t : Fin cfg0.N) (h : t.val ≠ 0) (h' : t.val < 28) (xs : Vec F S3x114x8x512 .f32) (y : S108x8x128.Idx) : ∃ pc ∈ (runB m c t h h' xs).2.2.2.1, y ∈ pc.1.set :=
  View.cover_of_tiledL (runB m c t h h' xs).2.2.2.1 S108x8x128.size (by sl_kernel_rfl) y

/-- Output 10's stores cover its buffer. -/
theorem coverC_10 (c : Dev nD) (t : Fin cfg0.N) (h : ¬t.val < 28) (xs : Vec F S3x114x8x512 .f32) (y : S3456x128.Idx) : ∃ pc ∈ (runC m c t h xs).1, y ∈ pc.1.set :=
  View.cover_of_tiledL (runC m c t h xs).1 S3456x128.size (by sl_kernel_rfl) y

/-- Output 11's stores cover its buffer. -/
theorem coverC_11 (c : Dev nD) (t : Fin cfg0.N) (h : ¬t.val < 28) (xs : Vec F S3x114x8x512 .f32) (y : S108x8x128.Idx) : ∃ pc ∈ (runC m c t h xs).2.1, y ∈ pc.1.set :=
  View.cover_of_tiledL (runC m c t h xs).2.1 S108x8x128.size (by sl_kernel_rfl) y

/-- At the first point the stores into the scratch cover it: the one that clears it does. -/
theorem coverA_s (c : Dev nD) (t : Fin cfg0.N) (h : t.val = 0) (y : S3x114x8x512.Idx) : ∃ pc ∈ (runA m c t h).2.2.1, y ∈ pc.1.set := by
  obtain ⟨pc, hp, hy⟩ := View.cover_of_tiledL (runA m c t h).2.2.1.tail S3x114x8x512.size (by sl_kernel_rfl) y
  exact ⟨pc, List.mem_of_mem_tail hp, hy⟩

/-- The outputs' buffers' contents (windows 8 to 11) and the scratch's after a point. -/
abbrev Outs (F : FTy → Type) := Vec F S1728x128 .i8 × Vec F S3456x128 .i8 × Vec F S3456x128 .i8 × Vec F S108x8x128 .bf16 × Vec F S3x114x8x512 .f32

/-- What the first point leaves; the two buffers it does not store into stand at an arbitrary value. -/
def outsA (c : Dev nD) (t : Fin cfg0.N) (h : t.val = 0) : Outs F :=
  (VO0_8.read (Elt F) (VO0_8.writes (Elt F) VO0_8.junk (runA m c t h).1), VO0_9.read (Elt F) (VO0_9.writes (Elt F) VO0_9.junk (runA m c t h).2.1),
    VO0_10.read (Elt F) VO0_10.junk, VO0_11.read (Elt F) VO0_11.junk, VS0_0.read (Elt F) (VS0_0.writes (Elt F) VS0_0.junk (runA m c t h).2.2.1))

/-- What a point between leaves, from scratch contents `xs`. -/
def outsB (c : Dev nD) (t : Fin cfg0.N) (h : t.val ≠ 0) (h' : t.val < 28) (xs : Vec F S3x114x8x512 .f32) : Outs F :=
  (VO0_8.read (Elt F) (VO0_8.writes (Elt F) VO0_8.junk (runB m c t h h' xs).1), VO0_9.read (Elt F) (VO0_9.writes (Elt F) VO0_9.junk (runB m c t h h' xs).2.1),
    VO0_10.read (Elt F) (VO0_10.writes (Elt F) VO0_10.junk (runB m c t h h' xs).2.2.1), VO0_11.read (Elt F) (VO0_11.writes (Elt F) VO0_11.junk (runB m c t h h' xs).2.2.2.1),
    scM0_0.view.read (Elt F) (scM0_0.view.writes (Elt F) ((Memref.isWhole_whole cc0_scratch0).unread xs) (runB m c t h h' xs).2.2.2.2.1))

/-- What the last point leaves, from the contents `p` the point before left: windows 8 and 9 keep theirs. -/
def outsC (c : Dev nD) (t : Fin cfg0.N) (h : ¬t.val < 28) (p : Outs F) : Outs F :=
  (p.1, p.2.1, VO0_10.read (Elt F) (VO0_10.writes (Elt F) VO0_10.junk (runC m c t h p.2.2.2.2).1), VO0_11.read (Elt F) (VO0_11.writes (Elt F) VO0_11.junk (runC m c t h p.2.2.2.2).2.1),
    scM0_0.view.read (Elt F) (scM0_0.view.writes (Elt F) ((Memref.isWhole_whole cc0_scratch0).unread p.2.2.2.2) (runC m c t h p.2.2.2.2).2.2.1))

/-- What point `n` leaves: the recursion over the grid. -/
def outsAt0 (c : Dev nD) : (n : ℕ) → n < cfg0.N → Outs F
  | 0, hn => outsA m c ⟨0, hn⟩ rfl
  | n + 1, hn => if h : n + 1 < 28 then outsB m c ⟨n + 1, hn⟩ (Nat.succ_ne_zero n) h (outsAt0 c n (Nat.lt_of_succ_lt hn)).2.2.2.2
      else outsC m c ⟨n + 1, hn⟩ h (outsAt0 c n (Nat.lt_of_succ_lt hn))

/-- At the first point. -/
theorem outsAt0_A (c : Dev nD) (t : Fin cfg0.N) (h : t.val = 0) : outsAt0 m c t.val t.isLt = outsA m c t h := by
  obtain ⟨n, hn⟩ := t
  cases n with
  | zero => rfl
  | succ n => exact absurd h (Nat.succ_ne_zero n)

/-- At a point between. -/
theorem outsAt0_B (c : Dev nD) (t : Fin cfg0.N) (h : t.val ≠ 0) (h' : t.val < 28) :
    outsAt0 m c t.val t.isLt = outsB m c t h h' (outsAt0 m c (t.val - 1) (Nat.lt_of_le_of_lt (Nat.sub_le _ _) t.isLt)).2.2.2.2 := by
  obtain ⟨n, hn⟩ := t
  cases n with
  | zero => exact absurd rfl h
  | succ n => exact dif_pos h'

/-- At the last point. -/
theorem outsAt0_C (c : Dev nD) (t : Fin cfg0.N) (h : ¬t.val < 28) :
    outsAt0 m c t.val t.isLt = outsC m c t h (outsAt0 m c (t.val - 1) (Nat.lt_of_le_of_lt (Nat.sub_le _ _) t.isLt)) := by
  obtain ⟨n, hn⟩ := t
  cases n with
  | zero => exact absurd (show (0 : ℕ) < 28 by decide) h
  | succ n => exact dif_neg h

end Cert.FrontIdeal.Gen

end
-- ==== Proof.FrontRun.Frame.lean ====
/- The front kernel's body obligation, its run and its frame. -/
module

public import proofs.«01_k».proof.Proof.FrontRun.Outs
public import Idealize.ShloMosaic.Lib.Claim

@[expose] public section

set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n`: before the first point every scratch at anything; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- Window 8 and 9 are written back at the last point only among points 27 and 28, and windows 10 and 11 are not written back at
    point 0. -/
theorem flush8 : ∀ t : Fin cfg0.N, t.val = 27 → (cfg0.win 8).flush t = false := by decide +kernel
theorem flush9 : ∀ t : Fin cfg0.N, t.val = 27 → (cfg0.win 9).flush t = false := by decide +kernel
theorem flush8' : ∀ t : Fin cfg0.N, t.val = 28 → (cfg0.win 8).flush t = true := by decide +kernel
theorem flush9' : ∀ t : Fin cfg0.N, t.val = 28 → (cfg0.win 9).flush t = true := by decide +kernel
theorem flush10 : ∀ t : Fin cfg0.N, t.val = 0 → (cfg0.win 10).flush t = false := by decide +kernel
theorem flush11 : ∀ t : Fin cfg0.N, t.val = 0 → (cfg0.win 11).flush t = false := by decide +kernel

theorem leaves_0 (c : Dev nD) (t : Fin cfg0.N) : (dats m 0 c).leavesExact 0 t = owns (c : Thread nD τ) (ms0_0 t) fullShare (iblk m c 0 t) := by
  unfold Dat.leavesExact; rw [liveAt0_0 t, after0_0]
theorem leaves_1 (c : Dev nD) (t : Fin cfg0.N) : (dats m 0 c).leavesExact 1 t = owns (c : Thread nD τ) (ms0_1 t) fullShare (iblk m c 1 t) := by
  unfold Dat.leavesExact; rw [liveAt0_1 t, after0_1]
theorem leaves_2 (c : Dev nD) (t : Fin cfg0.N) : (dats m 0 c).leavesExact 2 t = owns (c : Thread nD τ) (ms0_2 t) fullShare (iblk m c 2 t) := by
  unfold Dat.leavesExact; rw [liveAt0_2 t, after0_2]
theorem leaves_3 (c : Dev nD) (t : Fin cfg0.N) : (dats m 0 c).leavesExact 3 t = owns (c : Thread nD τ) (ms0_3 t) fullShare (iblk m c 3 t) := by
  unfold Dat.leavesExact; rw [liveAt0_3 t, after0_3]
theorem leaves_4 (c : Dev nD) (t : Fin cfg0.N) : (dats m 0 c).leavesExact 4 t = owns (c : Thread nD τ) (ms0_4 t) fullShare (iblk m c 4 t) := by
  unfold Dat.leavesExact; rw [liveAt0_4 t, after0_4]
theorem leaves_5 (c : Dev nD) (t : Fin cfg0.N) : (dats m 0 c).leavesExact 5 t = owns (c : Thread nD τ) (ms0_5 t) fullShare (iblk m c 5 t) := by
  unfold Dat.leavesExact; rw [liveAt0_5 t, after0_5]
theorem leaves_6 (c : Dev nD) (t : Fin cfg0.N) : (dats m 0 c).leavesExact 6 t = owns (c : Thread nD τ) (ms0_6 t) fullShare (iblk m c 6 t) := by
  unfold Dat.leavesExact; rw [liveAt0_6 t, after0_6]
theorem leaves_7 (c : Dev nD) (t : Fin cfg0.N) : (dats m 0 c).leavesExact 7 t = owns (c : Thread nD τ) (ms0_7 t) fullShare (iblk m c 7 t) := by
  unfold Dat.leavesExact; rw [liveAt0_7 t, after0_7]
theorem leaves_8 (c : Dev nD) (t : Fin cfg0.N) (h : t.val < 28) : (dats m 0 c).leavesExact 8 t = owns (c : Thread nD τ) (ms0_8 t) fullShare (outsAt0 m c t.val t.isLt).1 := by
  unfold Dat.leavesExact; rw [live0_8 t ((hcond0_1 t).mpr h), after0_8]
theorem leaves_9 (c : Dev nD) (t : Fin cfg0.N) (h : t.val < 28) : (dats m 0 c).leavesExact 9 t = owns (c : Thread nD τ) (ms0_9 t) fullShare (outsAt0 m c t.val t.isLt).2.1 := by
  unfold Dat.leavesExact; rw [live0_9 t ((hcond0_1 t).mpr h), after0_9]
theorem leaves_10 (c : Dev nD) (t : Fin cfg0.N) (h : 1 ≤ t.val) : (dats m 0 c).leavesExact 10 t = owns (c : Thread nD τ) (ms0_10 t) fullShare (outsAt0 m c t.val t.isLt).2.2.1 := by
  unfold Dat.leavesExact; rw [live0_10 t ((hcond0_3 t).mpr h), after0_10]
theorem leaves_11 (c : Dev nD) (t : Fin cfg0.N) (h : 1 ≤ t.val) : (dats m 0 c).leavesExact 11 t = owns (c : Thread nD τ) (ms0_11 t) fullShare (outsAt0 m c t.val t.isLt).2.2.2.1 := by
  unfold Dat.leavesExact; rw [live0_11 t ((hcond0_3 t).mpr h), after0_11]
theorem leaves_8_last (c : Dev nD) (t : Fin cfg0.N) (h : ¬t.val < 28) : (dats m 0 c).leavesExact 8 t = owns (c : Thread nD τ) (ms0_8 t) fullShare (outsAt0 m c t.val t.isLt).1 := by
  unfold Dat.leavesExact; rw [idle0_8 t (fun q => h ((hcond0_1 t).mp q)), flush8' t (last_val t h), after0_8]
theorem before_8_last (c : Dev nD) (t : Fin cfg0.N) (h : ¬t.val < 28) (d) :
    (dats m 0 c).before 8 t d = (outsAt0 m c (t.val - 1) (Nat.lt_of_le_of_lt (Nat.sub_le _ _) t.isLt)).1 := by
  have h28 := last_val t h
  have hlt : t.val - 1 < cfg0.N := Nat.lt_of_le_of_lt (Nat.sub_le _ _) t.isLt
  rw [(dats m 0 c).before_of_pos 8 t (by omega) ((cfg0.win 8).fetch_out rfl t), flush8 ⟨t.val - 1, hlt⟩ (by simp only [h28]), if_neg Bool.false_ne_true]
  unfold Dat.left
  rw [live0_8 ⟨t.val - 1, hlt⟩ ((hcond0_1 _).mpr (by simp only [h28]; omega))]
  exact after0_8 m c ⟨t.val - 1, hlt⟩
theorem leaves_9_last (c : Dev nD) (t : Fin cfg0.N) (h : ¬t.val < 28) : (dats m 0 c).leavesExact 9 t = owns (c : Thread nD τ) (ms0_9 t) fullShare (outsAt0 m c t.val t.isLt).2.1 := by
  unfold Dat.leavesExact; rw [idle0_9 t (fun q => h ((hcond0_1 t).mp q)), flush9' t (last_val t h), after0_9]
theorem before_9_last (c : Dev nD) (t : Fin cfg0.N) (h : ¬t.val < 28) (d) :
    (dats m 0 c).before 9 t d = (outsAt0 m c (t.val - 1) (Nat.lt_of_le_of_lt (Nat.sub_le _ _) t.isLt)).2.1 := by
  have h28 := last_val t h
  have hlt : t.val - 1 < cfg0.N := Nat.lt_of_le_of_lt (Nat.sub_le _ _) t.isLt
  rw [(dats m 0 c).before_of_pos 9 t (by omega) ((cfg0.win 9).fetch_out rfl t), flush9 ⟨t.val - 1, hlt⟩ (by simp only [h28]), if_neg Bool.false_ne_true]
  unfold Dat.left
  rw [live0_9 ⟨t.val - 1, hlt⟩ ((hcond0_1 _).mpr (by simp only [h28]; omega))]
  exact after0_9 m c ⟨t.val - 1, hlt⟩
theorem leaves_10_first (c : Dev nD) (t : Fin cfg0.N) (h : t.val = 0) :
    (dats m 0 c).leavesExact 10 t = iprop(∃ d, owns (c : Thread nD τ) (ms0_10 t) fullShare ((dats m 0 c).before 10 t d)) :=
  (dats m 0 c).leavesExact_idle 10 t (idle0_10 t (fun q => by have := (hcond0_3 t).mp q; omega)) (flush10 t h)
theorem leaves_11_first (c : Dev nD) (t : Fin cfg0.N) (h : t.val = 0) :
    (dats m 0 c).leavesExact 11 t = iprop(∃ d, owns (c : Thread nD τ) (ms0_11 t) fullShare ((dats m 0 c).before 11 t d)) :=
  (dats m 0 c).leavesExact_idle 11 t (idle0_11 t (fun q => by have := (hcond0_3 t).mp q; omega)) (flush11 t h)

set_option maxHeartbeats 2000000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8 m c t (by omega), leaves_9 m c t (by omega), leaves_10_first m c t h, leaves_11_first m c t h]
  rw [PhiS_castSucc m c t, PhiS_zero m c _ _ h, PhiA0_eq, outsAt0_A m c t h]
  unfold outsA; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runA m c t h).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [HS0]; · iexact HS0
  iintro ⟨H0, H1, H2, H3, H4, H5, H6, H7, ⟨%e8, H8⟩, ⟨%e9, H9⟩, H10, H11, ⟨%es0, HS0⟩⟩
  isplitl [HS0 Hg]
  · isplitl [HS0]
    · unfold owns; iexists _; isplitr
      swap; · iexact HS0
      ipureintro; exact View.read_writes_of_cover _ _ _ _ _ (coverA_s m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverA_8 m c t h)
  isplitl [H9]
  · unfold owns; iexists _; isplitr
    swap; · iexact H9
    ipureintro; exact View.read_writes_of_cover _ _ _ _ _ (coverA_9 m c t h)
  isplitl [H10]; · iexists _; iexact H10
  iexists _; iexact H11

set_option maxHeartbeats 2000000 in
/-- The body at a point between. -/
theorem sound_B (c : Dev nD) (t : Fin cfg0.N) (h : t.val ≠ 0) (h' : t.val < 28) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8 m c t h', leaves_9 m c t h', leaves_10 m c t (by omega), leaves_11 m c t (by omega)]
  rw [PhiS_castSucc m c t, PhiS_pos m c _ _ h, outsAt0_B m c t h h']
  unfold outsB; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB m c t h h' (outsAt0 m c (t.val - 1) (Nat.lt_of_le_of_lt (Nat.sub_le _ _) t.isLt)).2.2.2.2).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  iintro ⟨H0, H1, H2, H3, H4, H5, H6, H7, ⟨%e8, H8⟩, ⟨%e9, H9⟩, ⟨%e10, H10⟩, ⟨%e11, H11⟩, HS0⟩
  isplitl [HS0 Hg]
  · isplitl [HS0]
    · unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverB_8 m c t h h' (outsAt0 m c (t.val - 1) (Nat.lt_of_le_of_lt (Nat.sub_le _ _) t.isLt)).2.2.2.2)
  isplitl [H9]
  · unfold owns; iexists _; isplitr
    swap; · iexact H9
    ipureintro; exact View.read_writes_of_cover _ _ _ _ _ (coverB_9 m c t h h' (outsAt0 m c (t.val - 1) (Nat.lt_of_le_of_lt (Nat.sub_le _ _) t.isLt)).2.2.2.2)
  isplitl [H10]
  · unfold owns; iexists _; isplitr
    swap; · iexact H10
    ipureintro; exact View.read_writes_of_cover _ _ _ _ _ (coverB_10 m c t h h' (outsAt0 m c (t.val - 1) (Nat.lt_of_le_of_lt (Nat.sub_le _ _) t.isLt)).2.2.2.2)
  unfold owns; iexists _; isplitr
  swap; · iexact H11
  ipureintro; exact View.read_writes_of_cover _ _ _ _ _ (coverB_11 m c t h h' (outsAt0 m c (t.val - 1) (Nat.lt_of_le_of_lt (Nat.sub_le _ _) t.isLt)).2.2.2.2)

set_option maxHeartbeats 2000000 in
/-- The body at the last point. -/
theorem sound_C (c : Dev nD) (t : Fin cfg0.N) (h : ¬t.val < 28) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8_last m c t h, leaves_9_last m c t h, leaves_10 m c t (by omega), leaves_11 m c t (by omega)]
  rw [PhiS_castSucc m c t, PhiS_pos m c _ _ (by omega), outsAt0_C m c t h]
  simp only [before_8_last m c t h, before_9_last m c t h]
  unfold outsC; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runC m c t h (outsAt0 m c (t.val - 1) (Nat.lt_of_le_of_lt (Nat.sub_le _ _) t.isLt)).2.2.2.2).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  iintro ⟨H0, H1, H2, H3, H4, H5, H6, H7, H8, H9, ⟨%e10, H10⟩, ⟨%e11, H11⟩, HS0⟩
  isplitl [HS0 Hg]
  · isplitl [HS0]
    · unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverC_10 m c t h (outsAt0 m c (t.val - 1) (Nat.lt_of_le_of_lt (Nat.sub_le _ _) t.isLt)).2.2.2.2)
  unfold owns; iexists _; isplitr
  swap; · iexact H11
  ipureintro; exact View.read_writes_of_cover _ _ _ _ _ (coverC_11 m c t h (outsAt0 m c (t.val - 1) (Nat.lt_of_le_of_lt (Nat.sub_le _ _) t.isLt)).2.2.2.2)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_A m c t h
  by_cases h' : t.val < 28
  · exact sound_B m c t h h'
  · exact sound_C m c t h'

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 29 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The frame claim's statement: the run ends, the argument arrays end unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.FrontIdeal.Gen

end
-- ==== Proof.Arith.lean ====
/-
  Arithmetic over the extended reals that the value proofs of this directory share: the two spellings of a layer
  norm's division, of a quantiser's rounding and clipping, of a zero point, and of the exact GELU.
  No kernel and no array occurs here.
-/
module

public import Idealize.ShloMosaic.Lib.Pointwise
public import Idealize.ShloMosaic.Lib.IdealHost
public import Idealize.ShloMosaic.PureOps.Ideal.Laws

@[expose] public section

noncomputable section

namespace Cert.Arith

open Idealize.ShloMosaic

/-! ## The float constants -/

/-- Rounding to the nearest integer, ties to the even one. -/
abbrev rnd (x : EReal) : EReal := Ideal.liftRound Ideal.roundHalfEven x

theorem c_inv512 : Ideal.ofBits .f32 0x3B000000#32 = ((1 / 512 : ℝ) : EReal) := by
  simp [Ideal.ofBits, Ideal.ieee, -EReal.coe_mul]; norm_num
theorem c_512 : Ideal.ofBits .f32 0x44000000#32 = ((512 : ℝ) : EReal) := by
  simp [Ideal.ofBits, Ideal.ieee, -EReal.coe_mul]; norm_num
theorem c_inv256 : Ideal.ofBits .f32 0x3B800000#32 = ((1 / 256 : ℝ) : EReal) := by
  simp [Ideal.ofBits, Ideal.ieee, -EReal.coe_mul]; norm_num
theorem c_256 : Ideal.ofBits .f32 0x43800000#32 = ((256 : ℝ) : EReal) := by
  simp [Ideal.ofBits, Ideal.ieee, -EReal.coe_mul]; norm_num
theorem c_127 : Ideal.ofBits .f32 0x42FE0000#32 = (((127 : ℤ) : ℝ) : EReal) := by
  simp [Ideal.ofBits, Ideal.ieee, -EReal.coe_mul]; norm_num
theorem c_neg127 : Ideal.ofBits .f32 0xC2FE0000#32 = (((-127 : ℤ) : ℝ) : EReal) := by
  simp [Ideal.ofBits, Ideal.ieee, -EReal.coe_mul]; norm_num
theorem c_255 : Ideal.ofBits .f32 0x437F0000#32 = (((255 : ℤ) : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_eps : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num
theorem c_rsqrt2 : ∃ e : ℝ, 0 < e ∧ Ideal.ofBits .f32 0x3F3504F3#32 = (e : EReal) := by
  refine ⟨11863283 / 2 ^ 24, by norm_num, ?_⟩
  simp [Ideal.ofBits, Ideal.ieee, -EReal.coe_mul]; norm_num

/-- The conversions between floats and integers, as the functions they are over the extended reals. -/
theorem fptosi_op {φ : FTy} (w : ℕ) (x : Ideal φ) : FloatOps.fptosi (F := Ideal) w x = Ideal.fptosi w x := rfl
theorem sitofp_op {w : ℕ} (φ : FTy) (b : BitVec w) : FloatOps.sitofp (F := Ideal) φ b = ((b.toInt : ℝ) : EReal) := rfl

/-- Two values are equal if every property of the one is a property of the other. -/
theorem eq_of_forall {α : Sort*} {a b : α} (h : ∀ P : α → Prop, P b → P a) : a = b := h (· = b) rfl

/-! ## The layer norm -/

/-- A product with the reciprocal of a positive number is the quotient by it. -/
theorem mul_recip_eq_div (x : EReal) {c : ℝ} (hc : 0 < c) : x * ((1 / c : ℝ) : EReal) = Ideal.div x (c : EReal) := by
  have h0 : (c : EReal) ≠ 0 := by exact_mod_cast hc.ne'
  rw [Ideal.div, if_neg h0, one_div, EReal.coe_inv]

/-- A sum of squares is not negative. -/
theorem sum_sq_nonneg {n : ℕ} (d : Fin n → EReal) : 0 ≤ ∑ k, d k * d k := by
  refine Finset.sum_nonneg fun k _ => ?_
  rcases le_total 0 (d k) with h | h
  · exact mul_nonneg h h
  · have := mul_nonneg (EReal.neg_nonneg.2 h) (EReal.neg_nonneg.2 h)
    rwa [neg_mul_neg] at this

/-- A product with the reciprocal root of a positive extended real is the quotient by its root. -/
theorem mul_rsqrt (d v : EReal) (hv : 0 < v) : d * Ideal.rsqrt v = Ideal.div d (Ideal.sqrt v) := by
  induction v using EReal.rec with
  | bot => exact absurd hv (not_lt.2 bot_le)
  | top => simp [Ideal.div]
  | coe r =>
    have hr : 0 < r := by exact_mod_cast hv
    have hs : 0 < Real.sqrt r := Real.sqrt_pos.2 hr
    have h0 : ((Real.sqrt r : ℝ) : EReal) ≠ 0 := by exact_mod_cast hs.ne'
    rw [Ideal.rsqrt_coe, if_neg hr.le.not_gt, if_neg hr.ne', Ideal.sqrt_coe, if_neg hr.le.not_gt, Ideal.div, if_neg h0,
      EReal.coe_inv]

/-- The two spellings of a normalised element: sum times a reciprocal count and a product with the reciprocal root, or
    quotients by the count and by the root. -/
theorem norm_eq {n : ℕ} (d : Fin n → EReal) (k : Fin n) {c e : ℝ} (hc : 0 < c) (he : 0 < e) :
    d k * Ideal.rsqrt ((∑ j, d j * d j) * ((1 / c : ℝ) : EReal) + (e : EReal))
      = Ideal.div (d k) (Ideal.sqrt (Ideal.div (∑ j, d j * d j) (c : EReal) + (e : EReal))) := by
  rw [mul_recip_eq_div _ hc]
  refine mul_rsqrt _ _ ?_
  rw [← mul_recip_eq_div _ hc]
  have h1 : 0 ≤ (∑ j, d j * d j) * ((1 / c : ℝ) : EReal) :=
    mul_nonneg (sum_sq_nonneg d) (by exact_mod_cast (one_div_pos.2 hc).le)
  exact lt_of_lt_of_le (by exact_mod_cast he) (le_add_of_nonneg_left h1)

/-! ## Rounding and clipping -/

theorem coe_max (a b : ℝ) : ((max a b : ℝ) : EReal) = max (a : EReal) (b : EReal) :=
  EReal.coe_strictMono.monotone.map_max
theorem coe_min (a b : ℝ) : ((min a b : ℝ) : EReal) = min (a : EReal) (b : EReal) :=
  EReal.coe_strictMono.monotone.map_min

/-- A rounded value stays above an integer that its argument is at or above, -/
theorem le_roundHalfEven {r : ℝ} {n : ℤ} (h : (n : ℝ) ≤ r) : n ≤ Ideal.roundHalfEven r := by
  have h0 : n ≤ ⌊r⌋ := Int.le_floor.2 h
  unfold Ideal.roundHalfEven
  dsimp only
  split_ifs <;> omega

/-- and below an integer that its argument is at or below. -/
theorem roundHalfEven_le {r : ℝ} {n : ℤ} (h : r ≤ (n : ℝ)) : Ideal.roundHalfEven r ≤ n := by
  unfold Ideal.roundHalfEven
  dsimp only
  have key : ⌊r⌋ = n ∨ ⌊r⌋ + 1 ≤ n := by
    rcases lt_or_eq_of_le h with h1 | h1
    · right
      have : ⌊r⌋ < n := Int.floor_lt.2 h1
      omega
    · left; rw [h1, Int.floor_intCast]
  rcases key with h1 | h1
  · have hr : r = (n : ℝ) := le_antisymm h (by rw [← h1]; exact Int.floor_le r)
    rw [h1, hr]
    simp
  · split_ifs <;> omega

/-- An integer is its own rounding. -/
theorem roundHalfEven_int (n : ℤ) : Ideal.roundHalfEven (n : ℝ) = n :=
  le_antisymm (roundHalfEven_le le_rfl) (le_roundHalfEven le_rfl)

/-- Clipping to two integers and then rounding gives an integer between them, and it is also what rounding and then
    clipping gives. -/
theorem round_clip (x : EReal) {lo hi : ℤ} (h : lo ≤ hi) :
    ∃ n : ℤ, lo ≤ n ∧ n ≤ hi ∧
      rnd (min (((hi : ℤ) : ℝ) : EReal) (max (((lo : ℤ) : ℝ) : EReal) x)) = ((n : ℝ) : EReal) ∧
      min (((hi : ℤ) : ℝ) : EReal) (max (((lo : ℤ) : ℝ) : EReal) (rnd x)) = ((n : ℝ) : EReal) := by
  have hR : (lo : ℝ) ≤ (hi : ℝ) := by exact_mod_cast h
  have hE : ((lo : ℝ) : EReal) ≤ ((hi : ℝ) : EReal) := by exact_mod_cast hR
  induction x using EReal.rec with
  | bot =>
    refine ⟨lo, le_rfl, h, ?_, ?_⟩
    · rw [max_eq_left bot_le, min_eq_right hE, rnd, Ideal.liftRound_coe, roundHalfEven_int]
    · rw [rnd, Ideal.liftRound_bot, max_eq_left bot_le, min_eq_right hE]
  | top =>
    refine ⟨hi, h, le_rfl, ?_, ?_⟩
    · rw [max_eq_right le_top, min_eq_left le_top, rnd, Ideal.liftRound_coe, roundHalfEven_int]
    · rw [rnd, Ideal.liftRound_top, max_eq_right le_top, min_eq_left le_top]
  | coe r =>
    have e1 : min ((hi : ℝ) : EReal) (max ((lo : ℝ) : EReal) (r : EReal)) = ((min (hi : ℝ) (max (lo : ℝ) r) : ℝ) : EReal) := by
      rw [coe_min, coe_max]
    have e2 : min ((hi : ℝ) : EReal) (max ((lo : ℝ) : EReal) (rnd (r : EReal)))
        = ((min (hi : ℝ) (max (lo : ℝ) (Ideal.roundHalfEven r : ℤ)) : ℝ) : EReal) := by
      rw [coe_min, coe_max, rnd, Ideal.liftRound_coe]
    rw [e1, e2, rnd, Ideal.liftRound_coe]
    rcases le_total r (lo : ℝ) with h1 | h1
    · refine ⟨lo, le_rfl, h, ?_, ?_⟩
      · rw [max_eq_left h1, min_eq_right hR, roundHalfEven_int]
      · have : ((Ideal.roundHalfEven r : ℤ) : ℝ) ≤ (lo : ℝ) := by exact_mod_cast roundHalfEven_le h1
        rw [max_eq_left this, min_eq_right hR]
    · have a1 : (lo : ℝ) ≤ ((Ideal.roundHalfEven r : ℤ) : ℝ) := by exact_mod_cast le_roundHalfEven h1
      rw [max_eq_right h1, max_eq_right a1]
      rcases le_total r (hi : ℝ) with h2 | h2
      · have a2 : ((Ideal.roundHalfEven r : ℤ) : ℝ) ≤ (hi : ℝ) := by exact_mod_cast roundHalfEven_le h2
        refine ⟨Ideal.roundHalfEven r, le_roundHalfEven h1, roundHalfEven_le h2, ?_, ?_⟩
        · rw [min_eq_right h2]
        · rw [min_eq_right a2]
      · have a2 : (hi : ℝ) ≤ ((Ideal.roundHalfEven r : ℤ) : ℝ) := by exact_mod_cast le_roundHalfEven h2
        refine ⟨hi, h, le_rfl, ?_, ?_⟩
        · rw [min_eq_left h2, roundHalfEven_int]
        · rw [min_eq_left a2]

/-! ## Integer words -/

/-- The 32-bit word of an integer that fits it. -/
theorem fptosi_int {n : ℤ} (h1 : -2147483648 ≤ n) (h2 : n ≤ 2147483647) :
    Ideal.fptosi 32 ((n : ℝ) : EReal) = BitVec.ofInt 32 n := by
  have : (if (0 : ℝ) ≤ (n : ℝ) then ⌊(n : ℝ)⌋ else ⌈(n : ℝ)⌉) = n := by split_ifs <;> simp
  rw [Ideal.fptosi, Ideal.toIntClamped_coe, this]
  congr 1
  norm_num
  omega

/-- The word of an integer that fits it reads back as that integer. -/
theorem toInt_ofInt32 {n : ℤ} (h1 : -2147483648 ≤ n) (h2 : n ≤ 2147483647) : (BitVec.ofInt 32 n).toInt = n := by
  rw [BitVec.toInt_ofInt]
  exact Int.bmod_eq_of_le (by norm_num; omega) (by norm_num; omega)

/-- The symmetric 8-bit code, clipped and then rounded, -/
@[irreducible] def code (x : EReal) : BitVec 32 :=
  Ideal.fptosi 32 (rnd (min (Ideal.ofBits .f32 0x42FE0000#32) (max (Ideal.ofBits .f32 0xC2FE0000#32) x)))

/-- and rounded and then clipped, as an 8-bit word. -/
@[irreducible] def code8 (x : EReal) : BitVec 8 :=
  (Ideal.fptosi 32 (min (Ideal.ofBits .f32 0x42FE0000#32) (max (Ideal.ofBits .f32 0xC2FE0000#32) (rnd x)))).setWidth 8

theorem code_cases (x : EReal) : ∃ n : ℤ, -127 ≤ n ∧ n ≤ 127 ∧ code x = BitVec.ofInt 32 n ∧ code8 x = (code x).setWidth 8 := by
  obtain ⟨n, h1, h2, e1, e2⟩ := round_clip x (show (-127 : ℤ) ≤ 127 by norm_num)
  refine ⟨n, h1, h2, ?_, ?_⟩
  · rw [code, c_127, c_neg127, e1, fptosi_int (by omega) (by omega)]
  · rw [code, code8, c_127, c_neg127, e1, e2]

/-- The two orders give one stored byte, -/
theorem code8_eq (x : EReal) : code8 x = (code x).setWidth 8 := (code_cases x).choose_spec.2.2.2

theorem ofInt_byte {n : ℤ} (h1 : -128 ≤ n) (h2 : n ≤ 127) :
    (((BitVec.ofInt 32 n).setWidth 8).signExtend 32) = BitVec.ofInt 32 n := by
  have : ∀ i : Fin 256, (((BitVec.ofInt 32 ((i : ℤ) - 128)).setWidth 8).signExtend 32) = BitVec.ofInt 32 ((i : ℤ) - 128) := by
    decide +kernel
  have h := this ⟨(n + 128).toNat, by omega⟩
  have e : (((n + 128).toNat : ℕ) : ℤ) - 128 = n := by omega
  simpa only [e] using h

/-- and the stored byte, widened again, is the 32-bit code. -/
theorem code8_signExtend (x : EReal) : (code8 x).signExtend 32 = code x := by
  obtain ⟨n, h1, h2, e1, e2⟩ := code_cases x
  rw [e2, e1, ofInt_byte (by omega) (by omega)]

/-! ## A code with a zero point -/

/-- The code less its zero point: clipped to `[-z, 255 - z]`, then rounded; -/
@[irreducible] def zcode (z : BitVec 32) (x : EReal) : BitVec 32 :=
  Ideal.fptosi 32 (rnd (min (Ideal.ofBits .f32 0x437F0000#32 - ((z.toInt : ℝ) : EReal))
    (max (0 - ((z.toInt : ℝ) : EReal)) x)))

/-- the stored code: rounded, the zero point added, clipped to `[0, 255]`. -/
@[irreducible] def zcode8 (z : BitVec 32) (x : EReal) : BitVec 8 :=
  (Ideal.fptosi 32 (min (Ideal.ofBits .f32 0x437F0000#32) (max 0 (rnd x + ((z.toInt : ℝ) : EReal))))).setWidth 8

theorem ofInt_ubyte {n : ℤ} (h1 : 0 ≤ n) (h2 : n ≤ 255) :
    (((BitVec.ofInt 32 n).setWidth 8).setWidth 32) = BitVec.ofInt 32 n := by
  have : ∀ i : Fin 256, (((BitVec.ofInt 32 (i : ℤ)).setWidth 8).setWidth 32) = BitVec.ofInt 32 (i : ℤ) := by
    decide +kernel
  have h := this ⟨n.toNat, by omega⟩
  have e : ((n.toNat : ℕ) : ℤ) = n := by omega
  simpa only [e] using h

/-- Where `255 - z` fits a 32-bit word, the stored code is the shifted one plus the zero point, and the shifted one is
    the stored one less the zero point. -/
theorem zcode8_eq (z : BitVec 32) (x : EReal) (hz : -2147483392 ≤ z.toInt) :
    zcode8 z x = (zcode z x + z).setWidth 8 ∧ (zcode8 z x).setWidth 32 - z = zcode z x := by
  have hz2 : z.toInt < 2147483648 := by have := z.toInt_lt; norm_num at this; exact this
  obtain ⟨n, h1, h2, e1, e2⟩ := round_clip x (show -z.toInt ≤ 255 - z.toInt by omega)
  have b1 : Ideal.ofBits .f32 0x437F0000#32 - ((z.toInt : ℝ) : EReal) = (((255 - z.toInt : ℤ) : ℝ) : EReal) := by
    rw [c_255, ← EReal.coe_sub]; push_cast; rfl
  have b2 : (0 : EReal) - ((z.toInt : ℝ) : EReal) = (((-z.toInt : ℤ) : ℝ) : EReal) := by
    rw [← EReal.coe_zero, ← EReal.coe_sub]; push_cast; rw [zero_sub]
  have k1 : zcode z x = BitVec.ofInt 32 n := by
    rw [zcode, b1, b2, e1, fptosi_int (by omega) (by omega)]
  have k2 : min (Ideal.ofBits .f32 0x437F0000#32) (max 0 (rnd x + ((z.toInt : ℝ) : EReal))) = (((n + z.toInt : ℤ) : ℝ) : EReal) := by
    have s : ∀ y : EReal, min (((255 : ℤ) : ℝ) : EReal) (max 0 (y + ((z.toInt : ℝ) : EReal)))
        = min (((255 - z.toInt : ℤ) : ℝ) : EReal) (max (((-z.toInt : ℤ) : ℝ) : EReal) y) + ((z.toInt : ℝ) : EReal) := by
      intro y
      induction y using EReal.rec with
      | bot =>
        rw [EReal.bot_add, max_eq_left bot_le, max_eq_left bot_le, min_eq_right (by exact_mod_cast (show (0:ℤ) ≤ 255 by norm_num)),
          min_eq_right (by exact_mod_cast (show -z.toInt ≤ 255 - z.toInt by omega)), ← EReal.coe_add]
        rw [← EReal.coe_zero]; congr 1; push_cast; ring
      | top =>
        rw [EReal.top_add_coe, max_eq_right le_top, max_eq_right le_top, min_eq_left le_top, min_eq_left le_top, ← EReal.coe_add]
        congr 1; push_cast; ring
      | coe r =>
        rw [← EReal.coe_zero, ← EReal.coe_add, ← coe_max, ← coe_max, ← coe_min, ← coe_min, ← EReal.coe_add,
          ← min_add_add_right, ← max_add_add_right]
        congr 1; push_cast; rw [neg_add_cancel, sub_add_cancel]
    rw [c_255, s, e2, ← EReal.coe_add]; push_cast; rfl
  have k3 : zcode8 z x = (BitVec.ofInt 32 (n + z.toInt)).setWidth 8 := by
    rw [zcode8, k2, fptosi_int (by omega) (by omega)]
  have k4 : BitVec.ofInt 32 (n + z.toInt) = BitVec.ofInt 32 n + z := by
    rw [BitVec.ofInt_add, BitVec.ofInt_toInt]
  refine ⟨by rw [k3, k1, k4], ?_⟩
  rw [k3, k1, ofInt_ubyte (by omega) (by omega), k4]
  exact BitVec.add_sub_cancel _ _

/-- A zero point that was converted to a float and back is itself. -/
theorem fptosi_toInt (z : BitVec 32) : Ideal.fptosi 32 ((z.toInt : ℝ) : EReal) = z := by
  have h2 : z.toInt < 2147483648 := by have := z.toInt_lt; norm_num at this; exact this
  have h1 : -2147483648 ≤ z.toInt := by have := z.le_toInt; norm_num at this; exact this
  rw [fptosi_int h1 (by omega), BitVec.ofInt_toInt]

/-! ## The exact GELU -/

/-- An error function of a real is a real. -/
theorem erf_real (r : ℝ) : ∃ e : ℝ, Ideal.erf (r : EReal) = (e : EReal) := ⟨_, Ideal.erf_coe r⟩

/-- A sum of products of integers is a real. -/
theorem sum_int {n : ℕ} (p q : Fin n → ℤ) : ∃ r : ℝ, (∑ k, ((p k : ℝ) : EReal) * ((q k : ℝ) : EReal)) = (r : EReal) :=
  ⟨∑ k, (p k : ℝ) * (q k : ℝ), by
    simp only [← EReal.coe_mul]
    induction (Finset.univ : Finset (Fin n)) using Finset.induction_on with
    | empty => simp
    | insert a s ha ih => rw [Finset.sum_insert ha, Finset.sum_insert ha, ih, EReal.coe_add]⟩

/-- The GELU with its scales folded in (the argument multiplied by the root of a half, the division by the output scale
    folded into one factor) is the GELU of the plain argument, divided by the output scale. -/
theorem gelu_eq (g s w b sh : EReal) (hg : ∃ r : ℝ, g = (r : EReal)) (hs : ∃ r : ℝ, s = (r : EReal)) (hw : ∃ r : ℝ, w = (r : EReal))
    (hb : ∃ r : ℝ, b = (r : EReal)) (hsh : sh ≠ 0) {R : ℝ} (hR : 0 < R) :
    ((g * (s * w * (R : EReal)) + b * (R : EReal)) * Ideal.erf (g * (s * w * (R : EReal)) + b * (R : EReal))
        + (g * (s * w * (R : EReal)) + b * (R : EReal))) * Ideal.div ((1 / 2 : ℝ) : EReal) ((R : EReal) * sh)
      = Ideal.div (((1 / 2 : ℝ) : EReal) * (g * s * w + b) * Ideal.erfc (-(g * s * w + b) * (R : EReal))) sh := by
  obtain ⟨g, rfl⟩ := hg; obtain ⟨s, rfl⟩ := hs; obtain ⟨w, rfl⟩ := hw; obtain ⟨b, rfl⟩ := hb
  have e1 : ((g : EReal) * ((s : EReal) * (w : EReal) * (R : EReal)) + (b : EReal) * (R : EReal)) = (((g * s * w + b) * R : ℝ) : EReal) := by
    simp only [← EReal.coe_mul, ← EReal.coe_add]; congr 1; ring
  have e2 : ((g : EReal) * (s : EReal) * (w : EReal) + (b : EReal)) = ((g * s * w + b : ℝ) : EReal) := by
    simp only [← EReal.coe_mul, ← EReal.coe_add]
  rw [e1, e2]
  generalize g * s * w + b = x
  have e3 : -(x : EReal) * (R : EReal) = -((x * R : ℝ) : EReal) := by rw [EReal.coe_mul, EReal.neg_mul]
  rw [e3, Ideal.erfc_neg]
  obtain ⟨e, he⟩ := erf_real (x * R)
  rw [he]
  have hRE : (R : EReal) ≠ 0 := by exact_mod_cast hR.ne'
  have hRs : (R : EReal) * sh ≠ 0 := mul_ne_zero hRE hsh
  rw [Ideal.div, if_neg hRs, Ideal.div, if_neg hsh]
  induction sh using EReal.rec with
  | bot => rw [EReal.coe_mul_bot_of_pos hR, EReal.inv_bot, mul_zero, mul_zero, mul_zero]
  | top => rw [EReal.coe_mul_top_of_pos hR, EReal.inv_top, mul_zero, mul_zero, mul_zero]
  | coe t =>
    have ht : t ≠ 0 := by exact_mod_cast hsh
    rw [← EReal.coe_one]
    simp only [← EReal.coe_mul, ← EReal.coe_add, ← EReal.coe_inv]
    congr 1
    field_simp
    ring

end Cert.Arith

end
-- ==== Proof.Row.lean ====
/-
  The back half of the block for ONE token, as plain functions of the token's rows and the parameters: the output layer
  norm with its per-token code scale, the output projection and residual, the second layer norm, and the two layers of
  the feed-forward part. Both programs are read against these functions.
-/
module

public import proofs.«01_k».proof.Proof.Arith

@[expose] public section

noncomputable section

namespace Cert.Row

open Idealize.ShloMosaic Cert.Arith

/-- The small number under the layer norms' root. -/
abbrev eps : EReal := Ideal.ofBits .f32 0x3727C5AC#32

/-- The f32 number next to the root of a half. -/
abbrev root : EReal := Ideal.ofBits .f32 0x3F3504F3#32

/-- An integer word as an extended real. -/
abbrev num {w : ℕ} (b : BitVec w) : EReal := ((b.toInt : ℝ) : EReal)

/-- The layer norm of a row: less its mean, over the root of its variance, scaled and shifted. -/
@[irreducible] def ln {n : ℕ} (c : EReal) (v g b : Fin n → EReal) (k : Fin n) : EReal :=
  Ideal.div (v k - Ideal.div (∑ j, v j) c)
      (Ideal.sqrt (Ideal.div (∑ j, (v j - Ideal.div (∑ i, v i) c) * (v j - Ideal.div (∑ i, v i) c)) c + eps))
    * g k + b k

/-- The largest magnitude of a row. -/
@[irreducible] def absmax {n : ℕ} (v : Fin n → EReal) : EReal :=
  Finset.univ.fold max (Ideal.ofBits .f32 0xFF800000#32) fun k => FloatOps.absf (F := Ideal) (φ := .f32) (v k)

/-- A row's code scale: its largest magnitude over 127, or 1 for a row of zeros. -/
@[irreducible] def scale {n : ℕ} (v : Fin n → EReal) : EReal :=
  if absmax v = 0 then 1 else Ideal.div (absmax v) (Ideal.ofBits .f32 0x42FE0000#32)

/-- The parameters. -/
structure Params where
  onG : Fin 512 → EReal
  onB : Fin 512 → EReal
  wOut : Fin 512 → Fin 256 → EReal
  wOutS : Fin 256 → EReal
  lnG : Fin 256 → EReal
  lnB : Fin 256 → EReal
  sA2 : EReal
  w1 : Fin 256 → Fin 1024 → EReal
  w1S : Fin 1024 → EReal
  b1 : Fin 1024 → EReal
  sH : EReal
  zH : BitVec 32
  w2 : Fin 1024 → Fin 256 → EReal
  w2S : Fin 256 → EReal
  b2 : Fin 256 → EReal

variable (p : Params) (y : Fin 512 → EReal) (x : Fin 256 → EReal)

/-- The scan's output, normalised. -/
@[irreducible] def onv (k : Fin 512) : EReal := ln (Ideal.ofBits .f32 0x44000000#32) y p.onG p.onB k

/-- Its codes. -/
@[irreducible] def on (k : Fin 512) : BitVec 32 := code (Ideal.div (onv p y k) (scale (onv p y)))

/-- The residual after the output projection. -/
@[irreducible] def x1 (d : Fin 256) : EReal := x d + (∑ e, num (on p y e) * p.wOut e d) * scale (onv p y) * p.wOutS d

/-- The second layer norm. -/
@[irreducible] def a2v (d : Fin 256) : EReal := ln (Ideal.ofBits .f32 0x43800000#32) (x1 p y x) p.lnG p.lnB d

/-- Its codes. -/
@[irreducible] def a2 (d : Fin 256) : BitVec 32 := code (Ideal.div (a2v p y x d) p.sA2)

/-- The integer sums of the first layer, -/
@[irreducible] def acc1 (f : Fin 1024) : EReal := ∑ d, num (a2 p y x d) * p.w1 d f

/-- the argument of the GELU, -/
@[irreducible] def pre (f : Fin 1024) : EReal := acc1 p y x f * p.sA2 * p.w1S f + p.b1 f

/-- and the GELU over its code scale. -/
@[irreducible] def hv (f : Fin 1024) : EReal :=
  Ideal.div (Ideal.ofBits .f32 0x3F000000#32 * pre p y x f * Ideal.erfc (-pre p y x f * root)) p.sH

/-- The hidden codes less their zero point. -/
@[irreducible] def hc (f : Fin 1024) : BitVec 32 := zcode p.zH (hv p y x f)

/-- The integer sums of the second layer, -/
@[irreducible] def acc2 (d : Fin 256) : EReal := ∑ f, num (hc p y x f) * p.w2 f d

/-- and the block's output. -/
@[irreducible] def out (d : Fin 256) : EReal := x1 p y x d + (acc2 p y x d * p.sH * p.w2S d + p.b2 d)

/-! ## The parameters as arrays -/

/-- The parameters read off the argument arrays. -/
def params (g b : (⟨1, ![512]⟩ : Shape).Idx → EReal) (wo : (⟨2, ![512, 256]⟩ : Shape).Idx → BitVec 8)
    (wos g2 b2 : (⟨1, ![256]⟩ : Shape).Idx → EReal) (sa2 : (⟨0, ![]⟩ : Shape).Idx → EReal)
    (w1 : (⟨2, ![256, 1024]⟩ : Shape).Idx → BitVec 8) (w1s b1 : (⟨1, ![1024]⟩ : Shape).Idx → EReal)
    (sh : (⟨0, ![]⟩ : Shape).Idx → EReal) (zh : (⟨0, ![]⟩ : Shape).Idx → BitVec 32)
    (w2 : (⟨2, ![1024, 256]⟩ : Shape).Idx → BitVec 8) (w2s bf2 : (⟨1, ![256]⟩ : Shape).Idx → EReal) : Params where
  onG k := g (ix1 k)
  onB k := b (ix1 k)
  wOut e d := num ((wo (ix2 e d)).signExtend 32)
  wOutS d := wos (ix1 d)
  lnG d := g2 (ix1 d)
  lnB d := b2 (ix1 d)
  sA2 := sa2 ix0
  w1 d f := num ((w1 (ix2 d f)).signExtend 32)
  w1S f := w1s (ix1 f)
  b1 f := b1 (ix1 f)
  sH := sh ix0
  zH := zh ix0
  w2 f d := num ((w2 (ix2 f d)).signExtend 32)
  w2S d := w2s (ix1 d)
  b2 d := bf2 (ix1 d)

/-- Token `t`'s row of the scan's output (28 x 36 positions, 3 groups of 8 samples, 512 channels). -/
def yrow (a : (⟨5, ![28, 36, 3, 8, 512]⟩ : Shape).Idx → EReal) (t : Fin 24192) (k : Fin 512) : EReal :=
  a (ix5 ⟨t.val / 864, by omega⟩ ⟨t.val / 24 % 36, by omega⟩ ⟨t.val / 8 % 3, by omega⟩ ⟨t.val % 8, by omega⟩ k)

/-- Token `t`'s row of the block's input (24 samples, 28 x 36 positions, 256 channels). -/
def xrow (a : (⟨4, ![24, 28, 36, 256]⟩ : Shape).Idx → EReal) (t : Fin 24192) (d : Fin 256) : EReal :=
  a (ix4 ⟨t.val % 24, by omega⟩ ⟨t.val / 864, by omega⟩ ⟨t.val / 24 % 36, by omega⟩ d)

end Cert.Row

end
-- ==== Proof.Goal.lean ====
/-
  What the five results of the back half hold, entry by entry, as functions of the tokens' rows: first as the kernel
  writes them (the codes of the three quantised arrays in tiles: a row of 128 codes for every group of 8 tokens, every
  tile of 128 channels and every token of the group), then as the block returns them, by image, row and column.
-/
module

public import proofs.«01_k».proof.Proof.Row

@[expose] public section

noncomputable section

namespace Cert.Goal

open Idealize.ShloMosaic Cert.Row Cert.Arith

/-- The token in row `s` of group `g`. -/
abbrev tok (g : Fin 3024) (s : Fin 8) : Fin 24192 := ⟨8 * g.val + s.val, by omega⟩

/-- The token and the channel of entry `(i, l)` of an array of codes, with 4 tiles of 128 channels, -/
abbrev tok4 (i : Fin 96768) : Fin 24192 := ⟨8 * (i.val / 32) + i.val % 8, by omega⟩
abbrev ch4 (i : Fin 96768) (l : Fin 128) : Fin 512 := ⟨i.val / 8 % 4 * 128 + l.val, by omega⟩

/-- with 2 tiles, -/
abbrev tok2 (i : Fin 48384) : Fin 24192 := ⟨8 * (i.val / 16) + i.val % 8, by omega⟩
abbrev ch2 (i : Fin 48384) (l : Fin 128) : Fin 256 := ⟨i.val / 8 % 2 * 128 + l.val, by omega⟩

/-- and with 8. -/
abbrev tok8 (i : Fin 193536) : Fin 24192 := ⟨8 * (i.val / 64) + i.val % 8, by omega⟩
abbrev ch8 (i : Fin 193536) (l : Fin 128) : Fin 1024 := ⟨i.val / 8 % 8 * 128 + l.val, by omega⟩

variable (p : Params) (Y : Fin 24192 → Fin 512 → EReal) (X : Fin 24192 → Fin 256 → EReal)

/-- The block's output. -/
def y (g : Fin 3024) (s : Fin 8) (d : Fin 256) : EReal := out p (Y (tok g s)) (X (tok g s)) d

/-- The codes of the first norm, -/
def onC (t : Fin 24192) (k : Fin 512) : BitVec 8 := code8 (Ideal.div (onv p (Y t) k) (scale (onv p (Y t))))

/-- their scales, -/
def sc (t : Fin 24192) : EReal := scale (onv p (Y t))

/-- the codes of the second norm, -/
def a2C (t : Fin 24192) (d : Fin 256) : BitVec 8 := code8 (Ideal.div (a2v p (Y t) (X t) d) p.sA2)

/-- and the hidden codes. -/
def hqC (t : Fin 24192) (f : Fin 1024) : BitVec 8 := zcode8 p.zH (hv p (Y t) (X t) f)

/-! ## As the kernel writes them -/

def yArr : (⟨3, ![3024, 8, 256]⟩ : Shape).Idx → EReal := fun i => y p Y X (i 0) (i 1) (i 2)
def onArr : (⟨2, ![96768, 128]⟩ : Shape).Idx → BitVec 8 := fun i => onC p Y (tok4 (i 0)) (ch4 (i 0) (i 1))
def scArr : (⟨3, ![3024, 8, 128]⟩ : Shape).Idx → EReal := fun i => sc p Y (tok (i 0) (i 1))
def a2Arr : (⟨2, ![48384, 128]⟩ : Shape).Idx → BitVec 8 := fun i => a2C p Y X (tok2 (i 0)) (ch2 (i 0) (i 1))
def hqArr : (⟨2, ![193536, 128]⟩ : Shape).Idx → BitVec 8 := fun i => hqC p Y X (tok8 (i 0)) (ch8 (i 0) (i 1))

/-! ## As the block returns them -/

/-- The token of image `b`, row `h` and column `w`. -/
abbrev pos (b : Fin 24) (h : Fin 28) (w : Fin 36) : Fin 24192 := ⟨(h.val * 36 + w.val) * 24 + b.val, by omega⟩

def yRes : (⟨4, ![24, 28, 36, 256]⟩ : Shape).Idx → EReal := fun i => out p (Y (pos (i 0) (i 1) (i 2))) (X (pos (i 0) (i 1) (i 2))) (i 3)
def onRes : (⟨4, ![24, 28, 36, 512]⟩ : Shape).Idx → BitVec 8 := fun i => onC p Y (pos (i 0) (i 1) (i 2)) (i 3)
def scRes : (⟨3, ![24, 28, 36]⟩ : Shape).Idx → EReal := fun i => sc p Y (pos (i 0) (i 1) (i 2))
def a2Res : (⟨4, ![24, 28, 36, 256]⟩ : Shape).Idx → BitVec 8 := fun i => a2C p Y X (pos (i 0) (i 1) (i 2)) (i 3)
def hqRes : (⟨4, ![24, 28, 36, 1024]⟩ : Shape).Idx → BitVec 8 := fun i => hqC p Y X (pos (i 0) (i 1) (i 2)) (i 3)

/-- The input's row of a token is the input at its image, row and column. -/
theorem xrow_pos (a : (⟨4, ![24, 28, 36, 256]⟩ : Shape).Idx → EReal) (b : Fin 24) (h : Fin 28) (w : Fin 36) (d : Fin 256) :
    xrow a (pos b h w) d = a (ix4 b h w d) := by
  have e0 : (⟨(pos b h w).val % 24, by omega⟩ : Fin 24) = b := Fin.ext (by dsimp only; omega)
  have e1 : (⟨(pos b h w).val / 864, by omega⟩ : Fin 28) = h := Fin.ext (by dsimp only; omega)
  have e2 : (⟨(pos b h w).val / 24 % 36, by omega⟩ : Fin 36) = w := Fin.ext (by dsimp only; omega)
  show a (ix4 (⟨(pos b h w).val % 24, by omega⟩ : Fin 24) (⟨(pos b h w).val / 864, by omega⟩ : Fin 28) (⟨(pos b h w).val / 24 % 36, by omega⟩ : Fin 36) d) = _
  rw [e0, e1, e2]

/-- The scan's output at a token. -/
theorem yrow_pos (a : (⟨5, ![28, 36, 3, 8, 512]⟩ : Shape).Idx → EReal) (b : Fin 24) (h : Fin 28) (w : Fin 36) (k : Fin 512) :
    yrow a (pos b h w) k = a (ix5 h w ⟨b.val / 8, by omega⟩ ⟨b.val % 8, by omega⟩ k) := by
  have e1 : (⟨(pos b h w).val / 864, by omega⟩ : Fin 28) = h := Fin.ext (by dsimp only; omega)
  have e2 : (⟨(pos b h w).val / 24 % 36, by omega⟩ : Fin 36) = w := Fin.ext (by dsimp only; omega)
  have e3 : (⟨(pos b h w).val / 8 % 3, by omega⟩ : Fin 3) = ⟨b.val / 8, by omega⟩ := Fin.ext (by dsimp only; omega)
  have e4 : (⟨(pos b h w).val % 8, by omega⟩ : Fin 8) = ⟨b.val % 8, by omega⟩ := Fin.ext (by dsimp only; omega)
  show a (ix5 (⟨(pos b h w).val / 864, by omega⟩ : Fin 28) (⟨(pos b h w).val / 24 % 36, by omega⟩ : Fin 36) (⟨(pos b h w).val / 8 % 3, by omega⟩ : Fin 3) (⟨(pos b h w).val % 8, by omega⟩ : Fin 8) k) = _
  rw [e1, e2, e3, e4]

end Cert.Goal

end
-- ==== Proof.FrontRow.lean ====
/-
  What the norm and the input projection say of one token, the two results they give as functions of the tokens' rows:
  first as the kernel writes them (codes in tiles), then as the block returns them, by image, row and column.
-/
module

public import proofs.«01_k».proof.Proof.Goal

@[expose] public section

noncomputable section

namespace Cert.FrontRow

open Idealize.ShloMosaic Cert.Row Cert.Arith Cert.Goal

/-- The parameters: the norm's weight and shift, the scale of its codes, the projection's codes, the scales of its
    columns, and the scales of its codes. -/
structure FParams where
  lnG : Fin 256 → EReal
  lnB : Fin 256 → EReal
  sA : EReal
  wIn : Fin 256 → Fin 512 → EReal
  wInS : Fin 512 → EReal
  sC : Fin 512 → EReal

/-- The parameters in the arguments. -/
def fparams (g b : (⟨1, ![256]⟩ : Shape).Idx → EReal) (sa : (⟨0, ![]⟩ : Shape).Idx → EReal)
    (w : (⟨2, ![256, 512]⟩ : Shape).Idx → BitVec 8) (ws sc : (⟨1, ![512]⟩ : Shape).Idx → EReal) : FParams where
  lnG k := g (ix1 k)
  lnB k := b (ix1 k)
  sA := sa ix0
  wIn d e := num ((w (ix2 d e)).signExtend 32)
  wInS e := ws (ix1 e)
  sC e := sc (ix1 e)

section token
variable (p : FParams) (x : Fin 256 → EReal)

/-- The norm of the token's row, over the scale of its codes. -/
def a1v (d : Fin 256) : EReal := Ideal.div (ln (Ideal.ofBits .f32 0x43800000#32) x p.lnG p.lnB d) p.sA

/-- The projection of the norm's codes. -/
def accI (e : Fin 512) : EReal := ∑ d, num (code (a1v p x d)) * p.wIn d e

/-- The projection, scaled, over the scale of its codes. -/
def cvv (e : Fin 512) : EReal := Ideal.div (accI p x e * p.sA * p.wInS e) (p.sC e)
end token

variable (p : FParams) (X : Fin 24192 → Fin 256 → EReal)

/-- The codes as the kernel writes them, -/
def a1Arr : (⟨2, ![48384, 128]⟩ : Shape).Idx → BitVec 8 := fun i => code8 (a1v p (X (tok2 (i 0))) (ch2 (i 0) (i 1)))
def cvArr : (⟨2, ![96768, 128]⟩ : Shape).Idx → BitVec 8 := fun i => code8 (cvv p (X (tok4 (i 0))) (ch4 (i 0) (i 1)))

/-- and as the block returns them. -/
def a1Res : (⟨4, ![24, 28, 36, 256]⟩ : Shape).Idx → BitVec 8 := fun i => code8 (a1v p (X (pos (i 0) (i 1) (i 2))) (i 3))
def cvRes : (⟨4, ![24, 28, 36, 512]⟩ : Shape).Idx → BitVec 8 := fun i => code8 (cvv p (X (pos (i 0) (i 1) (i 2))) (i 3))

/-- A product with a quotient is the quotient of the product, by a divisor other than zero. -/
theorem mul_div {a b c d : EReal} (h : d ≠ 0) : a * Ideal.div (b * c) d = Ideal.div (a * b * c) d := by
  rw [Ideal.div, Ideal.div, if_neg h, if_neg h]
  simp only [mul_assoc]

end Cert.FrontRow

end
-- ==== Proof.Pay.lean ====
/-
  What one block of the kernel computes: the values its body hands on, at an index, as the row functions of `Row.lean`.
  Row `r` of a block (432 tokens, in 54 groups of 8) is token `r` of the block; `Yb` and `Xb` are the rows of the scan's
  output and of the block's input there.
-/
module

public import proofs.«01_k».proof.Proof.Row
public import proofs.«01_k».proof.Proof.Gen.BackIdeal.Skeleton

@[expose] public section

set_option maxRecDepth 16384

noncomputable section

namespace Cert.Pay

open Idealize.ShloMosaic Cert.BackIdeal Cert.BackIdeal.Gen Cert.Row Cert.Arith

/-- The layer norm as the kernel computes it, with reciprocals, is the layer norm. -/
theorem ln_eq {n : ℕ} {c : ℝ} (hc : 0 < c) {inv cb : EReal} (hinv : inv = ((1 / c : ℝ) : EReal)) (hcb : cb = (c : EReal))
    (v g b : Fin n → EReal) (k : Fin n) :
    (v k - (∑ j, v j) * inv) * Ideal.rsqrt ((∑ j, (v j - (∑ i, v i) * inv) * (v j - (∑ i, v i) * inv)) * inv + eps)
        * g k + b k = ln cb v g b k := by
  obtain ⟨e, he, h⟩ := c_eps
  rw [ln, hinv, hcb, eps, h, mul_recip_eq_div _ hc,
    norm_eq (fun j => v j - Ideal.div (∑ i, v i) (c : EReal)) k hc he]

/-- The error function, as the function it is over the extended reals. -/
theorem erf_op (x : Ideal .f32) : FloatOps.erf (F := Ideal) (φ := .f32) x = Ideal.erf x := rfl

variable {p : Params} {Yb : Fin 432 → Fin 512 → EReal} {Xb : Fin 432 → Fin 256 → EReal}

section first
variable {v0 : Vec Ideal S54x8x512 .f32} {v19 v23 : Vec Ideal S1x512 .f32}
  (h0 : ∀ (r : Fin 432) (k : Fin 512), v0 (ix3 ⟨r.val / 8, Nat.div_lt_of_lt_mul r.isLt⟩ ⟨r.val % 8, Nat.mod_lt _ (Nat.succ_pos 7)⟩ k) = Yb r k)
  (hg : ∀ k, v19 (ix2 0 k) = p.onG k) (hb : ∀ k, v23 (ix2 0 k) = p.onB k)
include h0 hg hb

/-- The first norm, -/
theorem pay2_at (r : Fin 432) (k : Fin 512) : k0_pay2 v0 v19 v23 (ix2 r k) = onv p (Yb r) k := by
  rw [onv, ← ln_eq (by norm_num : (0 : ℝ) < 512) c_inv512 c_512]
  pointwise [k0_pay2]
  simp only [h0, hg, hb, Ideal.ofBits_def, eps]

/-- its row's scale, -/
theorem pay3_at (r : Fin 432) : k0_pay3 v0 v19 v23 (ix2 r 0) = scale (onv p (Yb r)) := by
  have e := fun k => pay2_at h0 hg hb r k
  have h2 : ∀ w : FVec Ideal S432x512 .f32, k0_pay2 v0 v19 v23 = w → ∀ k, w (ix2 r k) = onv p (Yb r) k := fun w hw k => hw ▸ e k
  unfold k0_pay3
  generalize k0_pay2 v0 v19 v23 = w at h2
  have h3 := h2 w rfl
  unfold scale absmax
  pointwise
  simp only [h3, Ideal.ofBits_def, Ideal.ofBits_one_f32, Ideal.ofBits_zero_f32]

/-- and its codes. -/
theorem pay6_at (r : Fin 432) (k : Fin 512) :
    k0_pay6 (k0_pay4 v0 v19 v23) (k0_pay5 (F := Ideal)) (ix2 r k) = on p (Yb r) k := by
  have e := pay2_at h0 hg hb r k
  have e3 := pay3_at h0 hg hb r
  unfold k0_pay6 k0_pay5 k0_pay4
  generalize k0_pay2 v0 v19 v23 = w at e ⊢
  generalize k0_pay3 v0 v19 v23 = s at e3 ⊢
  unfold on code rnd
  pointwise
  simp only [e, e3, Ideal.ofBits_def, fptosi_op]
end first

/-- The codes of the first norm as stored, in 4 tiles of 128 channels, -/
theorem pay7_at {v39 v40 : FVec Ideal S432x512 .f32} (i : Fin 1728) (l : Fin 128) :
    k0_pay7 v39 v40 (ix2 i l)
      = (k0_pay6 v39 v40 (ix2 ⟨8 * (i.val / 32) + i.val % 8, by omega⟩ ⟨i.val / 8 % 4 * 128 + l.val, by omega⟩)).setWidth 8 := by
  unfold k0_pay7
  generalize k0_pay6 v39 v40 = q
  pointwise
  split_ifs <;> (congr 3 <;> exact Fin.ext (by dsimp only; omega))

/-- and the scales, repeated along the lanes. -/
theorem pay8_at (v35 : FVec Ideal S432x1 .f32) (g : Fin 54) (s : Fin 8) (l : Fin 128) :
    k0_pay8 v35 (ix3 g s l) = v35 (ix2 ⟨8 * g.val + s.val, by omega⟩ 0) := by
  pointwise [k0_pay8]
  congr 2; exact Fin.ext (by dsimp only; omega)

section second
variable {v35 : FVec Ideal S432x1 .f32} {v39 v40 : FVec Ideal S432x512 .f32} {v59 : Vec Ideal S512x256 .bf16}
  {v62 : Vec Ideal S54x8x256 .bf16} {v68 : Vec Ideal S1x256 .f32}
  (hs : ∀ r, v35 (ix2 r 0) = scale (onv p (Yb r))) (hq : ∀ r k, k0_pay6 v39 v40 (ix2 r k) = on p (Yb r) k)
  (hw : ∀ e d, v59 (ix2 e d) = p.wOut e d) (hws : ∀ d, v68 (ix2 0 d) = p.wOutS d)
  (hx : ∀ (r : Fin 432) (d : Fin 256), v62 (ix3 ⟨r.val / 8, Nat.div_lt_of_lt_mul r.isLt⟩ ⟨r.val % 8, Nat.mod_lt _ (Nat.succ_pos 7)⟩ d) = Xb r d)
include hs hq hw hws hx

/-- The residual, -/
theorem pay9_at (r : Fin 432) (d : Fin 256) : k0_pay9 v35 v39 v40 v59 v62 v68 (ix2 r d) = x1 p (Yb r) (Xb r) d := by
  unfold k0_pay9 x1
  generalize k0_pay6 v39 v40 = q at hq
  pointwise
  simp only [hs, hq, hw, hws, hx, sitofp_op, num]

/-- less its mean, -/
theorem pay10_at (r : Fin 432) (d : Fin 256) : k0_pay10 v35 v39 v40 v59 v62 v68 (ix2 r d)
    = x1 p (Yb r) (Xb r) d - (∑ e, x1 p (Yb r) (Xb r) e) * Ideal.ofBits .f32 0x3B800000#32 := by
  have e := fun d => pay9_at hs hq hw hws hx r d
  unfold k0_pay10
  generalize k0_pay9 v35 v39 v40 v59 v62 v68 = w at e ⊢
  pointwise
  simp only [e, Ideal.ofBits_def]

/-- and the sum of the squares of that. -/
theorem pay11_at (r : Fin 432) : k0_pay11 v35 v39 v40 v59 v62 v68 (ix2 r 0)
    = ∑ d, (x1 p (Yb r) (Xb r) d - (∑ e, x1 p (Yb r) (Xb r) e) * Ideal.ofBits .f32 0x3B800000#32)
        * (x1 p (Yb r) (Xb r) d - (∑ e, x1 p (Yb r) (Xb r) e) * Ideal.ofBits .f32 0x3B800000#32) := by
  have e := fun d => pay10_at hs hq hw hws hx r d
  unfold k0_pay11
  generalize k0_pay10 v35 v39 v40 v59 v62 v68 = w at e ⊢
  pointwise
  simp only [e]
end second

section third
variable {v78 : FVec Ideal S432x256 .f32} {v81 : FVec Ideal S432x1 .f32} {v89 v93 : Vec Ideal S1x256 .f32} {v97 : Elt Ideal .f32}
  (hd : ∀ r d, v78 (ix2 r d) = x1 p (Yb r) (Xb r) d - (∑ e, x1 p (Yb r) (Xb r) e) * Ideal.ofBits .f32 0x3B800000#32)
  (hv : ∀ r, v81 (ix2 r 0) = ∑ d, (x1 p (Yb r) (Xb r) d - (∑ e, x1 p (Yb r) (Xb r) e) * Ideal.ofBits .f32 0x3B800000#32)
        * (x1 p (Yb r) (Xb r) d - (∑ e, x1 p (Yb r) (Xb r) e) * Ideal.ofBits .f32 0x3B800000#32))
  (hg : ∀ d, v89 (ix2 0 d) = p.lnG d) (hb : ∀ d, v93 (ix2 0 d) = p.lnB d)
  (hsc : v97 = Ideal.div 1 p.sA2) (h0 : p.sA2 ≠ 0)
include hd hv hg hb hsc h0

/-- The codes of the second norm. -/
theorem pay12_at (r : Fin 432) (d : Fin 256) :
    k0_pay12 v78 v81 (Scalar.ofBits (F := Ideal) .f32 0x3B800000#32) v89 v93 v97 (ix2 r d) = a2 p (Yb r) (Xb r) d := by
  rw [a2, a2v, ← Ideal.mul_one_div h0, ← ln_eq (by norm_num : (0 : ℝ) < 256) c_inv256 c_256, code, rnd]
  pointwise [k0_pay12]
  simp only [hd, hv, hg, hb, hsc, Ideal.ofBits_def, eps, fptosi_op]
end third

/-- The codes of the second norm as stored, in 2 tiles of 128 channels. -/
theorem pay13_at {v78 : FVec Ideal S432x256 .f32} {v81 : FVec Ideal S432x1 .f32} {c30 : Elt Ideal .f32} {v89 v93 : Vec Ideal S1x256 .f32}
    {v97 : Elt Ideal .f32} (i : Fin 864) (l : Fin 128) :
    k0_pay13 v78 v81 c30 v89 v93 v97 (ix2 i l)
      = (k0_pay12 v78 v81 c30 v89 v93 v97 (ix2 ⟨8 * (i.val / 16) + i.val % 8, by omega⟩ ⟨i.val / 8 % 2 * 128 + l.val, by omega⟩)).setWidth 8 := by
  unfold k0_pay13
  generalize k0_pay12 v78 v81 c30 v89 v93 v97 = q
  pointwise
  split_ifs <;> (congr 3 <;> exact Fin.ext (by dsimp only; omega))

/-- The first layer's sums, scaled. -/
theorem pay14_at {v78 : FVec Ideal S432x256 .f32} {v81 : FVec Ideal S432x1 .f32} {c30 : Elt Ideal .f32} {v89 v93 : Vec Ideal S1x256 .f32}
    {v97 : Elt Ideal .f32} {v115 : Vec Ideal S256x1024 .bf16} {v118 : Vec Ideal S1x1024 .f32} {R : EReal}
    (hq : ∀ r d, k0_pay12 v78 v81 c30 v89 v93 v97 (ix2 r d) = a2 p (Yb r) (Xb r) d)
    (hw : ∀ d f, v115 (ix2 d f) = p.w1 d f) (hf : ∀ f, v118 (ix2 0 f) = p.sA2 * p.w1S f * R) (r : Fin 432) (f : Fin 1024) :
    k0_pay14 v78 v81 c30 v89 v93 v97 v115 v118 (ix2 r f) = acc1 p (Yb r) (Xb r) f * (p.sA2 * p.w1S f * R) := by
  unfold k0_pay14 acc1
  generalize k0_pay12 v78 v81 c30 v89 v93 v97 = q at hq
  pointwise
  simp only [hq, hw, hf, sitofp_op, num]

section fourth
variable {v121 : FVec Ideal S432x1024 .f32} {v122 : Vec Ideal S1x1024 .f32} {v126 v130 : Elt Ideal .f32}
  (hg : ∀ r f, v121 (ix2 r f) = acc1 p (Yb r) (Xb r) f * (p.sA2 * p.w1S f * root))
  (hb : ∀ f, v122 (ix2 0 f) = p.b1 f * root)
  (hz : v126 = num p.zH) (hh : v130 = Ideal.div (Ideal.ofBits .f32 0x3F000000#32) (root * p.sH))
  (ha : ∀ r f, ∃ a : ℝ, acc1 p (Yb r) (Xb r) f = a) (t1 : ∃ a : ℝ, p.sA2 = a) (t2 : ∀ f, ∃ a : ℝ, p.w1S f = a)
  (t3 : ∀ f, ∃ a : ℝ, p.b1 f = a) (t4 : p.sH ≠ 0)
include hg hb hz hh ha t1 t2 t3 t4

/-- The hidden codes less their zero point, -/
theorem pay16_at (r : Fin 432) (f : Fin 1024) : k0_pay16 v121 (k0_pay15 v122) v126 v130 (ix2 r f) = hc p (Yb r) (Xb r) f := by
  obtain ⟨R, hR, hr⟩ := c_rsqrt2
  have e := gelu_eq _ _ _ _ _ (ha r f) t1 (t2 f) (t3 f) t4 hR
  rw [hc, hv, pre, zcode, rnd, root, hr, c_half, ← e]
  pointwise [k0_pay16, k0_pay15]
  simp only [hg, hb, hz, hh, root, hr, c_half, Ideal.ofBits_def, Ideal.ofBits_zero_f32, fptosi_op, num, erf_op]

/-- with it, as stored, in 8 tiles of 128, -/
theorem pay17_at (i : Fin 3456) (l : Fin 128) : k0_pay17 v121 (k0_pay15 v122) v126 v130 (ix2 i l)
    = (hc p (Yb ⟨8 * (i.val / 64) + i.val % 8, by omega⟩) (Xb ⟨8 * (i.val / 64) + i.val % 8, by omega⟩)
        ⟨i.val / 8 % 8 * 128 + l.val, by omega⟩ + p.zH).setWidth 8 := by
  rw [← pay16_at hg hb hz hh ha t1 t2 t3 t4]
  unfold k0_pay17
  generalize k0_pay16 v121 (k0_pay15 v122) v126 v130 = q
  rw [hz]
  pointwise
  simp only [num, fptosi_toInt, IntOp.addi]
  split_ifs <;>
    (refine congrArg (fun j => BitVec.setWidth 8 (q j + p.zH)) ?_
     congr 1 <;> exact Fin.ext (by dsimp only; omega))

/-- and the second layer's sums, scaled, with the bias. -/
theorem pay18_at {v159 : Vec Ideal S1024x256 .bf16} {v162 v166 : Vec Ideal S1x256 .f32} (hw : ∀ f d, v159 (ix2 f d) = p.w2 f d)
    (hws : ∀ d, v162 (ix2 0 d) = p.sH * p.w2S d) (hb2 : ∀ d, v166 (ix2 0 d) = p.b2 d) (r : Fin 432) (d : Fin 256) :
    k0_pay18 v121 (k0_pay15 v122) v126 v130 v159 v162 v166 (ix2 r d) = acc2 p (Yb r) (Xb r) d * p.sH * p.w2S d + p.b2 d := by
  have e := fun r f => pay16_at hg hb hz hh ha t1 t2 t3 t4 r f
  rw [mul_assoc, acc2]
  unfold k0_pay18
  generalize k0_pay16 v121 (k0_pay15 v122) v126 v130 = q at e
  pointwise
  simp only [e, hw, hws, hb2, sitofp_op, num]
end fourth

/-- The output. -/
theorem pay1_at {v72 v169 : FVec Ideal S432x256 .f32} (h1 : ∀ r d, v72 (ix2 r d) = x1 p (Yb r) (Xb r) d)
    (h2 : ∀ r d, v169 (ix2 r d) = acc2 p (Yb r) (Xb r) d * p.sH * p.w2S d + p.b2 d) (g : Fin 54) (s : Fin 8) (d : Fin 256) :
    k0_pay1 v72 v169 (ix3 g s d)
      = out p (Yb ⟨8 * g.val + s.val, by omega⟩) (Xb ⟨8 * g.val + s.val, by omega⟩) d := by
  have e : (⟨8 * g.val + s.val, by omega⟩ : Fin 432) = ⟨g.val * 8 + s.val, by omega⟩ := Fin.ext (by dsimp only; omega)
  rw [e, out]
  pointwise [k0_pay1]
  simp only [h1, h2]

end Cert.Pay

end
-- ==== Proof.FrontPay.lean ====
/-
  What the front kernel's values hold, entry by entry: the norm's codes, the projection's codes, and both in tiles.
-/
module

public import proofs.«01_k».proof.Proof.FrontRow
public import proofs.«01_k».proof.Proof.Pay
public import proofs.«01_k».proof.Proof.Gen.FrontIdeal.Skeleton
public import Idealize.ShloMosaic.Lib.Pipeline.ValueKit.Tiles

@[expose] public section

noncomputable section

namespace Cert.FrontPay

open Idealize.ShloMosaic Cert.FrontIdeal Cert.FrontIdeal.Gen Cert.Row Cert.Arith Cert.FrontRow Cert.Pay

section tiles
variable (v12 : Vec Ideal S108x8x256 .bf16) (v32 v36 : Vec Ideal S1x256 .f32) (v40 : Elt Ideal .f32)

/-- The norm's codes in tiles: entry `(i, l)`. -/
theorem pay8_at (i : Fin 1728) (l : Fin 128) :
    k0_pay8 v12 v32 v36 v40 (ix2 i l)
      = (k0_pay7 v12 v32 v36 v40 (ix2 ⟨8 * (i.val / 16) + i.val % 8, by omega⟩ ⟨i.val / 8 % 2 * 128 + l.val, by omega⟩)).setWidth 8 := by
  unfold k0_pay8
  generalize k0_pay7 v12 v32 v36 v40 = q
  pointwise
  split_ifs <;> (congr 3 <;> exact Fin.ext (by dsimp only; omega))

variable (v48 : IVec S864x256 32) (v58 : Vec Ideal S256x512 .bf16) (v61 : Vec Ideal S1x512 .f32)

/-- The projection's codes in tiles: entry `(i, l)`. -/
theorem pay10_at (i : Fin 3456) (l : Fin 128) :
    k0_pay10 v48 v58 v61 (ix2 i l)
      = (k0_pay9 v48 v58 v61 (ix2 ⟨8 * (i.val / 32) + i.val % 8, by omega⟩ ⟨i.val / 8 % 4 * 128 + l.val, by omega⟩)).setWidth 8 := by
  unfold k0_pay10
  generalize k0_pay9 v48 v58 v61 = q
  pointwise
  split_ifs <;> (congr 3 <;> exact Fin.ext (by dsimp only; omega))
end tiles

variable {p : FParams} {Xb : Fin 864 → Fin 256 → EReal} {v12 : Vec Ideal S108x8x256 .bf16} {v32 v36 : Vec Ideal S1x256 .f32} {v40 : Elt Ideal .f32}

/-- The norm's codes. -/
theorem pay7_at (h0 : ∀ (r : Fin 864) k, v12 (ix3 ⟨r.val / 8, Nat.div_lt_of_lt_mul r.isLt⟩ ⟨r.val % 8, Nat.mod_lt _ (Nat.succ_pos 7)⟩ k) = Xb r k)
    (hg : ∀ k, v32 (ix2 0 k) = p.lnG k) (hb : ∀ k, v36 (ix2 0 k) = p.lnB k) (hs : v40 = Ideal.div 1 p.sA) (hsA : p.sA ≠ 0)
    (r : Fin 864) (k : Fin 256) : k0_pay7 v12 v32 v36 v40 (ix2 r k) = code (a1v p (Xb r) k) := by
  rw [a1v, ← Ideal.mul_one_div hsA, ← ln_eq (by norm_num : (0 : ℝ) < 256) c_inv256 c_256, code, rnd]
  pointwise [k0_pay7]
  simp only [h0, hg, hb, hs, Ideal.ofBits_def, eps, fptosi_op]

/-- The projection's codes. -/
theorem pay9_at {q : IVec S864x256 32} {v58 : Vec Ideal S256x512 .bf16} {v61 : Vec Ideal S1x512 .f32}
    (hq : ∀ r k, q (ix2 r k) = code (a1v p (Xb r) k)) (hw : ∀ d e, v58 (ix2 d e) = p.wIn d e)
    (hf : ∀ e, v61 (ix2 0 e) = Ideal.div (p.sA * p.wInS e) (p.sC e)) (hC : ∀ e, p.sC e ≠ 0) (r : Fin 864) (e : Fin 512) :
    k0_pay9 q v58 v61 (ix2 r e) = code (cvv p (Xb r) e) := by
  rw [cvv, ← mul_div (hC e), accI, code, rnd]
  pointwise [k0_pay9]
  simp only [hq, hw, hf, sitofp_op, num, fptosi_op, Ideal.ofBits_def]

end Cert.FrontPay

end
-- ==== Proof.FrontBlock.lean ====
/-
  What a grid step of the front kernel leaves in the buffers of the norm's and of the projection's codes, entry by entry,
  at the first step and at a step between.
-/
module

public import proofs.«01_k».proof.Proof.FrontPay
public import proofs.«01_k».proof.Proof.FrontRun.Outs
public import Idealize.ShloMosaic.Lib.Pipeline.ValueKit.Tiles

@[expose] public section

set_option maxRecDepth 16384

noncomputable section

namespace Cert.FrontBlock

open Idealize.ShloMosaic Idealize.ShloMosaic.TcCoe Idealize.SL.Sem Cert.FrontIdeal Cert.FrontIdeal.Gen Cert.Row Cert.Arith Cert.FrontRow Cert.FrontPay

/-- A load at an index is the array at the index shifted by the load's offset. -/
theorem rd {κ : Kind} {sp : Space} {S : Shape} {e : EltTy} {M : Memref sig κ sp S e} (h : M.IsWhole) (X : Vec Ideal S e)
    (off size : Fin S.rank → Nat) (inb) (x : (Rect.unit off size inb).shape.Idx) (i : S.Idx)
    (hi : ∀ a, (i a : Nat) = off a + x a) :
    View.readAt (Elt Ideal) M.view (Rect.unit off size inb).toLoadRect (h.unread X) x = X i := by
  rw [View.readAt_eq_ld, h.read_unread]
  exact View.ld_unit_apply_of X off size inb x i hi

/-- What the grid step's blocks hold of the parameters and of its 864 tokens' rows. -/
structure Reads (x0 : Vec Ideal S1 .f32) (x1 : Vec Ideal S108x8x256 .bf16) (x2 : Vec Ideal S8x256 .f32) (x3 : Vec Ideal S256x512 .bf16)
    (x4 : Vec Ideal S8x512 .f32) (p : FParams) (Xb : Fin 864 → Fin 256 → EReal) : Prop where
  s : x0 (ix1 0) = Ideal.div 1 p.sA
  x : ∀ (r : Fin 864) k, x1 (ix3 ⟨r.val / 8, Nat.div_lt_of_lt_mul r.isLt⟩ ⟨r.val % 8, Nat.mod_lt _ (Nat.succ_pos 7)⟩ k) = Xb r k
  lnG : ∀ k, x2 (ix2 0 k) = p.lnG k
  lnB : ∀ k, x2 (ix2 1 k) = p.lnB k
  w : ∀ d e, x3 (ix2 d e) = p.wIn d e
  f : ∀ e, x4 (ix2 0 e) = Ideal.div (p.sA * p.wInS e) (p.sC e)

/-- What is asked of the parameters: the scales divided by are not zero. -/
structure Tame (p : FParams) : Prop where
  sA : p.sA ≠ 0
  sC : ∀ e, p.sC e ≠ 0

theorem hz2 : (![0,0] : Fin 2 → Nat) = fun _ => 0 := funext fun a => by fin_cases a <;> rfl

section steps
variable (m : (ℓ : Loc nD τ sig) → Buf (Elt Ideal) ℓ) (c : Dev nD) (t : Fin cfg0.N) {p : FParams} {Xb : Fin 864 → Fin 256 → EReal}
  (R : Reads (iblk m c 0 t) (iblk m c 1 t) (iblk m c 2 t) (iblk m c 3 t) (iblk m c 4 t) p Xb) (T : Tame p)
include R T

/-- The norm's codes, as the body at the first step computes them. -/
theorem rA_at (r : Fin 864) (k : Fin 256) : kernelRun0_A.sl.r_1 c (ms0_0 t) (hs0_0 t) (ms0_1 t) (hs0_1 t) (ms0_2 t) (hs0_2 t) (iblk m c 0 t) (iblk m c 1 t) (iblk m c 2 t) (ix2 r k) = code (a1v p (Xb r) k) :=
  pay7_at
    (fun r k => (rd (hs0_1 t) (iblk m c 1 t) ![0, 0, 0] S108x8x256.size _ (ix3 _ _ k) (ix3 _ _ k)
      (fun a => match a with | ⟨0, _⟩ => (Nat.zero_add _).symm | ⟨1, _⟩ => (Nat.zero_add _).symm | ⟨2, _⟩ => (Nat.zero_add _).symm)).trans (R.x r k))
    (fun k => (rd (hs0_2 t) (iblk m c 2 t) ![0, 0] ![1, 256] _ (ix2 0 k) (ix2 0 k)
      (fun a => match a with | ⟨0, _⟩ => rfl | ⟨1, _⟩ => (Nat.zero_add _).symm)).trans (R.lnG k))
    (fun k => (rd (hs0_2 t) (iblk m c 2 t) ![1, 0] ![1, 256] _ (ix2 0 k) (ix2 1 k)
      (fun a => match a with | ⟨0, _⟩ => rfl | ⟨1, _⟩ => (Nat.zero_add _).symm)).trans (R.lnB k))
    ((rd (hs0_0 t) (iblk m c 0 t) ![0] ![1] _ _ (ix1 0) (fun a => match a with | ⟨0, _⟩ => rfl)).trans R.s) T.sA r k

/-- What the first step leaves of the norm's codes. -/
theorem outsA_a1 (h : t.val = 0) (j : Fin 1728) (l : Fin 128) :
    (outsA m c t h).1 (ix2 j l) = code8 (a1v p (Xb ⟨8 * (j.val / 16) + j.val % 8, by omega⟩) ⟨j.val / 8 % 2 * 128 + l.val, by omega⟩) := by
  unfold outsA
  dsimp only
  rw [View.read_writes_junk_eq_canon]
  unfold runA kernelRun0_A
  dsimp only
  rw [View.canon_unit_zero hz2, code8_eq]
  exact (pay8_at _ _ _ _ j l).trans (congrArg (BitVec.setWidth 8) (rA_at m c t R T _ _))

/-- What the first step leaves of the projection's codes. -/
theorem outsA_cv (h : t.val = 0) (j : Fin 3456) (l : Fin 128) :
    (outsA m c t h).2.1 (ix2 j l) = code8 (cvv p (Xb ⟨8 * (j.val / 32) + j.val % 8, by omega⟩) ⟨j.val / 8 % 4 * 128 + l.val, by omega⟩) := by
  unfold outsA
  dsimp only
  rw [View.read_writes_junk_eq_canon]
  unfold runA kernelRun0_A
  dsimp only
  rw [View.canon_unit_zero hz2, code8_eq]
  refine (pay10_at _ _ _ j l).trans (congrArg (BitVec.setWidth 8) (pay9_at (rA_at m c t R T) ?_ ?_ T.sC _ _))
  · exact fun a b => (rd (hs0_3 t) (iblk m c 3 t) ![0, 0] S256x512.size _ (ix2 a b) (ix2 a b)
      (fun a => match a with | ⟨0, _⟩ => (Nat.zero_add _).symm | ⟨1, _⟩ => (Nat.zero_add _).symm)).trans (R.w a b)
  · exact fun k => (rd (hs0_4 t) (iblk m c 4 t) ![0, 0] ![1, 512] _ (ix2 0 k) (ix2 0 k)
      (fun a => match a with | ⟨0, _⟩ => rfl | ⟨1, _⟩ => (Nat.zero_add _).symm)).trans (R.f k)

/-- The norm's codes, as the body at a step between computes them. -/
theorem rB_at (r : Fin 864) (k : Fin 256) : kernelRun0_B.sl.r_1 c (ms0_0 t) (hs0_0 t) (ms0_1 t) (hs0_1 t) (ms0_2 t) (hs0_2 t) (iblk m c 0 t) (iblk m c 1 t) (iblk m c 2 t) (ix2 r k) = code (a1v p (Xb r) k) :=
  pay7_at
    (fun r k => (rd (hs0_1 t) (iblk m c 1 t) ![0, 0, 0] S108x8x256.size _ (ix3 _ _ k) (ix3 _ _ k)
      (fun a => match a with | ⟨0, _⟩ => (Nat.zero_add _).symm | ⟨1, _⟩ => (Nat.zero_add _).symm | ⟨2, _⟩ => (Nat.zero_add _).symm)).trans (R.x r k))
    (fun k => (rd (hs0_2 t) (iblk m c 2 t) ![0, 0] ![1, 256] _ (ix2 0 k) (ix2 0 k)
      (fun a => match a with | ⟨0, _⟩ => rfl | ⟨1, _⟩ => (Nat.zero_add _).symm)).trans (R.lnG k))
    (fun k => (rd (hs0_2 t) (iblk m c 2 t) ![1, 0] ![1, 256] _ (ix2 0 k) (ix2 1 k)
      (fun a => match a with | ⟨0, _⟩ => rfl | ⟨1, _⟩ => (Nat.zero_add _).symm)).trans (R.lnB k))
    ((rd (hs0_0 t) (iblk m c 0 t) ![0] ![1] _ _ (ix1 0) (fun a => match a with | ⟨0, _⟩ => rfl)).trans R.s) T.sA r k

/-- What a step between leaves of the norm's codes. -/
theorem outsB_a1 (h : t.val ≠ 0) (h' : t.val < 28) (xs : Vec Ideal S3x114x8x512 .f32) (j : Fin 1728) (l : Fin 128) :
    (outsB m c t h h' xs).1 (ix2 j l) = code8 (a1v p (Xb ⟨8 * (j.val / 16) + j.val % 8, by omega⟩) ⟨j.val / 8 % 2 * 128 + l.val, by omega⟩) := by
  unfold outsB
  dsimp only
  rw [View.read_writes_junk_eq_canon]
  unfold runB kernelRun0_B
  dsimp only
  rw [View.canon_unit_zero hz2, code8_eq]
  exact (pay8_at _ _ _ _ j l).trans (congrArg (BitVec.setWidth 8) (rB_at m c t R T _ _))

/-- What a step between leaves of the projection's codes. -/
theorem outsB_cv (h : t.val ≠ 0) (h' : t.val < 28) (xs : Vec Ideal S3x114x8x512 .f32) (j : Fin 3456) (l : Fin 128) :
    (outsB m c t h h' xs).2.1 (ix2 j l) = code8 (cvv p (Xb ⟨8 * (j.val / 32) + j.val % 8, by omega⟩) ⟨j.val / 8 % 4 * 128 + l.val, by omega⟩) := by
  unfold outsB
  dsimp only
  rw [View.read_writes_junk_eq_canon]
  unfold runB kernelRun0_B
  dsimp only
  rw [View.canon_unit_zero hz2, code8_eq]
  refine (pay10_at _ _ _ j l).trans (congrArg (BitVec.setWidth 8) (pay9_at (rB_at m c t R T) ?_ ?_ T.sC _ _))
  · exact fun a b => (rd (hs0_3 t) (iblk m c 3 t) ![0, 0] S256x512.size _ (ix2 a b) (ix2 a b)
      (fun a => match a with | ⟨0, _⟩ => (Nat.zero_add _).symm | ⟨1, _⟩ => (Nat.zero_add _).symm)).trans (R.w a b)
  · exact fun k => (rd (hs0_4 t) (iblk m c 4 t) ![0, 0] ![1, 512] _ (ix2 0 k) (ix2 0 k)
      (fun a => match a with | ⟨0, _⟩ => rfl | ⟨1, _⟩ => (Nat.zero_add _).symm)).trans (R.f k)

end steps

end Cert.FrontBlock

end
-- ==== Proof.FrontHost.lean ====
/-
  What the host code hands the front kernel: the arrays its windows read, at the indices the kernel reads, as functions of
  the arguments.
-/
module

public import proofs.«01_k».proof.Proof.FrontRow
public import proofs.«01_k».proof.Proof.Gen.FrontIdeal.Frame

@[expose] public section

set_option maxRecDepth 16384

noncomputable section

namespace Cert.FrontHost

open Idealize.ShloMosaic Idealize.ShloMosaic.TcCoe Idealize.ShloMosaic.StableHlo Idealize.SL.Sem Cert.FrontIdeal Cert.FrontIdeal.Gen Cert.Row Cert.Arith Cert.FrontRow

/-- Row 0 of 2 padded rows of 256. -/
theorem ln_0 {A B : FVec Ideal S1x256 .f32} {v : FVec Ideal S_ .f32} (k : Fin 256) :
    pad S8x256 ![0, 0] ![6, 0] ![0, 0] (concatenate S2x256 0 [⟨S1x256, A⟩, ⟨S1x256, B⟩] concatenates_S1x256_S1x256_S2x256_d0)
      v pads_S2x256_S8x256_060_000 h_S_ (ix2 0 k) = A (ix2 0 k) := by pointwise

/-- Row 1 of 2 padded rows of 256. -/
theorem ln_1 {A B : FVec Ideal S1x256 .f32} {v : FVec Ideal S_ .f32} (k : Fin 256) :
    pad S8x256 ![0, 0] ![6, 0] ![0, 0] (concatenate S2x256 0 [⟨S1x256, A⟩, ⟨S1x256, B⟩] concatenates_S1x256_S1x256_S2x256_d0)
      v pads_S2x256_S8x256_060_000 h_S_ (ix2 1 k) = B (ix2 0 k) := by pointwise

/-- Row 0 of 5 padded rows of 512. -/
theorem ep_0 {A B C D E : FVec Ideal S1x512 .f32} {v : FVec Ideal S_ .f32} (k : Fin 512) :
    pad S8x512 ![0, 0] ![3, 0] ![0, 0] (concatenate S5x512 0 [⟨S1x512, A⟩, ⟨S1x512, B⟩, ⟨S1x512, C⟩, ⟨S1x512, D⟩, ⟨S1x512, E⟩] concatenates_S1x512_S1x512_S1x512_S1x512_S1x512_S5x512_d0)
      v pads_S5x512_S8x512_030_000 h_S_ (ix2 0 k) = A (ix2 0 k) := by pointwise

variable (m : (ℓ : Loc nD τ sig) → Buf (Elt Ideal) ℓ) (c : Dev nD)

/-- The parameters in a memory. -/
def prm : FParams :=
  fparams (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The input's rows in a memory. -/
def Xk : Fin 24192 → Fin 256 → EReal := fun t d => xrow (m ((c : Thread nD τ).loc main_arg0)) t d

/-- The reciprocal of the scale of the norm's codes. -/
theorem v54_0 : V m c main_v54 (ix1 0) = Ideal.div 1 ((prm m c).sA) := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, TRef.binary, TRef.ternary, TRef.unary, TRef.toBuf, TRef.ofBuf, cast_eq]
  after_results_simp
  pointwise
  rfl

/-- The input, in groups of 8 tokens. -/
theorem v1 (g : Fin 3024) (s : Fin 8) (k : Fin 256) : V m c main_v1 (ix3 g s k) = Xk m c ⟨8 * g.val + s.val, by omega⟩ k := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, TRef.binary, TRef.ternary, TRef.unary, TRef.toBuf, TRef.ofBuf, cast_eq]
  after_results_simp
  unfold Xk xrow
  pointwise
  exact congrArg _ (by congr 1 <;> exact Fin.ext (by dsimp only; omega))

/-- The norm's weight -/
theorem v5_0 (k : Fin 256) : V m c main_v5 (ix2 0 k) = (prm m c).lnG k := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, TRef.binary, TRef.ternary, TRef.unary, TRef.toBuf, TRef.ofBuf, cast_eq]
  after_results_simp
  refine (ln_0 k).trans ?_
  after_results_simp
  pointwise
  rfl

/-- and shift. -/
theorem v5_1 (k : Fin 256) : V m c main_v5 (ix2 1 k) = (prm m c).lnB k := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, TRef.binary, TRef.ternary, TRef.unary, TRef.toBuf, TRef.ofBuf, cast_eq]
  after_results_simp
  refine (ln_1 k).trans ?_
  after_results_simp
  pointwise
  rfl

/-- The projection's codes. -/
theorem v57 (a : Fin 256) (b : Fin 512) : V m c main_v57 (ix2 a b) = (prm m c).wIn a b := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, TRef.binary, TRef.ternary, TRef.unary, TRef.toBuf, TRef.ofBuf, cast_eq]
  after_results_simp
  pointwise
  rfl

/-- The factor of the projection's columns. -/
theorem v22_0 (k : Fin 512) : V m c main_v22 (ix2 0 k) = Ideal.div ((prm m c).sA * (prm m c).wInS k) ((prm m c).sC k) := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, TRef.binary, TRef.ternary, TRef.unary, TRef.toBuf, TRef.ofBuf, cast_eq]
  after_results_simp
  refine (ep_0 k).trans ?_
  show (_ : Valuation τ sig (Elt Ideal)) (Proc.tc.devRef main_v16) _ = _
  after_results_simp
  pointwise
  rfl

end Cert.FrontHost

end
-- ==== Proof.FrontArray.lean ====
/-
  The arrays of the norm's and the projection's codes after the front kernel's run: the grid's blocks tile them, so each
  holds, index by index, what the token's row gives. The last grid step computes no new block: it holds the block of the
  step before.
-/
module

public import proofs.«01_k».proof.Proof.FrontBlock
public import proofs.«01_k».proof.Proof.FrontHost
public import proofs.«01_k».proof.Proof.FrontRun.Frame
public import Idealize.ShloMosaic.Lib.Pipeline.ValueKit

@[expose] public section

set_option maxRecDepth 16384

noncomputable section

namespace Cert.FrontArray

open Idealize.ShloMosaic Idealize.ShloMosaic.TcCoe Idealize.SL.Sem Cert.FrontIdeal Cert.FrontIdeal.Gen Cert.Row Cert.Arith Cert.Goal Cert.FrontRow Cert.FrontBlock Cert.FrontHost

variable (m : (ℓ : Loc nD τ sig) → Buf (Elt Ideal) ℓ) (c : Dev nD)

/-- The tokens of grid step `t`. -/
abbrev at_ (t : Fin cfg0.N) (r : Fin 864) : Fin 24192 := ⟨864 * min t.val 27 + r.val, by omega⟩

/-! ## The blocks a grid step is handed -/

/-- Window 0 is its whole array at every step. -/
theorem idx0 : ∀ t : Fin cfg0.N, win0_0.index t = ![0] := (by decide +kernel : ∀ t : Fin grid0.N, _)

/-- Window 2 is its whole array at every step. -/
theorem idx2 : ∀ t : Fin cfg0.N, win0_2.index t = ![0,0] := (by decide +kernel : ∀ t : Fin grid0.N, _)

/-- Window 3 is its whole array at every step. -/
theorem idx3 : ∀ t : Fin cfg0.N, win0_3.index t = ![0,0] := (by decide +kernel : ∀ t : Fin grid0.N, _)

/-- Window 4 is its whole array at every step. -/
theorem idx4 : ∀ t : Fin cfg0.N, win0_4.index t = ![0,0] := (by decide +kernel : ∀ t : Fin grid0.N, _)

/-- Window 1 is its array's block `t` at step `t`, and at the last step the block of the step before. -/
theorem idx1 : ∀ t : Fin cfg0.N, win0_1.index t = ![min t.val 27,0,0] := (by decide +kernel : ∀ t : Fin grid0.N, _)

/-- Window 8 is its array's block `t` at step `t`, and at the last step the block of the step before. -/
theorem idx8 : ∀ t : Fin cfg0.N, win0_8.index t = ![min t.val 27,0] := (by decide +kernel : ∀ t : Fin grid0.N, _)

/-- Window 9 is its array's block `t` at step `t`, and at the last step the block of the step before. -/
theorem idx9 : ∀ t : Fin cfg0.N, win0_9.index t = ![min t.val 27,0] := (by decide +kernel : ∀ t : Fin grid0.N, _)

theorem blk0 (t : Fin cfg0.N) (a : Fin 1) : iblk m c 0 t (ix1 a) = V m c main_v54 (ix1 a) := by
  blk_simp [iblk]
  congr 1
  blk_ext [idx0 t]

theorem blk1 (t : Fin cfg0.N) (a : Fin 108) (b : Fin 8) (k : Fin 256) : iblk m c 1 t (ix3 a b k) = V m c main_v1 (ix3 ⟨108 * min t.val 27 + a.val, by omega⟩ b k) := by
  blk_simp [iblk]
  congr 1
  blk_ext [idx1 t]

theorem blk2 (t : Fin cfg0.N) (a : Fin 8) (b : Fin 256) : iblk m c 2 t (ix2 a b) = V m c main_v5 (ix2 a b) := by
  blk_simp [iblk]
  congr 1
  blk_ext [idx2 t]

theorem blk3 (t : Fin cfg0.N) (a : Fin 256) (b : Fin 512) : iblk m c 3 t (ix2 a b) = V m c main_v57 (ix2 a b) := by
  blk_simp [iblk]
  congr 1
  blk_ext [idx3 t]

theorem blk4 (t : Fin cfg0.N) (a : Fin 8) (b : Fin 512) : iblk m c 4 t (ix2 a b) = V m c main_v22 (ix2 a b) := by
  blk_simp [iblk]
  congr 1
  blk_ext [idx4 t]

/-- What a grid step is handed, of the parameters and its tokens' rows. -/
theorem reads (t : Fin cfg0.N) : Reads (iblk m c 0 t) (iblk m c 1 t) (iblk m c 2 t) (iblk m c 3 t) (iblk m c 4 t) (prm m c) (fun r => Xk m c (at_ t r)) where
  s := (blk0 m c t 0).trans (v54_0 m c)
  x r k := ((blk1 m c t _ _ k).trans (v1 m c _ _ k)).trans (by congr 2; dsimp only; omega)
  lnG k := (blk2 m c t 0 k).trans (v5_0 m c k)
  lnB k := (blk2 m c t 1 k).trans (v5_1 m c k)
  w a b := (blk3 m c t a b).trans (v57 m c a b)
  f k := (blk4 m c t 0 k).trans (v22_0 m c k)

/-! ## What a grid step leaves -/

variable (T : Tame (prm m c))
include T

/-- The block of the norm's codes, at a step that computes one, -/
theorem step_a1_of (t : Fin cfg0.N) (h' : t.val < 28) (a : Fin 1728) (b : Fin 128) : (outsAt0 m c t.val t.isLt).1 (ix2 a b)
    = a1Arr (prm m c) (Xk m c) (ix2 ⟨1728 * min t.val 27 + a.val, by omega⟩ b) := by
  have e1 : at_ t ⟨8 * (a.val / 16) + a.val % 8, by omega⟩ = tok2 ⟨1728 * min t.val 27 + a.val, by omega⟩ := Fin.ext (by dsimp only; omega)
  have e2 : (⟨a.val / 8 % 2 * 128 + b.val, by omega⟩ : Fin 256) = ch2 ⟨1728 * min t.val 27 + a.val, by omega⟩ b := Fin.ext (by dsimp only; omega)
  have e := congrArg₂ (fun t k => code8 (a1v (prm m c) (Xk m c t) k)) e1 e2
  by_cases h : t.val = 0
  · rw [outsAt0_A m c t h]
    exact (outsA_a1 m c t (reads m c t) T h a b).trans e
  · rw [outsAt0_B m c t h h']
    exact (outsB_a1 m c t (reads m c t) T h h' _ a b).trans e

/-- and at any step. -/
theorem step_a1 (t : Fin cfg0.N) (a : Fin 1728) (b : Fin 128) : (outsAt0 m c t.val t.isLt).1 (ix2 a b)
    = a1Arr (prm m c) (Xk m c) (ix2 ⟨1728 * min t.val 27 + a.val, by omega⟩ b) := by
  by_cases h' : t.val < 28
  · exact step_a1_of m c T t h' a b
  · have h28 := last_val t h'
    rw [outsAt0_C m c t h']
    have e := step_a1_of m c T ⟨t.val - 1, Nat.lt_of_le_of_lt (Nat.sub_le _ _) t.isLt⟩ (by dsimp only; omega) a b
    refine e.trans (congrArg _ ?_)
    have e0 : (⟨1728 * min (t.val - 1) 27 + a.val, by omega⟩ : Fin 48384) = ⟨1728 * min t.val 27 + a.val, by omega⟩ := Fin.ext (by dsimp only; omega)
    exact congrArg (fun z => ix2 z b) e0

/-- The array of the norm's codes. -/
theorem final_a1 : (dats m 0 c).arrAt 8 cfg0.N = a1Arr (prm m c) (Xk m c) := by
  refine (dats m 0 c).arrAt_eq_of_covers 8 _ (by decide +kernel) fun t hf y => ?_
  have ef : (dats m 0 c).flushed 8 t = (cfg0.win 8).cut (grid0.coords t) (outsAt0 m c t.val t.isLt).1 := by
    show (cfg0.win 8).cut (grid0.coords t) ((dats m 0 c).after 8 t) = _
    rw [after0_8]
  refine (cast_eq _ _).trans ((show _ = _ from congrFun ef y).trans ?_)
  refine (congrArg _ ?_).trans ((step_a1 m c T t (y 0) (y 1)).trans (congrArg _ ?_))
  · funext a; fin_cases a <;> rfl
  · blk_ext [idx8 t]

/-- The block of the projection's codes, at a step that computes one, -/
theorem step_cv_of (t : Fin cfg0.N) (h' : t.val < 28) (a : Fin 3456) (b : Fin 128) : (outsAt0 m c t.val t.isLt).2.1 (ix2 a b)
    = cvArr (prm m c) (Xk m c) (ix2 ⟨3456 * min t.val 27 + a.val, by omega⟩ b) := by
  have e1 : at_ t ⟨8 * (a.val / 32) + a.val % 8, by omega⟩ = tok4 ⟨3456 * min t.val 27 + a.val, by omega⟩ := Fin.ext (by dsimp only; omega)
  have e2 : (⟨a.val / 8 % 4 * 128 + b.val, by omega⟩ : Fin 512) = ch4 ⟨3456 * min t.val 27 + a.val, by omega⟩ b := Fin.ext (by dsimp only; omega)
  have e := congrArg₂ (fun t k => code8 (cvv (prm m c) (Xk m c t) k)) e1 e2
  by_cases h : t.val = 0
  · rw [outsAt0_A m c t h]
    exact (outsA_cv m c t (reads m c t) T h a b).trans e
  · rw [outsAt0_B m c t h h']
    exact (outsB_cv m c t (reads m c t) T h h' _ a b).trans e

/-- and at any step. -/
theorem step_cv (t : Fin cfg0.N) (a : Fin 3456) (b : Fin 128) : (outsAt0 m c t.val t.isLt).2.1 (ix2 a b)
    = cvArr (prm m c) (Xk m c) (ix2 ⟨3456 * min t.val 27 + a.val, by omega⟩ b) := by
  by_cases h' : t.val < 28
  · exact step_cv_of m c T t h' a b
  · have h28 := last_val t h'
    rw [outsAt0_C m c t h']
    have e := step_cv_of m c T ⟨t.val - 1, Nat.lt_of_le_of_lt (Nat.sub_le _ _) t.isLt⟩ (by dsimp only; omega) a b
    refine e.trans (congrArg _ ?_)
    have e0 : (⟨3456 * min (t.val - 1) 27 + a.val, by omega⟩ : Fin 96768) = ⟨3456 * min t.val 27 + a.val, by omega⟩ := Fin.ext (by dsimp only; omega)
    exact congrArg (fun z => ix2 z b) e0

/-- The array of the projection's codes. -/
theorem final_cv : (dats m 0 c).arrAt 9 cfg0.N = cvArr (prm m c) (Xk m c) := by
  refine (dats m 0 c).arrAt_eq_of_covers 9 _ (by decide +kernel) fun t hf y => ?_
  have ef : (dats m 0 c).flushed 9 t = (cfg0.win 9).cut (grid0.coords t) (outsAt0 m c t.val t.isLt).2.1 := by
    show (cfg0.win 9).cut (grid0.coords t) ((dats m 0 c).after 9 t) = _
    rw [after0_9]
  refine (cast_eq _ _).trans ((show _ = _ from congrFun ef y).trans ?_)
  refine (congrArg _ ?_).trans ((step_cv m c T t (y 0) (y 1)).trans (congrArg _ ?_))
  · funext a; fin_cases a <;> rfl
  · blk_ext [idx9 t]

end Cert.FrontArray

end
-- ==== Proof.FrontTail.lean ====
/-
  The host code after the front kernel: the codes leave their tiles, and the tokens come back to image, row and column.
  With it, the two results.
-/
module

public import proofs.«01_k».proof.Proof.FrontArray

@[expose] public section

set_option maxRecDepth 16384

noncomputable section

namespace Cert.FrontTail

open Idealize.ShloMosaic Idealize.ShloMosaic.TcCoe Idealize.ShloMosaic.StableHlo Idealize.SL.Sem Cert.FrontIdeal Cert.FrontIdeal.Gen Cert.Row Cert.Arith Cert.Goal Cert.FrontRow Cert.FrontBlock Cert.FrontHost Cert.FrontArray

/-! ## The layout, at an index -/

section lay
variable (b : Fin 24) (h : Fin 28) (w : Fin 36)

/-- Codes with 2 tiles of 128 channels: channel `k` of a token is in its group's tile `k / 128`, -/
theorem a1_lay (q : IVec S48384x128 8) (k : Fin 256) :
    transpose S24x28x36x256 [2, 0, 1, 3] (shapeCast S28x36x24x256 (transpose S3024x8x2x128 [0, 2, 1, 3] (shapeCast S3024x2x8x128 q
        shapeCasts_S48384x128_S3024x2x8x128) transposes_S3024x2x8x128_S3024x8x2x128_0_2_1_3) shapeCasts_S3024x8x2x128_S28x36x24x256)
        transposes_S28x36x24x256_S24x28x36x256_2_0_1_3 (ix4 b h w k)
      = q (ix2 ⟨(pos b h w).val / 8 * 16 + k.val / 128 * 8 + (pos b h w).val % 8, by omega⟩ ⟨k.val % 128, by omega⟩) := by
  pointwise
  all_goals (congr 2 <;> exact Fin.ext (by dsimp only; omega))

/-- and with 4. -/
theorem cv_lay (q : IVec S96768x128 8) (k : Fin 512) :
    transpose S24x28x36x512 [2, 0, 1, 3] (shapeCast S28x36x24x512 (transpose S3024x8x4x128 [0, 2, 1, 3] (shapeCast S3024x4x8x128 q
        shapeCasts_S96768x128_S3024x4x8x128) transposes_S3024x4x8x128_S3024x8x4x128_0_2_1_3) shapeCasts_S3024x8x4x128_S28x36x24x512)
        transposes_S28x36x24x512_S24x28x36x512_2_0_1_3 (ix4 b h w k)
      = q (ix2 ⟨(pos b h w).val / 8 * 32 + k.val / 128 * 8 + (pos b h w).val % 8, by omega⟩ ⟨k.val % 128, by omega⟩) := by
  pointwise
  all_goals (congr 2 <;> exact Fin.ext (by dsimp only; omega))
end lay

/-! ## The kernel's arrays, laid out -/

variable (p : FParams) (X : Fin 24192 → Fin 256 → EReal)

theorem a1_res : transpose S24x28x36x256 [2, 0, 1, 3] (shapeCast S28x36x24x256 (transpose S3024x8x2x128 [0, 2, 1, 3] (shapeCast S3024x2x8x128 (a1Arr p X : IVec S48384x128 8)
        shapeCasts_S48384x128_S3024x2x8x128) transposes_S3024x2x8x128_S3024x8x2x128_0_2_1_3) shapeCasts_S3024x8x2x128_S28x36x24x256)
        transposes_S28x36x24x256_S24x28x36x256_2_0_1_3 = a1Res p X := by
  funext i
  rw [eq_ix4 i]
  refine (a1_lay _ _ _ _ _).trans ?_
  have l : (pos (i 0) (i 1) (i 2)).val / 8 * 16 + (i 3).val / 128 * 8 + (pos (i 0) (i 1) (i 2)).val % 8 < 48384 := by
    have : (i 3).val < 256 := (i 3).isLt
    omega
  have e1 : tok2 ⟨(pos (i 0) (i 1) (i 2)).val / 8 * 16 + (i 3).val / 128 * 8 + (pos (i 0) (i 1) (i 2)).val % 8, l⟩ = pos (i 0) (i 1) (i 2) := Fin.ext (by
    have : (i 3).val < 256 := (i 3).isLt
    dsimp only; omega)
  have e2 : ch2 ⟨(pos (i 0) (i 1) (i 2)).val / 8 * 16 + (i 3).val / 128 * 8 + (pos (i 0) (i 1) (i 2)).val % 8, l⟩ ⟨(i 3).val % 128, Nat.mod_lt _ (by decide)⟩ = i 3 := Fin.ext (by
    have : (i 3).val < 256 := (i 3).isLt
    dsimp only; omega)
  exact congrArg₂ (fun t k => code8 (a1v p (X t) k)) e1 e2

theorem cv_res : transpose S24x28x36x512 [2, 0, 1, 3] (shapeCast S28x36x24x512 (transpose S3024x8x4x128 [0, 2, 1, 3] (shapeCast S3024x4x8x128 (cvArr p X : IVec S96768x128 8)
        shapeCasts_S96768x128_S3024x4x8x128) transposes_S3024x4x8x128_S3024x8x4x128_0_2_1_3) shapeCasts_S3024x8x4x128_S28x36x24x512)
        transposes_S28x36x24x512_S24x28x36x512_2_0_1_3 = cvRes p X := by
  funext i
  rw [eq_ix4 i]
  refine (cv_lay _ _ _ _ _).trans ?_
  have l : (pos (i 0) (i 1) (i 2)).val / 8 * 32 + (i 3).val / 128 * 8 + (pos (i 0) (i 1) (i 2)).val % 8 < 96768 := by
    have : (i 3).val < 512 := (i 3).isLt
    omega
  have e1 : tok4 ⟨(pos (i 0) (i 1) (i 2)).val / 8 * 32 + (i 3).val / 128 * 8 + (pos (i 0) (i 1) (i 2)).val % 8, l⟩ = pos (i 0) (i 1) (i 2) := Fin.ext (by
    have : (i 3).val < 512 := (i 3).isLt
    dsimp only; omega)
  have e2 : ch4 ⟨(pos (i 0) (i 1) (i 2)).val / 8 * 32 + (i 3).val / 128 * 8 + (pos (i 0) (i 1) (i 2)).val % 8, l⟩ ⟨(i 3).val % 128, Nat.mod_lt _ (by decide)⟩ = i 3 := Fin.ext (by
    have : (i 3).val < 512 := (i 3).isLt
    dsimp only; omega)
  exact congrArg₂ (fun t k => code8 (cvv p (X t) k)) e1 e2

/-! ## The two results -/

section run
variable (m : (ℓ : Loc nD τ sig) → Buf (Elt Ideal) ℓ) (c : Dev nD)

/-- The norm's codes, after the host code. -/
theorem tail_a1 (T : Tame (prm m c)) :
    Pipeline.afterTail₀ cfgs (dats m) 0 (V0 m) [hostOps1] c main_v62 = a1Res (prm m c) (Xk m c) := by
  refine Eq.trans ?_ (a1_res (prm m c) (Xk m c))
  rw [← final_a1 m c T]
  simp only [Pipeline.afterTail₀, hostOps1, List.flatten_cons, List.flatten_nil, List.append_nil]
  after_results_simp
  have e : Pipeline.withArrays (cfgs 0).spec c (V0 m c) (fun w => (dats m 0 c).arrAt w (cfgs 0).N) (Proc.devRef .tc main_v58_0) = (dats m 0 c).arrAt 8 cfg0.N :=
    Pipeline.withArrays_arr (cfgs 0).spec launch0.win.arr_inj c (V0 m c) (fun w => (dats m 0 c).arrAt w (cfgs 0).N) 8
  rw [e]
  rfl

/-- The projection's codes, after the host code. -/
theorem tail_cv (T : Tame (prm m c)) :
    Pipeline.afterTail₀ cfgs (dats m) 0 (V0 m) [hostOps1] c main_v66 = cvRes (prm m c) (Xk m c) := by
  refine Eq.trans ?_ (cv_res (prm m c) (Xk m c))
  rw [← final_cv m c T]
  simp only [Pipeline.afterTail₀, hostOps1, List.flatten_cons, List.flatten_nil, List.append_nil]
  after_results_simp
  have e : Pipeline.withArrays (cfgs 0).spec c (V0 m c) (fun w => (dats m 0 c).arrAt w (cfgs 0).N) (Proc.devRef .tc main_v58_1) = (dats m 0 c).arrAt 9 cfg0.N :=
    Pipeline.withArrays_arr (cfgs 0).spec launch0.win.arr_inj c (V0 m c) (fun w => (dats m 0 c).arrAt w (cfgs 0).N) 9
  rw [e]
  rfl

end run

end Cert.FrontTail

end
-- ==== Proof.FrontRef.lean ====
/-
  What the reference of the norm and the input projection computes: its two results at an index, as the plain row functions
  of `FrontRow.lean`.
-/
module

public import proofs.«01_k».proof.Proof.FrontRow
public import proofs.«01_k».proof.Proof.Gen.FrontRefIdeal.Run

@[expose] public section

set_option maxRecDepth 16384

noncomputable section

namespace Cert.FrontRef

open Idealize.ShloMosaic Idealize.ShloMosaic.StableHlo Cert.FrontRefIdeal Cert.FrontRefIdeal.Gen Cert.FrontRefIdeal.Value
open Cert.Row Cert.Arith Cert.Goal Cert.FrontRow

variable (x : FVec Ideal S24x28x36x256 .bf16) (g s_b : FVec Ideal S256 .f32) (sa : FVec Ideal S_ .f32) (w_ : IVec S256x512 8) (ws sc : FVec Ideal S512 .f32)

variable (b : Fin 24) (h : Fin 28) (w : Fin 36)

/-- The input less its mean. -/
def devA : FVec Ideal S24x28x36x256 .f32 :=
  subf (extf .f32 x bitsLt_bf16_f32) (broadcastInDim S24x28x36x256 ![0, 1, 2, 3] bcast_S24x28x36x1_S24x28x36x256_0_1_2_3 (Host.divf (broadcastInDim S24x28x36x1 ![0, 1, 2] bcast_S24x28x36_S24x28x36x1_0_1_2 (Host.reduceAdd (extf .f32 x bitsLt_bf16_f32) (constant S_ .f32 0x00000000#32) reducesTo_S24x28x36x256_S24x28x36_d3 h_S_)) (broadcastInDim S24x28x36x1 ![] bcast_S_S24x28x36x1 (constant S_ .f32 0x43800000#32))))

/-- The root of its variance. -/
def rootA : FVec Ideal S24x28x36x1 .f32 :=
  Host.sqrt (addf (Host.divf (broadcastInDim S24x28x36x1 ![0, 1, 2] bcast_S24x28x36_S24x28x36x1_0_1_2 (Host.reduceAdd (mulf (devA x) (devA x)) (constant S_ .f32 0x00000000#32) reducesTo_S24x28x36x256_S24x28x36_d3 h_S_)) (broadcastInDim S24x28x36x1 ![] bcast_S_S24x28x36x1 (constant S_ .f32 0x43800000#32))) (broadcastInDim S24x28x36x1 ![] bcast_S_S24x28x36x1 (constant S_ .f32 0x3727C5AC#32)))

/-- The norm. -/
def lnA : FVec Ideal S24x28x36x256 .f32 :=
  addf (mulf (Host.divf (devA x) (broadcastInDim S24x28x36x256 ![0, 1, 2, 3] bcast_S24x28x36x1_S24x28x36x256_0_1_2_3 (rootA x))) (broadcastInDim S24x28x36x256 ![0, 1, 2, 3] bcast_S1x1x1x256_S24x28x36x256_0_1_2_3 (broadcastInDim S1x1x1x256 ![3] bcast_S256_S1x1x1x256_3 g))) (broadcastInDim S24x28x36x256 ![0, 1, 2, 3] bcast_S1x1x1x256_S24x28x36x256_0_1_2_3 (broadcastInDim S1x1x1x256 ![3] bcast_S256_S1x1x1x256_3 s_b))

theorem devA_at (d : Fin 256) : devA x (ix4 b h w d)
    = x (ix4 b h w d) - Ideal.div (∑ k, x (ix4 b h w k)) (Ideal.ofBits .f32 0x43800000#32) := by
  pointwise [devA]

/-- Values over one divisor, rounded, clipped and taken to 8 bits, at an index. -/
theorem codes1_at (v : FVec Ideal S24x28x36x256 .f32) (s : FVec Ideal S_ .f32) (k : Fin 256) :
    trunci 8 (fptosi 32 (minimumf (broadcastInDim S24x28x36x256 ![] bcast_S_S24x28x36x256 (id (constant S_ .f32 0x42FE0000#32))) (maximumf (broadcastInDim S24x28x36x256 ![] bcast_S_S24x28x36x256 (id (constant S_ .f32 0xC2FE0000#32))) (Host.roundeven (Host.divf v (broadcastInDim S24x28x36x256 ![] bcast_S_S24x28x36x256 s)))))) natLt_8_32 (ix4 b h w k)
      = code8 (Ideal.div (v (ix4 b h w k)) (s ix0)) := by
  unfold code8
  pointwise
  simp only [id, constant_apply, Ideal.ofBits_def, fptosi_op, rnd]

/-- The norm at an index. -/
theorem lnA_at (d : Fin 256) : lnA x g s_b (ix4 b h w d)
    = ln (Ideal.ofBits .f32 0x43800000#32) (xrow x (pos b h w)) (fun k => g (ix1 k)) (fun k => s_b (ix1 k)) d := by
  have e : ∀ k, xrow x (pos b h w) k = x (ix4 b h w k) := fun k => xrow_pos x b h w k
  unfold lnA rootA
  pointwise
  simp only [ln, e, eps, devA_at, constant_apply, Ideal.ofBits_def]

/-- Its codes. -/
def a1A : IVec S24x28x36x256 8 :=
  trunci 8 (fptosi 32 (minimumf (broadcastInDim S24x28x36x256 ![] bcast_S_S24x28x36x256 (id (constant S_ .f32 0x42FE0000#32))) (maximumf (broadcastInDim S24x28x36x256 ![] bcast_S_S24x28x36x256 (id (constant S_ .f32 0xC2FE0000#32))) (Host.roundeven (Host.divf (lnA x g s_b) (broadcastInDim S24x28x36x256 ![] bcast_S_S24x28x36x256 sa)))))) natLt_8_32

theorem a1A_at (d : Fin 256) : a1A x g s_b sa (ix4 b h w d) = code8 (a1v (fparams g s_b sa w_ ws sc) (xrow x (pos b h w)) d) := by
  refine (codes1_at b h w _ _ d).trans ?_
  rw [lnA_at]
  rfl

/-- A matrix product of codes, scaled, over a column's divisor, rounded, clipped and taken to 8 bits, at an index. -/
theorem proj_at (q : IVec S24x28x36x256 8) (e : Fin 512) :
    trunci 8 (fptosi 32 (minimumf (broadcastInDim S24x28x36x512 ![] bcast_S_S24x28x36x512 (id (constant S_ .f32 0x42FE0000#32))) (maximumf (broadcastInDim S24x28x36x512 ![] bcast_S_S24x28x36x512 (id (constant S_ .f32 0xC2FE0000#32))) (Host.roundeven (Host.divf (mulf (mulf (Host.dotGeneral dot_S24x28x36x256_S256x512_S24x28x36x512_3_0_012_1_n_n none (truncf .bf16 (sitofp .f32 (extsi 32 q natLt_8_32)) bitsLt_bf16_f32) (truncf .bf16 (sitofp .f32 (extsi 32 w_ natLt_8_32)) bitsLt_bf16_f32)) (broadcastInDim S24x28x36x512 ![] bcast_S_S24x28x36x512 sa)) (broadcastInDim S24x28x36x512 ![0, 1, 2, 3] bcast_S1x1x1x512_S24x28x36x512_0_1_2_3 (broadcastInDim S1x1x1x512 ![3] bcast_S512_S1x1x1x512_3 ws))) (broadcastInDim S24x28x36x512 ![0, 1, 2, 3] bcast_S1x1x1x512_S24x28x36x512_0_1_2_3 (broadcastInDim S1x1x1x512 ![3] bcast_S512_S1x1x1x512_3 sc))))))) natLt_8_32 (ix4 b h w e)
      = code8 (Ideal.div ((∑ d, num ((q (ix4 b h w d)).signExtend 32) * num ((w_ (ix2 d e)).signExtend 32)) * (sa ix0 : EReal) * ws (ix1 e)) (sc (ix1 e))) := by
  unfold code8
  pointwise
  simp only [id, constant_apply, Ideal.ofBits_def, fptosi_op, rnd, sitofp_op, num]

/-- … which are the projection's codes. -/
theorem cv_eq (e : Fin 512) :
    code8 (Ideal.div ((∑ d, num ((a1A x g s_b sa (ix4 b h w d)).signExtend 32) * num ((w_ (ix2 d e)).signExtend 32)) * (sa ix0 : EReal) * ws (ix1 e)) (sc (ix1 e)))
      = code8 (cvv (fparams g s_b sa w_ ws sc) (xrow x (pos b h w)) e) := by
  simp only [a1A_at x g s_b sa w_ ws sc, code8_signExtend]
  simp only [cvv, accI]
  rfl

/-- The parameters the reference is given, -/
abbrev prm (V : Valuation τ sig (Elt Ideal)) : FParams := fparams (V (Proc.devRef .tc main_arg1)) (V (Proc.devRef .tc main_arg2)) (V (Proc.devRef .tc main_arg3))
  (V (Proc.devRef .tc main_arg4)) (V (Proc.devRef .tc main_arg5)) (V (Proc.devRef .tc main_arg6))

/-- and its input's rows. -/
abbrev xr (V : Valuation τ sig (Elt Ideal)) (t : Fin 24192) : Fin 256 → EReal := xrow (V (Proc.devRef .tc main_arg0)) t

/-- The run of the reference: the two results, as functions of the arguments' rows, and the arguments unchanged. -/
theorem run_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = a1Res (prm (launchContents m c)) (xr (launchContents m c))
      ∧ r.2.mem ((c.tc : Thread nD τ).loc main_v47) = cvRes (prm (launchContents m c)) (xr (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨(h c).1.trans (funext fun i => by
      rw [eq_ix4 i]
      exact a1A_at _ _ _ _ (launchContents m c (Proc.devRef .tc main_arg4)) (launchContents m c (Proc.devRef .tc main_arg5)) (launchContents m c (Proc.devRef .tc main_arg6)) _ _ _ _),
    (h c).2.1.trans (funext fun i => by
      rw [eq_ix4 i]
      refine (proj_at (launchContents m c (Proc.devRef .tc main_arg3)) _ _ _ _ _ _ (a1A (launchContents m c (Proc.devRef .tc main_arg0)) (launchContents m c (Proc.devRef .tc main_arg1)) (launchContents m c (Proc.devRef .tc main_arg2)) (launchContents m c (Proc.devRef .tc main_arg3))) _).trans ?_
      exact cv_eq _ _ _ _ _ _ _ _ _ _ _),
    (h c).2.2⟩) (Value.run (F := Ideal) m ρ)

end Cert.FrontRef

end
-- ==== Proof.Block.lean ====
/-
  What ONE grid step stores, at an index: the five blocks of results, from the blocks it is handed.
-/
module

public import proofs.«01_k».proof.Proof.Pay
public import proofs.«01_k».proof.Proof.Gen.BackIdeal.Frame
public import Idealize.ShloMosaic.Lib.Pipeline.ValueKit.Tiles

@[expose] public section

set_option maxRecDepth 16384

noncomputable section

namespace Cert.Block

open Idealize.ShloMosaic Idealize.ShloMosaic.TcCoe Idealize.SL.Sem Cert.BackIdeal Cert.BackIdeal.Gen Cert.Row Cert.Arith Cert.Pay

/-- A load at an index is the array at the index shifted by the load's offset. -/
theorem rd {κ : Kind} {sp : Space} {S : Shape} {e : EltTy} {M : Memref sig κ sp S e} (h : M.IsWhole) (X : Vec Ideal S e)
    (off size : Fin S.rank → Nat) (inb) (x : (Rect.unit off size inb).shape.Idx) (i : S.Idx)
    (hi : ∀ a, (i a : Nat) = off a + x a) :
    View.readAt (Elt Ideal) M.view (Rect.unit off size inb).toLoadRect (h.unread X) x = X i := by
  rw [View.readAt_eq_ld, h.read_unread]
  exact View.ld_unit_apply_of X off size inb x i hi

/-- What the grid step's nine blocks hold of the parameters and of its 432 tokens' rows. -/
structure Reads (x0 : Vec Ideal S3 .f32) (x1 : Vec Ideal S54x8x512 .f32) (x2 : Vec Ideal S54x8x256 .bf16) (x3 : Vec Ideal S8x512 .f32) (x4 : Vec Ideal S8x256 .f32) (x5 : Vec Ideal S512x256 .bf16) (x6 : Vec Ideal S256x1024 .bf16) (x7 : Vec Ideal S8x1024 .f32) (x8 : Vec Ideal S1024x256 .bf16) (p : Params) (Yb : Fin 432 → Fin 512 → EReal) (Xb : Fin 432 → Fin 256 → EReal) : Prop where
  sA2 : x0 (ix1 0) = Ideal.div 1 p.sA2
  sH : x0 (ix1 1) = Ideal.div (Ideal.ofBits .f32 0x3F000000#32) (root * p.sH)
  zH : x0 (ix1 2) = num p.zH
  y : ∀ (r : Fin 432) (k : Fin 512), x1 (ix3 ⟨r.val / 8, Nat.div_lt_of_lt_mul r.isLt⟩ ⟨r.val % 8, Nat.mod_lt _ (Nat.succ_pos 7)⟩ k) = Yb r k
  x : ∀ (r : Fin 432) (d : Fin 256), x2 (ix3 ⟨r.val / 8, Nat.div_lt_of_lt_mul r.isLt⟩ ⟨r.val % 8, Nat.mod_lt _ (Nat.succ_pos 7)⟩ d) = Xb r d
  onG : ∀ k, x3 (ix2 0 k) = p.onG k
  onB : ∀ k, x3 (ix2 1 k) = p.onB k
  lnG : ∀ d, x4 (ix2 0 d) = p.lnG d
  lnB : ∀ d, x4 (ix2 1 d) = p.lnB d
  wOutS : ∀ d, x4 (ix2 2 d) = p.wOutS d
  w2S : ∀ d, x4 (ix2 3 d) = p.sH * p.w2S d
  b2 : ∀ d, x4 (ix2 4 d) = p.b2 d
  wOut : ∀ e d, x5 (ix2 e d) = p.wOut e d
  w1 : ∀ d f, x6 (ix2 d f) = p.w1 d f
  w1S : ∀ f, x7 (ix2 0 f) = p.sA2 * p.w1S f * root
  b1 : ∀ f, x7 (ix2 1 f) = p.b1 f * root
  w2 : ∀ f d, x8 (ix2 f d) = p.w2 f d

/-- The parameters the equation is stated at: the two code scales nonzero, the ones that enter sums that are scaled
    in a different order finite, and the zero point not at the very bottom of its range. -/
structure Tame (p : Params) : Prop where
  sA2 : ∃ a : ℝ, p.sA2 = a
  sA2_ne : p.sA2 ≠ 0
  w1 : ∀ d f, ∃ n : ℤ, p.w1 d f = ((n : ℝ) : EReal)
  w1S : ∀ f, ∃ a : ℝ, p.w1S f = a
  b1 : ∀ f, ∃ a : ℝ, p.b1 f = a
  sH : p.sH ≠ 0
  zH : -2147483392 ≤ p.zH.toInt

/-- The integer sums of the first layer are finite. -/
theorem acc1_real {p : Params} (t : Tame p) (y : Fin 512 → EReal) (x : Fin 256 → EReal) (f : Fin 1024) : ∃ a : ℝ, acc1 p y x f = a := by
  choose w hw using t.w1
  unfold acc1
  simp only [hw, num]
  exact sum_int _ _

theorem hz2 : (![0, 0] : Fin 2 → Nat) = fun _ => 0 := funext fun a => by fin_cases a <;> rfl
theorem hz3 : (![0, 0, 0] : Fin 3 → Nat) = fun _ => 0 := funext fun a => by fin_cases a <;> rfl

variable {c : Dev nD} {i : grid0.Coords} {arg1 : Memref sig .tc .smem S3 .f32} {harg1 : arg1.IsWhole} {arg2 : Memref sig .tc .vmem S54x8x512 .f32} {harg2 : arg2.IsWhole} {arg3 : Memref sig .tc .vmem S54x8x256 .bf16} {harg3 : arg3.IsWhole} {arg4 : Memref sig .tc .vmem S8x512 .f32} {harg4 : arg4.IsWhole} {arg5 : Memref sig .tc .vmem S8x256 .f32} {harg5 : arg5.IsWhole} {arg6 : Memref sig .tc .vmem S512x256 .bf16} {harg6 : arg6.IsWhole} {arg7 : Memref sig .tc .vmem S256x1024 .bf16} {harg7 : arg7.IsWhole} {arg8 : Memref sig .tc .vmem S8x1024 .f32} {harg8 : arg8.IsWhole} {arg9 : Memref sig .tc .vmem S1024x256 .bf16} {harg9 : arg9.IsWhole} {arg10 : Memref sig .tc .vmem S54x8x256 .bf16} {harg10 : arg10.IsWhole} {arg11 : Memref sig .tc .vmem S1728x128 .i8} {harg11 : arg11.IsWhole} {arg12 : Memref sig .tc .vmem S54x8x128 .f32} {harg12 : arg12.IsWhole} {arg13 : Memref sig .tc .vmem S864x128 .i8} {harg13 : arg13.IsWhole} {arg14 : Memref sig .tc .vmem S3456x128 .i8} {harg14 : arg14.IsWhole} {x0 : Vec Ideal S3 .f32} {x1 : Vec Ideal S54x8x512 .f32} {x2 : Vec Ideal S54x8x256 .bf16} {x3 : Vec Ideal S8x512 .f32} {x4 : Vec Ideal S8x256 .f32} {x5 : Vec Ideal S512x256 .bf16} {x6 : Vec Ideal S256x1024 .bf16} {x7 : Vec Ideal S8x1024 .f32} {x8 : Vec Ideal S1024x256 .bf16}
  {p : Params} {Yb : Fin 432 → Fin 512 → EReal} {Xb : Fin 432 → Fin 256 → EReal} (R : Reads x0 x1 x2 x3 x4 x5 x6 x7 x8 p Yb Xb)
include R

/-- The block of the scan's output, as loaded, -/
theorem y_at (r : Fin 432) (k : Fin 512) :
    (View.readAt (Elt Ideal) arg2.view (Rect.unit ![0,0,0] S54x8x512.size inb_S54x8x512_S54x8x512_0_0_0).toLoadRect (harg2.unread x1))
      (ix3 ⟨r.val / 8, Nat.div_lt_of_lt_mul r.isLt⟩ ⟨r.val % 8, Nat.mod_lt _ (Nat.succ_pos 7)⟩ k) = Yb r k :=
  (fun r k => (rd harg2 x1 ![0, 0, 0] S54x8x512.size _ (ix3 _ _ k) (ix3 _ _ k)
      (fun a => match a with | ⟨0, _⟩ => (Nat.zero_add _).symm | ⟨1, _⟩ => (Nat.zero_add _).symm | ⟨2, _⟩ => (Nat.zero_add _).symm)).trans (R.y r k)) r k

/-- the block of the input, -/
theorem x_at (r : Fin 432) (k : Fin 256) :
    (View.readAt (Elt Ideal) arg3.view (Rect.unit ![0,0,0] S54x8x256.size inb_S54x8x256_S54x8x256_0_0_0).toLoadRect (harg3.unread x2))
      (ix3 ⟨r.val / 8, Nat.div_lt_of_lt_mul r.isLt⟩ ⟨r.val % 8, Nat.mod_lt _ (Nat.succ_pos 7)⟩ k) = Xb r k :=
  (fun r k => (rd harg3 x2 ![0, 0, 0] S54x8x256.size _ (ix3 _ _ k) (ix3 _ _ k)
      (fun a => match a with | ⟨0, _⟩ => (Nat.zero_add _).symm | ⟨1, _⟩ => (Nat.zero_add _).symm | ⟨2, _⟩ => (Nat.zero_add _).symm)).trans (R.x r k)) r k

/-- the scales of the first norm's rows, -/
theorem s_at (r : Fin 432) : (kernelRun0_A.sl.r c arg2 harg2 arg4 harg4 x1 x3) (ix2 r 0) = scale (onv p (Yb r)) :=
  pay3_at (y_at R)
    (fun k => (rd harg4 x3 ![0, 0] ![1, 512] _ (ix2 0 k) (ix2 0 k)
      (fun a => match a with | ⟨0, _⟩ => rfl | ⟨1, _⟩ => (Nat.zero_add _).symm)).trans (R.onG k))
    (fun k => (rd harg4 x3 ![1, 0] ![1, 512] _ (ix2 0 k) (ix2 1 k)
      (fun a => match a with | ⟨0, _⟩ => rfl | ⟨1, _⟩ => (Nat.zero_add _).symm)).trans (R.onB k)) r

/-- its codes, -/
theorem q_at (r : Fin 432) (k : Fin 512) : k0_pay6 (kernelRun0_A.sl.r_1 c arg2 harg2 arg4 harg4 x1 x3) (k0_pay5 (F := Ideal)) (ix2 r k) = on p (Yb r) k :=
  pay6_at (y_at R)
    (fun k => (rd harg4 x3 ![0, 0] ![1, 512] _ (ix2 0 k) (ix2 0 k)
      (fun a => match a with | ⟨0, _⟩ => rfl | ⟨1, _⟩ => (Nat.zero_add _).symm)).trans (R.onG k))
    (fun k => (rd harg4 x3 ![1, 0] ![1, 512] _ (ix2 0 k) (ix2 1 k)
      (fun a => match a with | ⟨0, _⟩ => rfl | ⟨1, _⟩ => (Nat.zero_add _).symm)).trans (R.onB k)) r k

/-- the residual, -/
theorem x1_at (r : Fin 432) (d : Fin 256) : (kernelRun0_A.sl.r_2 c arg2 harg2 arg3 harg3 arg4 harg4 arg5 harg5 arg6 harg6 x1 x2 x3 x4 x5) (ix2 r d) = Row.x1 p (Yb r) (Xb r) d :=
  pay9_at (s_at R) (q_at R) (fun a b => (rd harg6 x5 ![0, 0] S512x256.size _ (ix2 a b) (ix2 a b)
      (fun a => match a with | ⟨0, _⟩ => (Nat.zero_add _).symm | ⟨1, _⟩ => (Nat.zero_add _).symm)).trans (R.wOut a b))
    (fun k => (rd harg5 x4 ![2, 0] ![1, 256] _ (ix2 0 k) (ix2 2 k)
      (fun a => match a with | ⟨0, _⟩ => rfl | ⟨1, _⟩ => (Nat.zero_add _).symm)).trans (R.wOutS k)) (x_at R) r d

/-- less its mean, -/
theorem dev_at (r : Fin 432) (d : Fin 256) : (kernelRun0_A.sl.r_3 c arg2 harg2 arg3 harg3 arg4 harg4 arg5 harg5 arg6 harg6 x1 x2 x3 x4 x5) (ix2 r d)
    = Row.x1 p (Yb r) (Xb r) d - (∑ e, Row.x1 p (Yb r) (Xb r) e) * Ideal.ofBits .f32 0x3B800000#32 :=
  pay10_at (s_at R) (q_at R) (fun a b => (rd harg6 x5 ![0, 0] S512x256.size _ (ix2 a b) (ix2 a b)
      (fun a => match a with | ⟨0, _⟩ => (Nat.zero_add _).symm | ⟨1, _⟩ => (Nat.zero_add _).symm)).trans (R.wOut a b))
    (fun k => (rd harg5 x4 ![2, 0] ![1, 256] _ (ix2 0 k) (ix2 2 k)
      (fun a => match a with | ⟨0, _⟩ => rfl | ⟨1, _⟩ => (Nat.zero_add _).symm)).trans (R.wOutS k)) (x_at R) r d

/-- its squares' sum, -/
theorem var_at (r : Fin 432) : (kernelRun0_A.sl.r_4 c arg2 harg2 arg3 harg3 arg4 harg4 arg5 harg5 arg6 harg6 x1 x2 x3 x4 x5) (ix2 r 0)
    = ∑ d, (Row.x1 p (Yb r) (Xb r) d - (∑ e, Row.x1 p (Yb r) (Xb r) e) * Ideal.ofBits .f32 0x3B800000#32)
        * (Row.x1 p (Yb r) (Xb r) d - (∑ e, Row.x1 p (Yb r) (Xb r) e) * Ideal.ofBits .f32 0x3B800000#32) :=
  pay11_at (s_at R) (q_at R) (fun a b => (rd harg6 x5 ![0, 0] S512x256.size _ (ix2 a b) (ix2 a b)
      (fun a => match a with | ⟨0, _⟩ => (Nat.zero_add _).symm | ⟨1, _⟩ => (Nat.zero_add _).symm)).trans (R.wOut a b))
    (fun k => (rd harg5 x4 ![2, 0] ![1, 256] _ (ix2 0 k) (ix2 2 k)
      (fun a => match a with | ⟨0, _⟩ => rfl | ⟨1, _⟩ => (Nat.zero_add _).symm)).trans (R.wOutS k)) (x_at R) r

/-- the three scalars, -/
theorem c0_at : (kernelRun0_A.sl.r_5 c arg1 harg1 x0) = Ideal.div 1 p.sA2 :=
  (rd harg1 x0 ![0] ![1] _ _ (ix1 0) (fun a => match a with | ⟨0, _⟩ => rfl)).trans R.sA2

/-- (the second) -/
theorem c1_at : (kernelRun0_A.sl.r_9 c arg1 harg1 x0) = Ideal.div (Ideal.ofBits .f32 0x3F000000#32) (root * p.sH) :=
  (rd harg1 x0 ![1] ![1] _ _ (ix1 1) (fun a => match a with | ⟨0, _⟩ => rfl)).trans R.sH

/-- (and the third), -/
theorem c2_at : (kernelRun0_A.sl.r_8 c arg1 harg1 x0) = num p.zH :=
  (rd harg1 x0 ![2] ![1] _ _ (ix1 2) (fun a => match a with | ⟨0, _⟩ => rfl)).trans R.zH

/-- the second norm's codes, -/
theorem a2_at (t : Tame p) (r : Fin 432) (d : Fin 256) :
    k0_pay12 (kernelRun0_A.sl.r_3 c arg2 harg2 arg3 harg3 arg4 harg4 arg5 harg5 arg6 harg6 x1 x2 x3 x4 x5) (kernelRun0_A.sl.r_4 c arg2 harg2 arg3 harg3 arg4 harg4 arg5 harg5 arg6 harg6 x1 x2 x3 x4 x5) (kernelRun0_A.sl.cst_30 (F := Ideal)) (View.readAt (Elt Ideal) arg5.view (Rect.unit (s := S8x256) ![0, 0] S1x256.size inb_S8x256_S1x256_0_0).toLoadRect (harg5.unread x4)) (View.readAt (Elt Ideal) arg5.view (Rect.unit (s := S8x256) ![1, 0] S1x256.size inb_S8x256_S1x256_1_0).toLoadRect (harg5.unread x4)) (kernelRun0_A.sl.r_5 c arg1 harg1 x0) (ix2 r d) = a2 p (Yb r) (Xb r) d :=
  pay12_at (dev_at R) (var_at R) (fun k => (rd harg5 x4 ![0, 0] ![1, 256] _ (ix2 0 k) (ix2 0 k)
      (fun a => match a with | ⟨0, _⟩ => rfl | ⟨1, _⟩ => (Nat.zero_add _).symm)).trans (R.lnG k))
    (fun k => (rd harg5 x4 ![1, 0] ![1, 256] _ (ix2 0 k) (ix2 1 k)
      (fun a => match a with | ⟨0, _⟩ => rfl | ⟨1, _⟩ => (Nat.zero_add _).symm)).trans (R.lnB k)) (c0_at R) t.sA2_ne r d

/-- the first layer, -/
theorem v121_at (t : Tame p) (r : Fin 432) (f : Fin 1024) :
    (kernelRun0_A.sl.r_6 c arg1 harg1 arg2 harg2 arg3 harg3 arg4 harg4 arg5 harg5 arg6 harg6 arg7 harg7 arg8 harg8 x0 x1 x2 x3 x4 x5 x6 x7) (ix2 r f) = acc1 p (Yb r) (Xb r) f * (p.sA2 * p.w1S f * root) :=
  pay14_at (a2_at R t) (fun a b => (rd harg7 x6 ![0, 0] S256x1024.size _ (ix2 a b) (ix2 a b)
      (fun a => match a with | ⟨0, _⟩ => (Nat.zero_add _).symm | ⟨1, _⟩ => (Nat.zero_add _).symm)).trans (R.w1 a b))
    (fun k => (rd harg8 x7 ![0, 0] ![1, 1024] _ (ix2 0 k) (ix2 0 k)
      (fun a => match a with | ⟨0, _⟩ => rfl | ⟨1, _⟩ => (Nat.zero_add _).symm)).trans (R.w1S k)) r f

/-- the second layer, -/
theorem v169_at (t : Tame p) (r : Fin 432) (d : Fin 256) :
    (kernelRun0_A.sl.r_10 c arg1 harg1 arg2 harg2 arg3 harg3 arg4 harg4 arg5 harg5 arg6 harg6 arg7 harg7 arg8 harg8 arg9 harg9 x0 x1 x2 x3 x4 x5 x6 x7 x8) (ix2 r d) = acc2 p (Yb r) (Xb r) d * p.sH * p.w2S d + p.b2 d :=
  pay18_at (v121_at R t) (fun k => (rd harg8 x7 ![1, 0] ![1, 1024] _ (ix2 0 k) (ix2 1 k)
      (fun a => match a with | ⟨0, _⟩ => rfl | ⟨1, _⟩ => (Nat.zero_add _).symm)).trans (R.b1 k)) (c2_at R) (c1_at R)
    (fun r f => acc1_real t _ _ f) t.sA2 t.w1S t.b1 t.sH (fun a b => (rd harg9 x8 ![0, 0] S1024x256.size _ (ix2 a b) (ix2 a b)
      (fun a => match a with | ⟨0, _⟩ => (Nat.zero_add _).symm | ⟨1, _⟩ => (Nat.zero_add _).symm)).trans (R.w2 a b))
    (fun k => (rd harg5 x4 ![3, 0] ![1, 256] _ (ix2 0 k) (ix2 3 k)
      (fun a => match a with | ⟨0, _⟩ => rfl | ⟨1, _⟩ => (Nat.zero_add _).symm)).trans (R.w2S k)) (fun k => (rd harg5 x4 ![4, 0] ![1, 256] _ (ix2 0 k) (ix2 4 k)
      (fun a => match a with | ⟨0, _⟩ => rfl | ⟨1, _⟩ => (Nat.zero_add _).symm)).trans (R.b2 k)) r d

/-- WINDOW 9: the block's output, -/
theorem out9_at (t : Tame p) (g : Fin 54) (s : Fin 8) (d : Fin 256) : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 g s d)
    = out p (Yb ⟨8 * g.val + s.val, by omega⟩) (Xb ⟨8 * g.val + s.val, by omega⟩) d := by
  unfold out0_A_9
  rw [View.read_writes_junk_eq_canon]
  unfold kernelRun0_A
  dsimp only
  rw [View.canon_unit_zero hz3]
  exact pay1_at (x1_at R) (v169_at R t) g s d

/-- WINDOW 10: the first norm's codes, -/
theorem out10_at  (j : Fin 1728) (l : Fin 128) : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 j l)
    = code8 (Ideal.div (onv p (Yb ⟨8 * (j.val / 32) + j.val % 8, by omega⟩) ⟨j.val / 8 % 4 * 128 + l.val, by omega⟩) (scale (onv p (Yb ⟨8 * (j.val / 32) + j.val % 8, by omega⟩)))) := by
  unfold out0_A_10
  rw [View.read_writes_junk_eq_canon]
  unfold kernelRun0_A
  dsimp only
  rw [View.canon_unit_zero hz2]
  rw [code8_eq]
  refine (pay7_at j l).trans (congrArg (BitVec.setWidth 8) ((q_at R _ _).trans ?_))
  rw [on]

/-- WINDOW 11: their scales, -/
theorem out11_at  (g : Fin 54) (s : Fin 8) (l : Fin 128) : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 g s l)
    = scale (onv p (Yb ⟨8 * g.val + s.val, by omega⟩)) := by
  unfold out0_A_11
  rw [View.read_writes_junk_eq_canon]
  unfold kernelRun0_A
  dsimp only
  rw [View.canon_unit_zero hz3]
  exact (pay8_at _ g s l).trans (s_at R _)

/-- WINDOW 12: the second norm's codes, -/
theorem out12_at (t : Tame p) (j : Fin 864) (l : Fin 128) : out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 j l)
    = code8 (Ideal.div (a2v p (Yb ⟨8 * (j.val / 16) + j.val % 8, by omega⟩) (Xb ⟨8 * (j.val / 16) + j.val % 8, by omega⟩) ⟨j.val / 8 % 2 * 128 + l.val, by omega⟩) p.sA2) := by
  unfold out0_A_12
  rw [View.read_writes_junk_eq_canon]
  unfold kernelRun0_A
  dsimp only
  rw [View.canon_unit_zero hz2]
  rw [code8_eq]
  refine (pay13_at j l).trans (congrArg (BitVec.setWidth 8) ((a2_at R t _ _).trans ?_))
  rw [a2]

/-- WINDOW 13: the hidden codes. -/
theorem out13_at (t : Tame p) (j : Fin 3456) (l : Fin 128) : out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 j l)
    = zcode8 p.zH (hv p (Yb ⟨8 * (j.val / 64) + j.val % 8, by omega⟩) (Xb ⟨8 * (j.val / 64) + j.val % 8, by omega⟩) ⟨j.val / 8 % 8 * 128 + l.val, by omega⟩) := by
  unfold out0_A_13
  rw [View.read_writes_junk_eq_canon]
  unfold kernelRun0_A
  dsimp only
  rw [View.canon_unit_zero hz2]
  rw [(zcode8_eq p.zH _ t.zH).1]
  refine (pay17_at (v121_at R t) (fun k => (rd harg8 x7 ![1, 0] ![1, 1024] _ (ix2 0 k) (ix2 1 k)
      (fun a => match a with | ⟨0, _⟩ => rfl | ⟨1, _⟩ => (Nat.zero_add _).symm)).trans (R.b1 k)) (c2_at R) (c1_at R)
    (fun r f => acc1_real t _ _ f) t.sA2 t.w1S t.b1 t.sH j l).trans ?_
  rw [hc]

end Cert.Block

end
-- ==== Proof.Host.lean ====
/-
  What the host code hands the kernel: the arrays its windows read, at the indices the kernel reads, as functions of the
  arguments.
-/
module

public import proofs.«01_k».proof.Proof.Row
public import proofs.«01_k».proof.Proof.Gen.BackIdeal.Frame

@[expose] public section

set_option maxRecDepth 16384

noncomputable section

namespace Cert.Host

open Idealize.ShloMosaic Idealize.ShloMosaic.TcCoe Idealize.ShloMosaic.StableHlo Idealize.SL.Sem Cert.BackIdeal Cert.BackIdeal.Gen Cert.Row Cert.Arith

/-! ## Stacked rows at an index -/

section stack
variable {A B C D E : FVec Ideal S1 .f32}

/-- The three scalars, stacked: the first, -/
theorem s3_0 : concatenate S3 0 [⟨S1, A⟩, ⟨S1, B⟩, ⟨S1, C⟩] concatenates_S1_S1_S1_S3_d0 (ix1 0) = A (ix1 0) := by pointwise

/-- the second -/
theorem s3_1 : concatenate S3 0 [⟨S1, A⟩, ⟨S1, B⟩, ⟨S1, C⟩] concatenates_S1_S1_S1_S3_d0 (ix1 1) = B (ix1 0) := by pointwise

/-- and the third. -/
theorem s3_2 : concatenate S3 0 [⟨S1, A⟩, ⟨S1, B⟩, ⟨S1, C⟩] concatenates_S1_S1_S1_S3_d0 (ix1 2) = C (ix1 0) := by pointwise

end stack

/-- Row 0 of 2 padded rows of 512. -/
theorem on_0 {A B : FVec Ideal S1x512 .f32} {v : FVec Ideal S_ .f32} (k : Fin 512) :
    pad S8x512 ![0, 0] ![6, 0] ![0, 0] (concatenate S2x512 0 [⟨S1x512, A⟩, ⟨S1x512, B⟩] concatenates_S1x512_S1x512_S2x512_d0)
      v pads_S2x512_S8x512_060_000 h_S_ (ix2 0 k) = A (ix2 0 k) := by pointwise

/-- Row 1 of 2 padded rows of 512. -/
theorem on_1 {A B : FVec Ideal S1x512 .f32} {v : FVec Ideal S_ .f32} (k : Fin 512) :
    pad S8x512 ![0, 0] ![6, 0] ![0, 0] (concatenate S2x512 0 [⟨S1x512, A⟩, ⟨S1x512, B⟩] concatenates_S1x512_S1x512_S2x512_d0)
      v pads_S2x512_S8x512_060_000 h_S_ (ix2 1 k) = B (ix2 0 k) := by pointwise

/-- Row 0 of 5 padded rows of 256. -/
theorem dl_0 {A B C D E : FVec Ideal S1x256 .f32} {v : FVec Ideal S_ .f32} (k : Fin 256) :
    pad S8x256 ![0, 0] ![3, 0] ![0, 0] (concatenate S5x256 0 [⟨S1x256, A⟩, ⟨S1x256, B⟩, ⟨S1x256, C⟩, ⟨S1x256, D⟩, ⟨S1x256, E⟩] concatenates_S1x256_S1x256_S1x256_S1x256_S1x256_S5x256_d0)
      v pads_S5x256_S8x256_030_000 h_S_ (ix2 0 k) = A (ix2 0 k) := by pointwise

/-- Row 1 of 5 padded rows of 256. -/
theorem dl_1 {A B C D E : FVec Ideal S1x256 .f32} {v : FVec Ideal S_ .f32} (k : Fin 256) :
    pad S8x256 ![0, 0] ![3, 0] ![0, 0] (concatenate S5x256 0 [⟨S1x256, A⟩, ⟨S1x256, B⟩, ⟨S1x256, C⟩, ⟨S1x256, D⟩, ⟨S1x256, E⟩] concatenates_S1x256_S1x256_S1x256_S1x256_S1x256_S5x256_d0)
      v pads_S5x256_S8x256_030_000 h_S_ (ix2 1 k) = B (ix2 0 k) := by pointwise

/-- Row 2 of 5 padded rows of 256. -/
theorem dl_2 {A B C D E : FVec Ideal S1x256 .f32} {v : FVec Ideal S_ .f32} (k : Fin 256) :
    pad S8x256 ![0, 0] ![3, 0] ![0, 0] (concatenate S5x256 0 [⟨S1x256, A⟩, ⟨S1x256, B⟩, ⟨S1x256, C⟩, ⟨S1x256, D⟩, ⟨S1x256, E⟩] concatenates_S1x256_S1x256_S1x256_S1x256_S1x256_S5x256_d0)
      v pads_S5x256_S8x256_030_000 h_S_ (ix2 2 k) = C (ix2 0 k) := by pointwise

/-- Row 3 of 5 padded rows of 256. -/
theorem dl_3 {A B C D E : FVec Ideal S1x256 .f32} {v : FVec Ideal S_ .f32} (k : Fin 256) :
    pad S8x256 ![0, 0] ![3, 0] ![0, 0] (concatenate S5x256 0 [⟨S1x256, A⟩, ⟨S1x256, B⟩, ⟨S1x256, C⟩, ⟨S1x256, D⟩, ⟨S1x256, E⟩] concatenates_S1x256_S1x256_S1x256_S1x256_S1x256_S5x256_d0)
      v pads_S5x256_S8x256_030_000 h_S_ (ix2 3 k) = D (ix2 0 k) := by pointwise

/-- Row 4 of 5 padded rows of 256. -/
theorem dl_4 {A B C D E : FVec Ideal S1x256 .f32} {v : FVec Ideal S_ .f32} (k : Fin 256) :
    pad S8x256 ![0, 0] ![3, 0] ![0, 0] (concatenate S5x256 0 [⟨S1x256, A⟩, ⟨S1x256, B⟩, ⟨S1x256, C⟩, ⟨S1x256, D⟩, ⟨S1x256, E⟩] concatenates_S1x256_S1x256_S1x256_S1x256_S1x256_S5x256_d0)
      v pads_S5x256_S8x256_030_000 h_S_ (ix2 4 k) = E (ix2 0 k) := by pointwise

/-- Row 0 of 2 padded rows of 1024. -/
theorem fp_0 {A B : FVec Ideal S1x1024 .f32} {v : FVec Ideal S_ .f32} (k : Fin 1024) :
    pad S8x1024 ![0, 0] ![6, 0] ![0, 0] (concatenate S2x1024 0 [⟨S1x1024, A⟩, ⟨S1x1024, B⟩] concatenates_S1x1024_S1x1024_S2x1024_d0)
      v pads_S2x1024_S8x1024_060_000 h_S_ (ix2 0 k) = A (ix2 0 k) := by pointwise

/-- Row 1 of 2 padded rows of 1024. -/
theorem fp_1 {A B : FVec Ideal S1x1024 .f32} {v : FVec Ideal S_ .f32} (k : Fin 1024) :
    pad S8x1024 ![0, 0] ![6, 0] ![0, 0] (concatenate S2x1024 0 [⟨S1x1024, A⟩, ⟨S1x1024, B⟩] concatenates_S1x1024_S1x1024_S2x1024_d0)
      v pads_S2x1024_S8x1024_060_000 h_S_ (ix2 1 k) = B (ix2 0 k) := by pointwise

/-! ## The arrays -/

variable (m : (ℓ : Loc nD τ sig) → Buf (Elt Ideal) ℓ) (c : Dev nD)

/-- The parameters in a memory. -/
def prm : Params :=
  params (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))

/-- The first code scale's reciprocal, -/
theorem v9_0 : V m c main_v9 (ix1 0) = Ideal.div 1 ((prm m c).sA2) := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  refine s3_0.trans ?_
  show (_ : Valuation τ sig (Elt Ideal)) (Proc.tc.devRef main_v6) _ = _
  after_results_simp
  pointwise
  rfl

/-- the second code scale's, halved, -/
theorem v9_1 : V m c main_v9 (ix1 1) = Ideal.div (Ideal.ofBits .f32 0x3F000000#32) (root * (prm m c).sH) := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  refine s3_1.trans ?_
  show (_ : Valuation τ sig (Elt Ideal)) (Proc.tc.devRef main_v7) _ = _
  after_results_simp
  pointwise
  rfl

/-- and the zero point. -/
theorem v9_2 : V m c main_v9 (ix1 2) = num ((prm m c).zH) := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  refine s3_2.trans ?_
  show (_ : Valuation τ sig (Elt Ideal)) (Proc.tc.devRef main_v8) _ = _
  after_results_simp
  pointwise
  rfl

/-- The first norm's factor -/
theorem v13_0 (k : Fin 512) : V m c main_v13 (ix2 0 k) = (prm m c).onG k := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  refine (on_0 k).trans ?_
  after_results_simp
  pointwise
  rfl

/-- and shift. -/
theorem v13_1 (k : Fin 512) : V m c main_v13 (ix2 1 k) = (prm m c).onB k := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  refine (on_1 k).trans ?_
  after_results_simp
  pointwise
  rfl

/-- The second norm's factor -/
theorem v22_0 (k : Fin 256) : V m c main_v22 (ix2 0 k) = (prm m c).lnG k := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  refine (dl_0 k).trans ?_
  show (_ : Valuation τ sig (Elt Ideal)) (Proc.tc.devRef main_v16) _ = _
  after_results_simp
  pointwise
  rfl

/-- and shift, -/
theorem v22_1 (k : Fin 256) : V m c main_v22 (ix2 1 k) = (prm m c).lnB k := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  refine (dl_1 k).trans ?_
  show (_ : Valuation τ sig (Elt Ideal)) (Proc.tc.devRef main_v17) _ = _
  after_results_simp
  pointwise
  rfl

/-- the output projection's scales, -/
theorem v22_2 (k : Fin 256) : V m c main_v22 (ix2 2 k) = (prm m c).wOutS k := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  refine (dl_2 k).trans ?_
  show (_ : Valuation τ sig (Elt Ideal)) (Proc.tc.devRef main_v18) _ = _
  after_results_simp
  pointwise
  rfl

/-- the second layer's, times the hidden codes' scale, -/
theorem v22_3 (k : Fin 256) : V m c main_v22 (ix2 3 k) = ((prm m c).sH) * (prm m c).w2S k := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  refine (dl_3 k).trans ?_
  show (_ : Valuation τ sig (Elt Ideal)) (Proc.tc.devRef main_v19) _ = _
  after_results_simp
  pointwise
  rfl

/-- and its shift. -/
theorem v22_4 (k : Fin 256) : V m c main_v22 (ix2 4 k) = (prm m c).b2 k := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  refine (dl_4 k).trans ?_
  show (_ : Valuation τ sig (Elt Ideal)) (Proc.tc.devRef main_v20) _ = _
  after_results_simp
  pointwise
  rfl

/-- The first layer's scales, times the codes' scale and the root, -/
theorem v32_0 (k : Fin 1024) : V m c main_v32 (ix2 0 k) = ((prm m c).sA2) * (prm m c).w1S k * root := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  refine (fp_0 k).trans ?_
  after_results_simp
  pointwise
  rfl

/-- and its shift times the root. -/
theorem v32_1 (k : Fin 1024) : V m c main_v32 (ix2 1 k) = ((prm m c).b1 k) * root := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  refine (fp_1 k).trans ?_
  after_results_simp
  pointwise
  rfl

/-- The output projection's weights, -/
theorem v36 (a : Fin 512) (b : Fin 256) : V m c main_v36 (ix2 a b) = (prm m c).wOut a b := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  pointwise
  rfl

/-- the first layer's, -/
theorem v39 (a : Fin 256) (b : Fin 1024) : V m c main_v39 (ix2 a b) = (prm m c).w1 a b := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  pointwise
  rfl

/-- the second layer's. -/
theorem v42 (a : Fin 1024) (b : Fin 256) : V m c main_v42 (ix2 a b) = (prm m c).w2 a b := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  pointwise
  rfl

/-- The scan's output, in groups of 8 rows, -/
theorem v33 (g : Fin 3024) (s : Fin 8) (k : Fin 512) : V m c main_v33 (ix3 g s k)
    = yrow (m ((c : Thread nD τ).loc main_arg1)) ⟨8 * g.val + s.val, by omega⟩ k := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  unfold yrow
  pointwise
  exact congrArg _ (by congr 1 <;> exact Fin.ext (by dsimp only; omega))

/-- and the input. -/
theorem v1 (g : Fin 3024) (s : Fin 8) (k : Fin 256) : V m c main_v1 (ix3 g s k)
    = xrow (m ((c : Thread nD τ).loc main_arg0)) ⟨8 * g.val + s.val, by omega⟩ k := by
  simp only [V, V0, hostOps0, hostOps0_1, hostOps0_2, hostOps0_3, hostOps0_4, hostOps0_5, hostOps0_6, List.flatten_cons, List.flatten_nil,
    List.append_nil, List.cons_append, List.nil_append, TRef.binary, TRef.ternary, TRef.unary, TRef.toBuf, TRef.ofBuf, cast_eq]
  after_results_simp
  unfold xrow
  pointwise
  exact congrArg _ (by congr 1 <;> exact Fin.ext (by dsimp only; omega))

end Cert.Host

end
-- ==== Proof.Array.lean ====
/-
  The result arrays after the run: the grid's blocks tile them, so each holds, index by index, what the token's row gives.
-/
module

public import proofs.«01_k».proof.Proof.Block
public import proofs.«01_k».proof.Proof.Host
public import proofs.«01_k».proof.Proof.Goal
public import Idealize.ShloMosaic.Lib.Pipeline.ValueKit

@[expose] public section

set_option maxRecDepth 16384

noncomputable section

namespace Cert.Array

open Idealize.ShloMosaic Idealize.ShloMosaic.TcCoe Idealize.SL.Sem Cert.BackIdeal Cert.BackIdeal.Gen Cert.Row Cert.Arith Cert.Block Cert.Host Cert.Goal

variable (m : (ℓ : Loc nD τ sig) → Buf (Elt Ideal) ℓ) (c : Dev nD)

/-- The scan's output, by token, -/
abbrev Yk (t : Fin 24192) : Fin 512 → EReal := yrow (m ((c : Thread nD τ).loc main_arg1)) t

/-- and the input. -/
abbrev Xk (t : Fin 24192) : Fin 256 → EReal := xrow (m ((c : Thread nD τ).loc main_arg0)) t

/-- The tokens of grid step `t`. -/
theorem lt (t : Fin cfg0.N) : t.val < 56 := lt_of_lt_of_eq t.isLt N_0

abbrev at_ (t : Fin cfg0.N) (r : Fin 432) : Fin 24192 := ⟨432 * t.val + r.val, by have := lt t; omega⟩

/-! ## The blocks a grid step is handed -/

/-- Window 0 is its whole array at every step. -/
theorem idx0 : ∀ t : Fin cfg0.N, win0_0.index t = ![0] := (by decide +kernel : ∀ t : Fin grid0.N, _)

/-- Window 3 is its whole array at every step. -/
theorem idx3 : ∀ t : Fin cfg0.N, win0_3.index t = ![0,0] := (by decide +kernel : ∀ t : Fin grid0.N, _)

/-- Window 4 is its whole array at every step. -/
theorem idx4 : ∀ t : Fin cfg0.N, win0_4.index t = ![0,0] := (by decide +kernel : ∀ t : Fin grid0.N, _)

/-- Window 5 is its whole array at every step. -/
theorem idx5 : ∀ t : Fin cfg0.N, win0_5.index t = ![0,0] := (by decide +kernel : ∀ t : Fin grid0.N, _)

/-- Window 6 is its whole array at every step. -/
theorem idx6 : ∀ t : Fin cfg0.N, win0_6.index t = ![0,0] := (by decide +kernel : ∀ t : Fin grid0.N, _)

/-- Window 7 is its whole array at every step. -/
theorem idx7 : ∀ t : Fin cfg0.N, win0_7.index t = ![0,0] := (by decide +kernel : ∀ t : Fin grid0.N, _)

/-- Window 8 is its whole array at every step. -/
theorem idx8 : ∀ t : Fin cfg0.N, win0_8.index t = ![0,0] := (by decide +kernel : ∀ t : Fin grid0.N, _)

/-- Window 1 is its array's block `t` at step `t`. -/
theorem idx1 : ∀ t : Fin cfg0.N, win0_1.index t = ![t.val,0,0] := (by decide +kernel : ∀ t : Fin grid0.N, _)

/-- Window 2 is its array's block `t` at step `t`. -/
theorem idx2 : ∀ t : Fin cfg0.N, win0_2.index t = ![t.val,0,0] := (by decide +kernel : ∀ t : Fin grid0.N, _)

/-- Window 9 is its array's block `t` at step `t`. -/
theorem idx9 : ∀ t : Fin cfg0.N, win0_9.index t = ![t.val,0,0] := (by decide +kernel : ∀ t : Fin grid0.N, _)

/-- Window 10 is its array's block `t` at step `t`. -/
theorem idx10 : ∀ t : Fin cfg0.N, win0_10.index t = ![t.val,0] := (by decide +kernel : ∀ t : Fin grid0.N, _)

/-- Window 11 is its array's block `t` at step `t`. -/
theorem idx11 : ∀ t : Fin cfg0.N, win0_11.index t = ![t.val,0,0] := (by decide +kernel : ∀ t : Fin grid0.N, _)

/-- Window 12 is its array's block `t` at step `t`. -/
theorem idx12 : ∀ t : Fin cfg0.N, win0_12.index t = ![t.val,0] := (by decide +kernel : ∀ t : Fin grid0.N, _)

/-- Window 13 is its array's block `t` at step `t`. -/
theorem idx13 : ∀ t : Fin cfg0.N, win0_13.index t = ![t.val,0] := (by decide +kernel : ∀ t : Fin grid0.N, _)

theorem blk0 (t : Fin cfg0.N) (a : Fin 3) : iblk m c 0 t (ix1 a) = V m c main_v9 (ix1 a) := by
  blk_simp [iblk]
  congr 1
  blk_ext [idx0 t]

theorem blk1 (t : Fin cfg0.N) (a : Fin 54) (b : Fin 8) (k : Fin 512) : iblk m c 1 t (ix3 a b k) = V m c main_v33 (ix3 ⟨54 * t.val + a.val, by have := lt t; omega⟩ b k) := by
  blk_simp [iblk]
  congr 1
  blk_ext [idx1 t]

theorem blk2 (t : Fin cfg0.N) (a : Fin 54) (b : Fin 8) (k : Fin 256) : iblk m c 2 t (ix3 a b k) = V m c main_v1 (ix3 ⟨54 * t.val + a.val, by have := lt t; omega⟩ b k) := by
  blk_simp [iblk]
  congr 1
  blk_ext [idx2 t]

theorem blk3 (t : Fin cfg0.N) (a : Fin 8) (b : Fin 512) : iblk m c 3 t (ix2 a b) = V m c main_v13 (ix2 a b) := by
  blk_simp [iblk]
  congr 1
  blk_ext [idx3 t]

theorem blk4 (t : Fin cfg0.N) (a : Fin 8) (b : Fin 256) : iblk m c 4 t (ix2 a b) = V m c main_v22 (ix2 a b) := by
  blk_simp [iblk]
  congr 1
  blk_ext [idx4 t]

theorem blk5 (t : Fin cfg0.N) (a : Fin 512) (b : Fin 256) : iblk m c 5 t (ix2 a b) = V m c main_v36 (ix2 a b) := by
  blk_simp [iblk]
  congr 1
  blk_ext [idx5 t]

theorem blk6 (t : Fin cfg0.N) (a : Fin 256) (b : Fin 1024) : iblk m c 6 t (ix2 a b) = V m c main_v39 (ix2 a b) := by
  blk_simp [iblk]
  congr 1
  blk_ext [idx6 t]

theorem blk7 (t : Fin cfg0.N) (a : Fin 8) (b : Fin 1024) : iblk m c 7 t (ix2 a b) = V m c main_v32 (ix2 a b) := by
  blk_simp [iblk]
  congr 1
  blk_ext [idx7 t]

theorem blk8 (t : Fin cfg0.N) (a : Fin 1024) (b : Fin 256) : iblk m c 8 t (ix2 a b) = V m c main_v42 (ix2 a b) := by
  blk_simp [iblk]
  congr 1
  blk_ext [idx8 t]

/-- What a grid step is handed, of the parameters and its tokens' rows. -/
theorem reads (t : Fin cfg0.N) : Reads (iblk m c 0 t) (iblk m c 1 t) (iblk m c 2 t) (iblk m c 3 t) (iblk m c 4 t) (iblk m c 5 t) (iblk m c 6 t)
    (iblk m c 7 t) (iblk m c 8 t) (prm m c) (fun r => Yk m c (at_ t r)) (fun r => Xk m c (at_ t r)) where
  sA2 := (blk0 m c t 0).trans (v9_0 m c)
  sH := (blk0 m c t 1).trans (v9_1 m c)
  zH := (blk0 m c t 2).trans (v9_2 m c)
  y r k := ((blk1 m c t _ _ k).trans (v33 m c _ _ k)).trans (by congr 2; dsimp only; omega)
  x r k := ((blk2 m c t _ _ k).trans (v1 m c _ _ k)).trans (by congr 2; dsimp only; omega)
  onG k := (blk3 m c t 0 k).trans (v13_0 m c k)
  onB k := (blk3 m c t 1 k).trans (v13_1 m c k)
  lnG k := (blk4 m c t 0 k).trans (v22_0 m c k)
  lnB k := (blk4 m c t 1 k).trans (v22_1 m c k)
  wOutS k := (blk4 m c t 2 k).trans (v22_2 m c k)
  w2S k := (blk4 m c t 3 k).trans (v22_3 m c k)
  b2 k := (blk4 m c t 4 k).trans (v22_4 m c k)
  wOut a b := (blk5 m c t a b).trans (v36 m c a b)
  w1 a b := (blk6 m c t a b).trans (v39 m c a b)
  w1S k := (blk7 m c t 0 k).trans (v32_0 m c k)
  b1 k := (blk7 m c t 1 k).trans (v32_1 m c k)
  w2 a b := (blk8 m c t a b).trans (v42 m c a b)

/-! ## What a grid step writes back -/

/-- Step `t` writes back the body's block of the block's output. -/
theorem flushed9 (t : Fin cfg0.N) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t)) := by
  show (cfg0.win 9).cut (grid0.coords t) ((dats m 0 c).after 9 t) = _
  rw [after0_9]
  simp only [outsAt0]

/-- Step `t` writes back the body's block of the first norm's codes. -/
theorem flushed10 (t : Fin cfg0.N) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t)) := by
  show (cfg0.win 10).cut (grid0.coords t) ((dats m 0 c).after 10 t) = _
  rw [after0_10]
  simp only [outsAt0]

/-- Step `t` writes back the body's block of their scales. -/
theorem flushed11 (t : Fin cfg0.N) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t)) := by
  show (cfg0.win 11).cut (grid0.coords t) ((dats m 0 c).after 11 t) = _
  rw [after0_11]
  simp only [outsAt0]

/-- Step `t` writes back the body's block of the second norm's codes. -/
theorem flushed12 (t : Fin cfg0.N) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t)) := by
  show (cfg0.win 12).cut (grid0.coords t) ((dats m 0 c).after 12 t) = _
  rw [after0_12]
  simp only [outsAt0]

/-- Step `t` writes back the body's block of the hidden codes. -/
theorem flushed13 (t : Fin cfg0.N) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t)) := by
  show (cfg0.win 13).cut (grid0.coords t) ((dats m 0 c).after 13 t) = _
  rw [after0_13]
  simp only [outsAt0]

/-! ## The results -/

variable (T : Tame (prm m c))

include T in
/-- Step `t`'s block of the block's output. -/
theorem step9 (t : Fin cfg0.N) (a : Fin 54) (b : Fin 8) (k : Fin 256) : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (ix3 a b k)
    = yArr (prm m c) (Yk m c) (Xk m c) (ix3 ⟨54 * t.val + a.val, by have := lt t; omega⟩ b k) := by
  refine (out9_at (reads m c t) T a b k).trans ?_
  have e : at_ t ⟨8 * a.val + b.val, by omega⟩ = tok ⟨54 * t.val + a.val, by have := lt t; omega⟩ b := Fin.ext (by dsimp only; omega)
  rw [e]; rfl

include T in
/-- The array of the block's output. -/
theorem final9 : (dats m 0 c).arrAt 9 cfg0.N = yArr (prm m c) (Yk m c) (Xk m c) := by
  refine (dats m 0 c).arrAt_eq_of_covers 9 _ (by decide +kernel) fun t hf y => ?_
  refine (cast_eq _ _).trans ((show _ = _ from congrFun (flushed9 m c t) y).trans ?_)
  refine (congrArg _ ?_).trans ((step9 m c T t (y 0) (y 1) (y 2)).trans (congrArg _ ?_))
  · funext a; fin_cases a <;> rfl
  · blk_ext [idx9 t]

/-- Step `t`'s block of the first norm's codes. -/
theorem step10 (t : Fin cfg0.N) (a : Fin 1728) (b : Fin 128) : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (ix2 a b)
    = onArr (prm m c) (Yk m c) (ix2 ⟨1728 * t.val + a.val, by have := lt t; omega⟩ b) := by
  refine (out10_at (reads m c t) a b).trans ?_
  have e1 : at_ t ⟨8 * (a.val / 32) + a.val % 8, by omega⟩ = tok4 ⟨1728 * t.val + a.val, by have := lt t; omega⟩ := Fin.ext (by dsimp only; omega)
  have e2 : (⟨a.val / 8 % 4 * 128 + b.val, by omega⟩ : Fin 512) = ch4 ⟨1728 * t.val + a.val, by have := lt t; omega⟩ b := Fin.ext (by dsimp only; omega)
  rw [e1, e2]; rfl

/-- The array of the first norm's codes. -/
theorem final10 : (dats m 0 c).arrAt 10 cfg0.N = onArr (prm m c) (Yk m c) := by
  refine (dats m 0 c).arrAt_eq_of_covers 10 _ (by decide +kernel) fun t hf y => ?_
  refine (cast_eq _ _).trans ((show _ = _ from congrFun (flushed10 m c t) y).trans ?_)
  refine (congrArg _ ?_).trans ((step10 m c t (y 0) (y 1)).trans (congrArg _ ?_))
  · funext a; fin_cases a <;> rfl
  · blk_ext [idx10 t]

/-- Step `t`'s block of their scales. -/
theorem step11 (t : Fin cfg0.N) (a : Fin 54) (b : Fin 8) (k : Fin 128) : out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (ix3 a b k)
    = scArr (prm m c) (Yk m c) (ix3 ⟨54 * t.val + a.val, by have := lt t; omega⟩ b k) := by
  refine (out11_at (reads m c t) a b k).trans ?_
  have e : at_ t ⟨8 * a.val + b.val, by omega⟩ = tok ⟨54 * t.val + a.val, by have := lt t; omega⟩ b := Fin.ext (by dsimp only; omega)
  rw [e]; rfl

/-- The array of their scales. -/
theorem final11 : (dats m 0 c).arrAt 11 cfg0.N = scArr (prm m c) (Yk m c) := by
  refine (dats m 0 c).arrAt_eq_of_covers 11 _ (by decide +kernel) fun t hf y => ?_
  refine (cast_eq _ _).trans ((show _ = _ from congrFun (flushed11 m c t) y).trans ?_)
  refine (congrArg _ ?_).trans ((step11 m c t (y 0) (y 1) (y 2)).trans (congrArg _ ?_))
  · funext a; fin_cases a <;> rfl
  · blk_ext [idx11 t]

include T in
/-- Step `t`'s block of the second norm's codes. -/
theorem step12 (t : Fin cfg0.N) (a : Fin 864) (b : Fin 128) : out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (ix2 a b)
    = a2Arr (prm m c) (Yk m c) (Xk m c) (ix2 ⟨864 * t.val + a.val, by have := lt t; omega⟩ b) := by
  refine (out12_at (reads m c t) T a b).trans ?_
  have e1 : at_ t ⟨8 * (a.val / 16) + a.val % 8, by omega⟩ = tok2 ⟨864 * t.val + a.val, by have := lt t; omega⟩ := Fin.ext (by dsimp only; omega)
  have e2 : (⟨a.val / 8 % 2 * 128 + b.val, by omega⟩ : Fin 256) = ch2 ⟨864 * t.val + a.val, by have := lt t; omega⟩ b := Fin.ext (by dsimp only; omega)
  rw [e1, e2]; rfl

include T in
/-- The array of the second norm's codes. -/
theorem final12 : (dats m 0 c).arrAt 12 cfg0.N = a2Arr (prm m c) (Yk m c) (Xk m c) := by
  refine (dats m 0 c).arrAt_eq_of_covers 12 _ (by decide +kernel) fun t hf y => ?_
  refine (cast_eq _ _).trans ((show _ = _ from congrFun (flushed12 m c t) y).trans ?_)
  refine (congrArg _ ?_).trans ((step12 m c T t (y 0) (y 1)).trans (congrArg _ ?_))
  · funext a; fin_cases a <;> rfl
  · blk_ext [idx12 t]

include T in
/-- Step `t`'s block of the hidden codes. -/
theorem step13 (t : Fin cfg0.N) (a : Fin 3456) (b : Fin 128) : out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (ix2 a b)
    = hqArr (prm m c) (Yk m c) (Xk m c) (ix2 ⟨3456 * t.val + a.val, by have := lt t; omega⟩ b) := by
  refine (out13_at (reads m c t) T a b).trans ?_
  have e1 : at_ t ⟨8 * (a.val / 64) + a.val % 8, by omega⟩ = tok8 ⟨3456 * t.val + a.val, by have := lt t; omega⟩ := Fin.ext (by dsimp only; omega)
  have e2 : (⟨a.val / 8 % 8 * 128 + b.val, by omega⟩ : Fin 1024) = ch8 ⟨3456 * t.val + a.val, by have := lt t; omega⟩ b := Fin.ext (by dsimp only; omega)
  rw [e1, e2]; rfl

include T in
/-- The array of the hidden codes. -/
theorem final13 : (dats m 0 c).arrAt 13 cfg0.N = hqArr (prm m c) (Yk m c) (Xk m c) := by
  refine (dats m 0 c).arrAt_eq_of_covers 13 _ (by decide +kernel) fun t hf y => ?_
  refine (cast_eq _ _).trans ((show _ = _ from congrFun (flushed13 m c t) y).trans ?_)
  refine (congrArg _ ?_).trans ((step13 m c T t (y 0) (y 1)).trans (congrArg _ ?_))
  · funext a; fin_cases a <;> rfl
  · blk_ext [idx13 t]

end Cert.Array

end
-- ==== Proof.Pre.lean ====
/-
  The precondition, read: it says of the parameters what `Tame` asks.
-/
module

public import proofs.«01_k».proof.Defs
public import proofs.«01_k».proof.Proof.Array
public import proofs.«01_k».proof.Proof.Gen.Pre_back_tame
public import proofs.«01_k».proof.Proof.Gen.BackIdeal
public import proofs.«01_k».proof.Proof.Gen.BackRefIdeal
public import proofs.«01_k».proof.Proof.Gen.Back

@[expose] public section

noncomputable section

namespace Cert.Pre

open Idealize.ShloMosaic Idealize.ShloMosaic.TcCoe Idealize.SL.Sem Cert.BackIdeal Cert.BackIdeal.Gen Cert.Row Cert.Arith Cert.Block Cert.Host

variable (m : (ℓ : Loc nD τ sig) → Buf (Elt Ideal) ℓ) (c : Dev nD)

/-- A value of magnitude below infinity is real. -/
theorem real_of_abs {x : EReal} (h : FloatOps.absf (F := Ideal) (φ := .f32) x < Ideal.ofBits .f32 2139095040#32) : ∃ a : ℝ, x = a := by
  rw [show FloatOps.absf (F := Ideal) (φ := .f32) x = max x (-x) from rfl,
    show Ideal.ofBits .f32 2139095040#32 = ⊤ from by simp [Ideal.ofBits, Ideal.ieee]] at h
  obtain ⟨h1, h2⟩ := max_lt_iff.1 h
  induction x using EReal.rec with
  | bot => exact absurd h2 (by simp)
  | coe a => exact ⟨a, rfl⟩
  | top => exact absurd h1 (by simp)

theorem and1 (a b : BitVec 1) : IntOp.andi a b = 1#1 ↔ a = 1#1 ∧ b = 1#1 := by revert a b; decide

theorem of1 (p : Prop) [Decidable p] : BitVec.ofBool (decide p) = 1#1 ↔ p := by by_cases p <;> simp [*]

theorem sge1 (a b : BitVec 32) : IntOp.cmpi .sge a b = 1#1 ↔ b.toInt ≤ a.toInt := by
  rw [show IntOp.cmpi .sge a b = BitVec.ofBool (b.sle a) from rfl, BitVec.sle_eq_decide, of1]

/-- The precondition gives the parameters' side conditions. -/
theorem tame (h : Cert.Pre_BackIdeal_back_tame m) : Tame (prm m c) := by
  have h1 : ∀ f : Fin 1024, Cert.Pre_back_tame.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix1 f) = 1#1 := fun f => congrFun (h c) (ix1 f)
  unfold Cert.Pre_back_tame.fn at h1
  pointwise at h1
  simp only [and1, of1, sge1] at h1
  have h0 := (h1 0).2
  exact {
    sA2 := real_of_abs h0.1.1.1
    sA2_ne := h0.1.1.2
    w1 := fun d f => ⟨_, rfl⟩
    w1S := fun f => real_of_abs (h1 f).1.1
    b1 := fun f => real_of_abs (h1 f).1.2
    sH := h0.1.2
    zH := h0.2 }

end Cert.Pre

end
-- ==== Proof.FrontPre.lean ====
/-
  The front half's precondition, read: it says of the parameters what `Tame` asks.
-/
module

public import proofs.«01_k».proof.Defs
public import proofs.«01_k».proof.Proof.FrontBlock
public import proofs.«01_k».proof.Proof.FrontHost
public import proofs.«01_k».proof.Proof.Pre
public import proofs.«01_k».proof.Proof.Gen.Pre_front_tame
public import proofs.«01_k».proof.Proof.Gen.FrontIdeal
public import proofs.«01_k».proof.Proof.Gen.FrontRefIdeal
public import proofs.«01_k».proof.Proof.Gen.Front

@[expose] public section

noncomputable section

namespace Cert.FrontPre

open Idealize.ShloMosaic Idealize.ShloMosaic.TcCoe Idealize.SL.Sem Cert.FrontIdeal Cert.FrontIdeal.Gen Cert.Row Cert.Arith Cert.FrontRow Cert.FrontBlock Cert.FrontHost Cert.Pre

variable (m : (ℓ : Loc nD τ sig) → Buf (Elt Ideal) ℓ) (c : Dev nD)

/-- The precondition gives the parameters' side conditions. -/
theorem tame (h : Cert.Pre_FrontIdeal_front_tame m) : Tame (prm m c) := by
  have h1 : ∀ f : Fin 512, Cert.Pre_front_tame.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix1 f) = 1#1 := fun f => congrFun (h c) (ix1 f)
  unfold Cert.Pre_front_tame.fn at h1
  pointwise at h1
  simp only [and1, of1] at h1
  exact { sA := (h1 0).2, sC := fun e => (h1 e).1 }

end Cert.FrontPre

end
-- ==== Proof.FrontEq.lean ====
/-
  The front half: the kernel's run gives the reference's two results.
-/
module

public import proofs.«01_k».proof.Defs
public import proofs.«01_k».proof.Proof.FrontTail
public import proofs.«01_k».proof.Proof.FrontRef
public import proofs.«01_k».proof.Proof.FrontPre
public import Idealize.ShloMosaic.Adequacy
public import Idealize.ShloMosaic.Init

@[expose] public section

noncomputable section

namespace Cert.FrontEq

open Idealize.ShloMosaic Idealize.ShloMosaic.TcCoe Idealize.SL.Sem

section
open Cert.FrontIdeal Cert.FrontIdeal.Gen

/-- The kernel's run: its two results are the functions of the arguments' rows, and the arguments end unchanged. -/
theorem kernel_run (m : (ℓ : Loc nD τ sig) → Buf (Elt Ideal) ℓ) (ρ : Dev nD → PrngReg) (T : ∀ c, Cert.FrontBlock.Tame (Cert.FrontHost.prm m c)) :
    θ_run defs (onTc (τ := τ) (main (F := Ideal))) ⟨m, fun _ => 0, ρ⟩ fun r => ∀ c : Dev nD,
      r.2.mem ((c : Thread nD τ).loc main_v62) = Cert.FrontRow.a1Res (Cert.FrontHost.prm m c) (Cert.FrontHost.Xk m c)
      ∧ r.2.mem ((c : Thread nD τ).loc main_v66) = Cert.FrontRow.cvRes (Cert.FrontHost.prm m c) (Cert.FrontHost.Xk m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨((h.1 c).2 main_v62 (Pipeline.mem_restRefs_of main_v62 (by decide) (by decide))).trans (Cert.FrontTail.tail_a1 m c (T c)),
    ((h.1 c).2 main_v66 (Pipeline.mem_restRefs_of main_v66 (by decide) (by decide))).trans (Cert.FrontTail.tail_cv m c (T c)), h.2 c⟩)
    (θ_run_and (run_main m ρ) (unchanged m ρ))

end

section
variable (m : (ℓ : Loc Cert.FrontIdeal.nD Cert.FrontIdeal.τ Cert.FrontIdeal.sig) → Buf (Elt Ideal) ℓ)
  (m' : (ℓ : Loc Cert.FrontRefIdeal.nD Cert.FrontRefIdeal.τ Cert.FrontRefIdeal.sig) → Buf (Elt Ideal) ℓ) (c : Dev Cert.FrontIdeal.nD)
  (h : m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
    ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
    ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
    ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
    ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
    ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
    ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
    ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)
    ∧ m' ((c.tc : Thread Cert.FrontRefIdeal.nD Cert.FrontRefIdeal.τ).loc Cert.FrontRefIdeal.main_arg8) = m ((c.tc : Thread Cert.FrontIdeal.nD Cert.FrontIdeal.τ).loc Cert.FrontIdeal.main_arg8)
    ∧ m' ((c.tc : Thread Cert.FrontRefIdeal.nD Cert.FrontRefIdeal.τ).loc Cert.FrontRefIdeal.main_arg9) = m ((c.tc : Thread Cert.FrontIdeal.nD Cert.FrontIdeal.τ).loc Cert.FrontIdeal.main_arg9)
    ∧ m' ((c.tc : Thread Cert.FrontRefIdeal.nD Cert.FrontRefIdeal.τ).loc Cert.FrontRefIdeal.main_arg10) = m ((c.tc : Thread Cert.FrontIdeal.nD Cert.FrontIdeal.τ).loc Cert.FrontIdeal.main_arg10)
    ∧ m' ((c.tc : Thread Cert.FrontRefIdeal.nD Cert.FrontRefIdeal.τ).loc Cert.FrontRefIdeal.main_arg11) = m ((c.tc : Thread Cert.FrontIdeal.nD Cert.FrontIdeal.τ).loc Cert.FrontIdeal.main_arg11)
    ∧ m' ((c.tc : Thread Cert.FrontRefIdeal.nD Cert.FrontRefIdeal.τ).loc Cert.FrontRefIdeal.main_arg12) = m ((c.tc : Thread Cert.FrontIdeal.nD Cert.FrontIdeal.τ).loc Cert.FrontIdeal.main_arg12)
    ∧ m' ((c.tc : Thread Cert.FrontRefIdeal.nD Cert.FrontRefIdeal.τ).loc Cert.FrontRefIdeal.main_arg13) = m ((c.tc : Thread Cert.FrontIdeal.nD Cert.FrontIdeal.τ).loc Cert.FrontIdeal.main_arg13)
    ∧ m' ((c.tc : Thread Cert.FrontRefIdeal.nD Cert.FrontRefIdeal.τ).loc Cert.FrontRefIdeal.main_arg14) = m ((c.tc : Thread Cert.FrontIdeal.nD Cert.FrontIdeal.τ).loc Cert.FrontIdeal.main_arg14)
    ∧ m' ((c.tc : Thread Cert.FrontRefIdeal.nD Cert.FrontRefIdeal.τ).loc Cert.FrontRefIdeal.main_arg15) = m ((c.tc : Thread Cert.FrontIdeal.nD Cert.FrontIdeal.τ).loc Cert.FrontIdeal.main_arg15))
include h

/-- Memories that agree on the arguments hold the same parameters, -/
theorem prm_eq : Cert.FrontRef.prm (StableHlo.launchContents m' c) = Cert.FrontHost.prm m c := by
  obtain ⟨h0, h1, h2, h3, h4, h5, h6, h7, h8, h9, h10, h11, h12, h13, h14, h15⟩ := h
  show Cert.FrontRow.fparams (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg2)) (m' ((c.tc : Thread Cert.FrontRefIdeal.nD Cert.FrontRefIdeal.τ).loc Cert.FrontRefIdeal.main_arg3)) (m' ((c.tc : Thread Cert.FrontRefIdeal.nD Cert.FrontRefIdeal.τ).loc Cert.FrontRefIdeal.main_arg4)) (m' ((c.tc : Thread Cert.FrontRefIdeal.nD Cert.FrontRefIdeal.τ).loc Cert.FrontRefIdeal.main_arg5)) (m' ((c.tc : Thread Cert.FrontRefIdeal.nD Cert.FrontRefIdeal.τ).loc Cert.FrontRefIdeal.main_arg6)) = _
  rw [h1, h2, h3, h4, h5, h6]
  rfl

/-- and the same rows of the input. -/
theorem xr_eq : Cert.FrontRef.xr (StableHlo.launchContents m' c) = Cert.FrontHost.Xk m c := by
  funext t
  show Cert.Row.xrow (m' ((c.tc : Thread Cert.FrontRefIdeal.nD Cert.FrontRefIdeal.τ).loc Cert.FrontRefIdeal.main_arg0)) t = _
  rw [h.1]
  rfl

end

/-- THE EQUATION: over the extended reals the kernel and the reference leave the same two results. -/
theorem algebraic : Cert.algebraic_FrontIdeal_FrontRefIdeal_pre_front_tame := by
  intro m g m' g' hpre hag
  have T := fun c => Cert.FrontPre.tame m c hpre
  refine ⟨fun c => Cert.FrontRow.a1Res (Cert.FrontHost.prm m c) (Cert.FrontHost.Xk m c), fun c => Cert.FrontRow.cvRes (Cert.FrontHost.prm m c) (Cert.FrontHost.Xk m c), kernel_run m g T, ?_⟩
  refine (θ_run _ _ _).mono (fun r h c => ?_) (Cert.FrontRef.run_eq m' g')
  have h := h c
  rw [prm_eq m m' c (hag c), xr_eq m m' c (hag c)] at h
  exact h

/-- The reference leaves its arguments unchanged. -/
theorem ref_frame : Cert.quiescent_FrontRefIdeal := fun m ρ _ =>
  (θ_run Cert.FrontRefIdeal.defs _ _).mono (fun r h => ⟨fun c => (h c).2.2, Idealize.ShloMosaic.sem_eq_zero_of_no_sems (by decide) r.2⟩)
    (Cert.FrontRefIdeal.Value.run (F := Ideal) m ρ)

end Cert.FrontEq

end
-- ==== Proof.Ref.lean ====
/-
  What the reference of the back half computes, token by token: each of its intermediate arrays at an index, as the plain
  row functions of `Row.lean`.
-/
module

public import proofs.«01_k».proof.Proof.Goal
public import proofs.«01_k».proof.Proof.Gen.BackRefIdeal.Run

@[expose] public section

set_option maxRecDepth 16384

noncomputable section

namespace Cert.Ref

open Idealize.ShloMosaic Idealize.ShloMosaic.StableHlo Cert.BackRefIdeal Cert.BackRefIdeal.Gen Cert.BackRefIdeal.Value
open Cert.Row Cert.Arith Cert.Goal

variable (V : Valuation τ sig (Elt Ideal))

/-- The parameters the reference is given. -/
abbrev prm : Params := params (V (Proc.devRef .tc main_arg2)) (V (Proc.devRef .tc main_arg3)) (V (Proc.devRef .tc main_arg4))
  (V (Proc.devRef .tc main_arg5)) (V (Proc.devRef .tc main_arg6)) (V (Proc.devRef .tc main_arg7)) (V (Proc.devRef .tc main_arg8))
  (V (Proc.devRef .tc main_arg9)) (V (Proc.devRef .tc main_arg10)) (V (Proc.devRef .tc main_arg11)) (V (Proc.devRef .tc main_arg12))
  (V (Proc.devRef .tc main_arg13)) (V (Proc.devRef .tc main_arg14)) (V (Proc.devRef .tc main_arg15)) (V (Proc.devRef .tc main_arg16))

/-- Token `t`'s row of the scan's output, -/
abbrev yr (t : Fin 24192) : Fin 512 → EReal := yrow (V (Proc.devRef .tc main_arg1)) t

/-- and of the block's input. -/
abbrev xr (t : Fin 24192) : Fin 256 → EReal := xrow (V (Proc.devRef .tc main_arg0)) t

variable (b : Fin 24) (h : Fin 28) (w : Fin 36)

/-- The scan's output, by image, row and column. -/
theorem v2 (k : Fin 512) : res_main_v2 V (ix4 b h w k) = yr V (pos b h w) k := by
  refine Eq.trans ?_ (yrow_pos _ b h w k).symm
  pointwise [res_main_v2]

/-- The first layer norm. -/
theorem v24 (k : Fin 512) : res_main_v24 V (ix4 b h w k) = onv (prm V) (yr V (pos b h w)) k := by
  pointwise [res_main_v24, res_main_v8]
  simp only [v2]
  simp only [onv, ln, prm, params, eps]

/-- Its largest magnitude, -/
theorem v26 : res_main_v26 V (ix3 b h w) = absmax (onv (prm V) (yr V (pos b h w))) := by
  have e : ∀ k, onv (prm V) (yr V (pos b h w)) k = res_main_v24 V (ix4 b h w k) := fun k => (v24 V b h w k).symm
  unfold absmax
  simp only [e]
  pointwise [res_main_v26]
  have h' := fun (o : EReal) (u : S24x28x36x512.Idx → EReal) => Shape.ReducesTo.fold_fiber_r4_a3 reducesTo_S24x28x36x512_S24x28x36_d3 (ix3 b h w) (max : EReal → EReal → EReal) o u
  exact h' _ (fun x => FloatOps.absf (F := Ideal) (φ := .f32) (res_main_v24 V x))

/-- A quotient by 127, with 1 where the dividend is 0, at an index: -/
theorem scale_at (q : FVec Ideal S24x28x36 .f32) :
    select (cmpf .oeq q (broadcastInDim S24x28x36 ![] bcast_S_S24x28x36 (constant S_ .f32 0x00000000#32))) (broadcastInDim S24x28x36 ![] bcast_S_S24x28x36 (id (constant S_ .f32 0x3F800000#32))) (Host.divf q (broadcastInDim S24x28x36 ![] bcast_S_S24x28x36 (constant S_ .f32 0x42FE0000#32))) (ix3 b h w)
      = if (q (ix3 b h w) : EReal) = 0 then 1 else Ideal.div (q (ix3 b h w)) (Ideal.ofBits .f32 0x42FE0000#32) := by
  pointwise
  simp only [id, constant_apply, Ideal.ofBits_def, Ideal.ofBits_one_f32]

/-- and the scale. -/
theorem v31 : res_main_v31 V (ix3 b h w) = scale (onv (prm V) (yr V (pos b h w))) := by
  unfold res_main_v31 scale
  rw [← v26]
  exact scale_at b h w _

/-- Rounded quotients, clipped to 127 and taken to 8 bits, at an index, with a divisor for each token -/
theorem codes_at (v : FVec Ideal S24x28x36x512 .f32) (s : FVec Ideal S24x28x36 .f32) (k : Fin 512) :
    trunci 8 (fptosi 32 (minimumf (broadcastInDim S24x28x36x512 ![] bcast_S_S24x28x36x512 (id (constant S_ .f32 0x42FE0000#32))) (maximumf (broadcastInDim S24x28x36x512 ![] bcast_S_S24x28x36x512 (id (constant S_ .f32 0xC2FE0000#32))) (Host.roundeven (Host.divf v (broadcastInDim S24x28x36x512 ![0, 1, 2, 3] bcast_S24x28x36x1_S24x28x36x512_0_1_2_3 (broadcastInDim S24x28x36x1 ![0, 1, 2] bcast_S24x28x36_S24x28x36x1_0_1_2 s))))))) natLt_8_32 (ix4 b h w k)
      = code8 (Ideal.div (v (ix4 b h w k)) (s (ix3 b h w))) := by
  unfold code8
  pointwise
  simp only [id, constant_apply, Ideal.ofBits_def, fptosi_op, rnd]

/-- and with one divisor. -/
theorem codes1_at (v : FVec Ideal S24x28x36x256 .f32) (s : FVec Ideal S_ .f32) (k : Fin 256) :
    trunci 8 (fptosi 32 (minimumf (broadcastInDim S24x28x36x256 ![] bcast_S_S24x28x36x256 (id (constant S_ .f32 0x42FE0000#32))) (maximumf (broadcastInDim S24x28x36x256 ![] bcast_S_S24x28x36x256 (id (constant S_ .f32 0xC2FE0000#32))) (Host.roundeven (Host.divf v (broadcastInDim S24x28x36x256 ![] bcast_S_S24x28x36x256 s)))))) natLt_8_32 (ix4 b h w k)
      = code8 (Ideal.div (v (ix4 b h w k)) (s ix0)) := by
  unfold code8
  pointwise
  simp only [id, constant_apply, Ideal.ofBits_def, fptosi_op, rnd]

/-- The codes of the first norm. -/
def onA : IVec S24x28x36x512 8 :=
  trunci 8 (fptosi 32 (minimumf (broadcastInDim S24x28x36x512 ![] bcast_S_S24x28x36x512 (id (constant S_ .f32 0x42FE0000#32))) (maximumf (broadcastInDim S24x28x36x512 ![] bcast_S_S24x28x36x512 (id (constant S_ .f32 0xC2FE0000#32))) (Host.roundeven (Host.divf (res_main_v24 V) (broadcastInDim S24x28x36x512 ![0, 1, 2, 3] bcast_S24x28x36x1_S24x28x36x512_0_1_2_3 (broadcastInDim S24x28x36x1 ![0, 1, 2] bcast_S24x28x36_S24x28x36x1_0_1_2 (res_main_v31 V)))))))) natLt_8_32

theorem onA_at (k : Fin 512) :
    onA V (ix4 b h w k) = code8 (Ideal.div (onv (prm V) (yr V (pos b h w)) k) (scale (onv (prm V) (yr V (pos b h w))))) := by
  rw [← v24, ← v31]
  exact codes_at b h w _ _ k

/-- A matrix product of codes, scaled by row and by column, on top of a residual, at an index: -/
theorem resid_at (a : FVec Ideal S24x28x36x256 .bf16) (q : IVec S24x28x36x512 8) (w_ : IVec S512x256 8)
    (s : FVec Ideal S24x28x36 .f32) (ws : FVec Ideal S256 .f32) (d : Fin 256) :
    addf (extf .f32 a bitsLt_bf16_f32) (mulf (mulf (Host.dotGeneral dot_S24x28x36x512_S512x256_S24x28x36x256_3_0_012_1_n_n none (truncf .bf16 (sitofp .f32 (extsi 32 q natLt_8_32)) bitsLt_bf16_f32) (truncf .bf16 (sitofp .f32 (extsi 32 w_ natLt_8_32)) bitsLt_bf16_f32)) (broadcastInDim S24x28x36x256 ![0, 1, 2, 3] bcast_S24x28x36x1_S24x28x36x256_0_1_2_3 (broadcastInDim S24x28x36x1 ![0, 1, 2] bcast_S24x28x36_S24x28x36x1_0_1_2 s))) (broadcastInDim S24x28x36x256 ![0, 1, 2, 3] bcast_S1x1x1x256_S24x28x36x256_0_1_2_3 (broadcastInDim S1x1x1x256 ![3] bcast_S256_S1x1x1x256_3 ws))) (ix4 b h w d)
      = (a (ix4 b h w d) + (∑ e, num ((q (ix4 b h w e)).signExtend 32) * num ((w_ (ix2 e d)).signExtend 32)) * (s (ix3 b h w) : EReal) * ws (ix1 d) : EReal) := by
  pointwise
  simp only [sitofp_op, num]

/-- the residual, -/
theorem v52 (d : Fin 256) : res_main_v52 V (ix4 b h w d) = x1 (prm V) (yr V (pos b h w)) (xr V (pos b h w)) d := by
  unfold res_main_v52
  refine (resid_at b h w _ (onA V) _ _ _ d).trans ?_
  simp only [onA_at, v31, code8_signExtend]
  unfold x1
  simp only [on, xr, xrow_pos]
  simp only [prm, params, num]

/-- the second norm, as the reference writes it, -/
def ln2A : FVec Ideal S24x28x36x256 .f32 :=
  addf (mulf (Host.divf (res_main_v58 V) (broadcastInDim S24x28x36x256 ![0, 1, 2, 3] bcast_S24x28x36x1_S24x28x36x256_0_1_2_3 (Host.sqrt (addf (Host.divf (broadcastInDim S24x28x36x1 ![0, 1, 2] bcast_S24x28x36_S24x28x36x1_0_1_2 (Host.reduceAdd (mulf (res_main_v58 V) (res_main_v58 V)) (constant S_ .f32 0x00000000#32) reducesTo_S24x28x36x256_S24x28x36_d3 h_S_)) (broadcastInDim S24x28x36x1 ![] bcast_S_S24x28x36x1 (constant S_ .f32 0x43800000#32))) (broadcastInDim S24x28x36x1 ![] bcast_S_S24x28x36x1 (constant S_ .f32 0x3727C5AC#32)))))) (broadcastInDim S24x28x36x256 ![0, 1, 2, 3] bcast_S1x1x1x256_S24x28x36x256_0_1_2_3 (broadcastInDim S1x1x1x256 ![3] bcast_S256_S1x1x1x256_3 (V (Proc.devRef .tc main_arg6))))) (broadcastInDim S24x28x36x256 ![0, 1, 2, 3] bcast_S1x1x1x256_S24x28x36x256_0_1_2_3 (broadcastInDim S1x1x1x256 ![3] bcast_S256_S1x1x1x256_3 (V (Proc.devRef .tc main_arg7))))

theorem ln2A_at (d : Fin 256) : ln2A V (ix4 b h w d) = a2v (prm V) (yr V (pos b h w)) (xr V (pos b h w)) d := by
  pointwise [ln2A, res_main_v58]
  simp only [v52]
  simp only [a2v, ln, prm, params, eps]

/-- its codes, -/
def a2A : IVec S24x28x36x256 8 :=
  trunci 8 (fptosi 32 (minimumf (broadcastInDim S24x28x36x256 ![] bcast_S_S24x28x36x256 (id (constant S_ .f32 0x42FE0000#32))) (maximumf (broadcastInDim S24x28x36x256 ![] bcast_S_S24x28x36x256 (id (constant S_ .f32 0xC2FE0000#32))) (Host.roundeven (Host.divf (ln2A V) (broadcastInDim S24x28x36x256 ![] bcast_S_S24x28x36x256 (V (Proc.devRef .tc main_arg8)))))))) natLt_8_32

theorem a2A_at (d : Fin 256) :
    a2A V (ix4 b h w d) = code8 (Ideal.div (a2v (prm V) (yr V (pos b h w)) (xr V (pos b h w)) d) (prm V).sA2) := by
  refine (codes1_at b h w _ _ d).trans ?_
  rw [ln2A_at]
  rfl

/-- A matrix product of codes, scaled, with a bias, at an index: -/
theorem pre_at (q : IVec S24x28x36x256 8) (w_ : IVec S256x1024 8) (s : FVec Ideal S_ .f32) (ws b_ : FVec Ideal S1024 .f32) (f : Fin 1024) :
    addf (mulf (mulf (Host.dotGeneral dot_S24x28x36x256_S256x1024_S24x28x36x1024_3_0_012_1_n_n none (truncf .bf16 (sitofp .f32 (extsi 32 q natLt_8_32)) bitsLt_bf16_f32) (truncf .bf16 (sitofp .f32 (extsi 32 w_ natLt_8_32)) bitsLt_bf16_f32)) (broadcastInDim S24x28x36x1024 ![] bcast_S_S24x28x36x1024 s)) (broadcastInDim S24x28x36x1024 ![0, 1, 2, 3] bcast_S1x1x1x1024_S24x28x36x1024_0_1_2_3 (broadcastInDim S1x1x1x1024 ![3] bcast_S1024_S1x1x1x1024_3 ws))) (broadcastInDim S24x28x36x1024 ![0, 1, 2, 3] bcast_S1x1x1x1024_S24x28x36x1024_0_1_2_3 (broadcastInDim S1x1x1x1024 ![3] bcast_S1024_S1x1x1x1024_3 b_)) (ix4 b h w f)
      = ((∑ d, num ((q (ix4 b h w d)).signExtend 32) * num ((w_ (ix2 d f)).signExtend 32)) * (s ix0 : EReal) * ws (ix1 f) + b_ (ix1 f) : EReal) := by
  pointwise
  simp only [sitofp_op, num]

/-- the argument of the GELU, -/
theorem v95 (f : Fin 1024) : res_main_v95 V (ix4 b h w f) = pre (prm V) (yr V (pos b h w)) (xr V (pos b h w)) f := by
  refine (pre_at b h w (a2A V) (V (Proc.devRef .tc main_arg9)) (V (Proc.devRef .tc main_arg8)) (V (Proc.devRef .tc main_arg10)) (V (Proc.devRef .tc main_arg11)) f).trans ?_
  simp only [a2A_at, code8_signExtend]
  simp only [pre, acc1, a2]
  simp only [prm, params, num]

/-- GELU values over their scale, rounded, moved by the zero point, clipped and taken to 8 bits, at an index: -/
theorem hcodes_at (x : FVec Ideal S24x28x36x1024 .f32) (sh : FVec Ideal S_ .f32) (z : IVec S_ 32) (f : Fin 1024) :
    trunci 8 (fptosi 32 (minimumf (broadcastInDim S24x28x36x1024 ![] bcast_S_S24x28x36x1024 (id (constant S_ .f32 0x437F0000#32))) (maximumf (broadcastInDim S24x28x36x1024 ![] bcast_S_S24x28x36x1024 (id (constant S_ .f32 0x00000000#32))) (addf (Host.roundeven (Host.divf (mulf (mulf (broadcastInDim S24x28x36x1024 ![] bcast_S_S24x28x36x1024 (constant S_ .f32 0x3F000000#32)) x) (Host.erfc (mulf (Host.negf x) (broadcastInDim S24x28x36x1024 ![] bcast_S_S24x28x36x1024 (constant S_ .f32 0x3F3504F3#32))))) (broadcastInDim S24x28x36x1024 ![] bcast_S_S24x28x36x1024 sh))) (broadcastInDim S24x28x36x1024 ![] bcast_S_S24x28x36x1024 (sitofp .f32 z)))))) natLt_8_32 (ix4 b h w f)
      = zcode8 (z ix0) (Ideal.div (Ideal.ofBits .f32 0x3F000000#32 * x (ix4 b h w f) * Ideal.erfc (-x (ix4 b h w f) * root)) (sh ix0)) := by
  unfold zcode8
  pointwise
  simp only [id, constant_apply, Ideal.ofBits_def, Ideal.ofBits_zero_f32, fptosi_op, sitofp_op, rnd, root]

/-- and the hidden codes. -/
def hqA : IVec S24x28x36x1024 8 :=
  trunci 8 (fptosi 32 (minimumf (broadcastInDim S24x28x36x1024 ![] bcast_S_S24x28x36x1024 (id (constant S_ .f32 0x437F0000#32))) (maximumf (broadcastInDim S24x28x36x1024 ![] bcast_S_S24x28x36x1024 (id (constant S_ .f32 0x00000000#32))) (addf (Host.roundeven (Host.divf (mulf (mulf (broadcastInDim S24x28x36x1024 ![] bcast_S_S24x28x36x1024 (constant S_ .f32 0x3F000000#32)) (res_main_v95 V)) (Host.erfc (mulf (Host.negf (res_main_v95 V)) (broadcastInDim S24x28x36x1024 ![] bcast_S_S24x28x36x1024 (constant S_ .f32 0x3F3504F3#32))))) (broadcastInDim S24x28x36x1024 ![] bcast_S_S24x28x36x1024 (V (Proc.devRef .tc main_arg12))))) (broadcastInDim S24x28x36x1024 ![] bcast_S_S24x28x36x1024 (sitofp .f32 (V (Proc.devRef .tc main_arg13)))))))) natLt_8_32

theorem hqA_at (f : Fin 1024) :
    hqA V (ix4 b h w f) = zcode8 (prm V).zH (hv (prm V) (yr V (pos b h w)) (xr V (pos b h w)) f) := by
  refine (hcodes_at b h w _ _ _ f).trans ?_
  rw [v95]
  simp only [hv]
  rfl

end Cert.Ref

end
-- ==== Proof.RefRun.lean ====
/-
  The five arrays the reference of the back half returns, at an index.
-/
module

public import proofs.«01_k».proof.Proof.Ref
public import proofs.«01_k».proof.Proof.Goal

@[expose] public section

set_option maxRecDepth 16384

noncomputable section

namespace Cert.Ref

open Idealize.ShloMosaic Idealize.ShloMosaic.StableHlo Cert.BackRefIdeal Cert.BackRefIdeal.Gen Cert.BackRefIdeal.Value
open Cert.Row Cert.Arith Cert.Goal

variable (V : Valuation τ sig (Elt Ideal))

variable (b : Fin 24) (h : Fin 28) (w : Fin 36)

/-- The second layer's product, scaled, with its bias, on top of the residual, at an index. -/
theorem y_at (x : FVec Ideal S24x28x36x256 .f32) (hq : IVec S24x28x36x1024 8) (z : IVec S_ 32) (w_ : IVec S1024x256 8)
    (sh : FVec Ideal S_ .f32) (ws b_ : FVec Ideal S256 .f32) (d : Fin 256) :
    truncf .bf16 (addf x (addf (mulf (mulf (Host.dotGeneral dot_S24x28x36x1024_S1024x256_S24x28x36x256_3_0_012_1_n_n none (truncf .bf16 (sitofp .f32 (subi (extui 32 hq natLt_8_32) (broadcastInDim S24x28x36x1024 ![] bcast_S_S24x28x36x1024 z))) bitsLt_bf16_f32) (truncf .bf16 (sitofp .f32 (extsi 32 w_ natLt_8_32)) bitsLt_bf16_f32)) (broadcastInDim S24x28x36x256 ![] bcast_S_S24x28x36x256 sh)) (broadcastInDim S24x28x36x256 ![0, 1, 2, 3] bcast_S1x1x1x256_S24x28x36x256_0_1_2_3 (broadcastInDim S1x1x1x256 ![3] bcast_S256_S1x1x1x256_3 ws))) (broadcastInDim S24x28x36x256 ![0, 1, 2, 3] bcast_S1x1x1x256_S24x28x36x256_0_1_2_3 (broadcastInDim S1x1x1x256 ![3] bcast_S256_S1x1x1x256_3 b_)))) bitsLt_bf16_f32 (ix4 b h w d)
      = (x (ix4 b h w d) + ((∑ f, num ((hq (ix4 b h w f)).setWidth 32 - z ix0) * num ((w_ (ix2 f d)).signExtend 32)) * (sh ix0 : EReal) * ws (ix1 d) + b_ (ix1 d)) : EReal) := by
  pointwise
  simp only [sitofp_op, num, IntOp.subi]

/-- … which is the block's output. -/
theorem y_eq (hz : -2147483392 ≤ (prm V).zH.toInt) (d : Fin 256) (x : EReal)
    (hx : x = x1 (prm V) (yr V (pos b h w)) (xr V (pos b h w)) d) :
    (x
        + ((∑ f, num ((hqA V (ix4 b h w f)).setWidth 32 - (V (Proc.devRef .tc main_arg13) : S_.Idx → BitVec 32) ix0)
              * num (((V (Proc.devRef .tc main_arg14) : S1024x256.Idx → BitVec 8) (ix2 f d)).signExtend 32))
            * ((V (Proc.devRef .tc main_arg12) : S_.Idx → EReal) ix0) * (V (Proc.devRef .tc main_arg15) : S256.Idx → EReal) (ix1 d)
          + (V (Proc.devRef .tc main_arg16) : S256.Idx → EReal) (ix1 d)) : EReal)
      = out (prm V) (yr V (pos b h w)) (xr V (pos b h w)) d := by
  subst hx
  have e : ∀ f, (hqA V (ix4 b h w f)).setWidth 32 - (V (Proc.devRef .tc main_arg13) : S_.Idx → BitVec 32) ix0
      = hc (prm V) (yr V (pos b h w)) (xr V (pos b h w)) f := fun f => by
    rw [hqA_at, hc]
    exact (zcode8_eq _ _ hz).2
  simp only [e, out, acc2]
  simp only [prm, params]

/-- The run of the reference: the five results, as functions of the arguments' rows, and the arguments unchanged. -/
theorem run_eq (m : (ℓ : Loc nD τ sig) → Buf (Elt Ideal) ℓ) (ρ : Dev nD → PrngReg)
    (hz : ∀ c : Dev nD, -2147483392 ≤ (prm (launchContents m c)).zH.toInt) :
    θ_run defs (onTc (τ := τ) (main (F := Ideal))) ⟨m, fun _ => 0, ρ⟩ fun r => ∀ c : Dev nD,
      r.2.mem ((c.tc : Thread nD τ).loc main_v130) = yRes (prm (launchContents m c)) (yr (launchContents m c)) (xr (launchContents m c))
      ∧ r.2.mem ((c.tc : Thread nD τ).loc main_v38) = onRes (prm (launchContents m c)) (yr (launchContents m c))
      ∧ r.2.mem ((c.tc : Thread nD τ).loc main_v31) = scRes (prm (launchContents m c)) (yr (launchContents m c))
      ∧ r.2.mem ((c.tc : Thread nD τ).loc main_v80) = a2Res (prm (launchContents m c)) (yr (launchContents m c)) (xr (launchContents m c))
      ∧ r.2.mem ((c.tc : Thread nD τ).loc main_v111) = hqRes (prm (launchContents m c)) (yr (launchContents m c)) (xr (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨(h c).1.trans (funext fun i => by
      rw [eq_ix4 i]
      refine (y_at _ _ _ _ (hqA (launchContents m c)) _ _ _ _ _ _).trans ?_
      exact y_eq _ _ _ _ (hz c) _ _ (v52 _ _ _ _ _)),
    (h c).2.1.trans (funext fun i => by rw [eq_ix4 i]; exact onA_at _ _ _ _ _),
    (h c).2.2.1.trans (funext fun i => by rw [eq_ix3 i]; exact v31 _ _ _ _),
    (h c).2.2.2.1.trans (funext fun i => by rw [eq_ix4 i]; exact a2A_at _ _ _ _ _),
    (h c).2.2.2.2.1.trans (funext fun i => by rw [eq_ix4 i]; exact hqA_at _ _ _ _ _),
    (h c).2.2.2.2.2⟩) (Value.run (F := Ideal) m ρ)

end Cert.Ref

end
-- ==== Proof.Tail.lean ====
/-
  The host code after the kernel: the codes leave their tiles, the scales lose their 128 copies, and the tokens come back
  to image, row and column. With it, the block's five results.
-/
module

public import proofs.«01_k».proof.Proof.Array

@[expose] public section

set_option maxRecDepth 16384

noncomputable section

namespace Cert.Tail

open Idealize.ShloMosaic Idealize.ShloMosaic.TcCoe Idealize.ShloMosaic.StableHlo Idealize.SL.Sem Cert.BackIdeal Cert.BackIdeal.Gen Cert.Row Cert.Arith Cert.Host Cert.Goal Cert.Array

/-! ## The layout, at an index -/

variable (b : Fin 24) (h : Fin 28) (w : Fin 36)

/-- The block's output: only the tokens move. -/
theorem y_lay (q : FVec Ideal S3024x8x256 .bf16) (k : Fin 256) :
    transpose S24x28x36x256 [2, 0, 1, 3] (shapeCast S28x36x24x256 q shapeCasts_S3024x8x256_S28x36x24x256) transposes_S28x36x24x256_S24x28x36x256_2_0_1_3 (ix4 b h w k)
      = q (ix3 ⟨(pos b h w).val / 8, by omega⟩ ⟨(pos b h w).val % 8, by omega⟩ k) := by
  pointwise
  all_goals (congr 2 <;> exact Fin.ext (by dsimp only; omega))

/-- The scales: column 0 of the 128. -/
theorem sc_lay (q : FVec Ideal S3024x8x128 .f32) :
    transpose S24x28x36 [2, 0, 1] (shapeCast S28x36x24 (shapeCast S3024x8 (extractStridedSlice S3024x8x1 ![0, 0, 0] q slices_S3024x8x128_S3024x8x1_0_0_0)
        shapeCasts_S3024x8x1_S3024x8) shapeCasts_S3024x8_S28x36x24) transposes_S28x36x24_S24x28x36_2_0_1 (ix3 b h w)
      = q (ix3 ⟨(pos b h w).val / 8, by omega⟩ ⟨(pos b h w).val % 8, by omega⟩ 0) := by
  pointwise
  all_goals (congr 2 <;> exact Fin.ext (by dsimp only; omega))

/-- Codes with 4 tiles of 128 channels: channel `k` of a token is in its group's tile `k / 128`, -/
theorem on_lay (q : IVec S96768x128 8) (k : Fin 512) :
    transpose S24x28x36x512 [2, 0, 1, 3] (shapeCast S28x36x24x512 (transpose S3024x8x4x128 [0, 2, 1, 3] (shapeCast S3024x4x8x128 q
        shapeCasts_S96768x128_S3024x4x8x128) transposes_S3024x4x8x128_S3024x8x4x128_0_2_1_3) shapeCasts_S3024x8x4x128_S28x36x24x512)
        transposes_S28x36x24x512_S24x28x36x512_2_0_1_3 (ix4 b h w k)
      = q (ix2 ⟨(pos b h w).val / 8 * 32 + k.val / 128 * 8 + (pos b h w).val % 8, by omega⟩ ⟨k.val % 128, by omega⟩) := by
  pointwise
  all_goals (congr 2 <;> exact Fin.ext (by dsimp only; omega))

/-- with 2 tiles, -/
theorem a2_lay (q : IVec S48384x128 8) (k : Fin 256) :
    transpose S24x28x36x256 [2, 0, 1, 3] (shapeCast S28x36x24x256 (transpose S3024x8x2x128 [0, 2, 1, 3] (shapeCast S3024x2x8x128 q
        shapeCasts_S48384x128_S3024x2x8x128) transposes_S3024x2x8x128_S3024x8x2x128_0_2_1_3) shapeCasts_S3024x8x2x128_S28x36x24x256)
        transposes_S28x36x24x256_S24x28x36x256_2_0_1_3 (ix4 b h w k)
      = q (ix2 ⟨(pos b h w).val / 8 * 16 + k.val / 128 * 8 + (pos b h w).val % 8, by omega⟩ ⟨k.val % 128, by omega⟩) := by
  pointwise
  all_goals (congr 2 <;> exact Fin.ext (by dsimp only; omega))

/-- and with 8. -/
theorem hq_lay (q : IVec S193536x128 8) (k : Fin 1024) :
    transpose S24x28x36x1024 [2, 0, 1, 3] (shapeCast S28x36x24x1024 (transpose S3024x8x8x128 [0, 2, 1, 3] (shapeCast S3024x8x8x128 q
        shapeCasts_S193536x128_S3024x8x8x128) transposes_S3024x8x8x128_S3024x8x8x128_0_2_1_3) shapeCasts_S3024x8x8x128_S28x36x24x1024)
        transposes_S28x36x24x1024_S24x28x36x1024_2_0_1_3 (ix4 b h w k)
      = q (ix2 ⟨(pos b h w).val / 8 * 64 + k.val / 128 * 8 + (pos b h w).val % 8, by omega⟩ ⟨k.val % 128, by omega⟩) := by
  pointwise
  all_goals (congr 2 <;> exact Fin.ext (by dsimp only; omega))

/-! ## The kernel's arrays, laid out -/

variable (p : Params) (Y : Fin 24192 → Fin 512 → EReal) (X : Fin 24192 → Fin 256 → EReal)

theorem y_res : transpose S24x28x36x256 [2, 0, 1, 3] (shapeCast S28x36x24x256 (yArr p Y X : FVec Ideal S3024x8x256 .bf16) shapeCasts_S3024x8x256_S28x36x24x256)
    transposes_S28x36x24x256_S24x28x36x256_2_0_1_3 = yRes p Y X := by
  funext i
  rw [eq_ix4 i]
  refine (y_lay _ _ _ _ _).trans ?_
  have e : tok ⟨(pos (i 0) (i 1) (i 2)).val / 8, by omega⟩ ⟨(pos (i 0) (i 1) (i 2)).val % 8, by omega⟩ = pos (i 0) (i 1) (i 2) := Fin.ext (by dsimp only; omega)
  exact congrArg (fun t => out p (Y t) (X t) (i 3)) e

theorem sc_res : transpose S24x28x36 [2, 0, 1] (shapeCast S28x36x24 (shapeCast S3024x8 (extractStridedSlice S3024x8x1 ![0, 0, 0] (scArr p Y : FVec Ideal S3024x8x128 .f32)
        slices_S3024x8x128_S3024x8x1_0_0_0) shapeCasts_S3024x8x1_S3024x8) shapeCasts_S3024x8_S28x36x24) transposes_S28x36x24_S24x28x36_2_0_1 = scRes p Y := by
  funext i
  rw [eq_ix3 i]
  refine (sc_lay _ _ _ _).trans ?_
  have e : tok ⟨(pos (i 0) (i 1) (i 2)).val / 8, by omega⟩ ⟨(pos (i 0) (i 1) (i 2)).val % 8, by omega⟩ = pos (i 0) (i 1) (i 2) := Fin.ext (by dsimp only; omega)
  exact congrArg (fun t => sc p Y t) e

theorem on_res : transpose S24x28x36x512 [2, 0, 1, 3] (shapeCast S28x36x24x512 (transpose S3024x8x4x128 [0, 2, 1, 3] (shapeCast S3024x4x8x128 (onArr p Y : IVec S96768x128 8)
        shapeCasts_S96768x128_S3024x4x8x128) transposes_S3024x4x8x128_S3024x8x4x128_0_2_1_3) shapeCasts_S3024x8x4x128_S28x36x24x512)
        transposes_S28x36x24x512_S24x28x36x512_2_0_1_3 = onRes p Y := by
  funext i
  rw [eq_ix4 i]
  refine (on_lay _ _ _ _ _).trans ?_
  have l : (pos (i 0) (i 1) (i 2)).val / 8 * 32 + (i 3).val / 128 * 8 + (pos (i 0) (i 1) (i 2)).val % 8 < 96768 := by
    have : (i 3).val < 512 := (i 3).isLt
    omega
  have e1 : tok4 ⟨(pos (i 0) (i 1) (i 2)).val / 8 * 32 + (i 3).val / 128 * 8 + (pos (i 0) (i 1) (i 2)).val % 8, l⟩ = pos (i 0) (i 1) (i 2) := Fin.ext (by
    have : (i 3).val < 512 := (i 3).isLt
    dsimp only; omega)
  have e2 : ch4 ⟨(pos (i 0) (i 1) (i 2)).val / 8 * 32 + (i 3).val / 128 * 8 + (pos (i 0) (i 1) (i 2)).val % 8, l⟩ ⟨(i 3).val % 128, Nat.mod_lt _ (by decide)⟩ = i 3 := Fin.ext (by
    have : (i 3).val < 512 := (i 3).isLt
    dsimp only; omega)
  exact congrArg₂ (fun t k => onC p Y t k) e1 e2

theorem a2_res : transpose S24x28x36x256 [2, 0, 1, 3] (shapeCast S28x36x24x256 (transpose S3024x8x2x128 [0, 2, 1, 3] (shapeCast S3024x2x8x128 (a2Arr p Y X : IVec S48384x128 8)
        shapeCasts_S48384x128_S3024x2x8x128) transposes_S3024x2x8x128_S3024x8x2x128_0_2_1_3) shapeCasts_S3024x8x2x128_S28x36x24x256)
        transposes_S28x36x24x256_S24x28x36x256_2_0_1_3 = a2Res p Y X := by
  funext i
  rw [eq_ix4 i]
  refine (a2_lay _ _ _ _ _).trans ?_
  have l : (pos (i 0) (i 1) (i 2)).val / 8 * 16 + (i 3).val / 128 * 8 + (pos (i 0) (i 1) (i 2)).val % 8 < 48384 := by
    have : (i 3).val < 256 := (i 3).isLt
    omega
  have e1 : tok2 ⟨(pos (i 0) (i 1) (i 2)).val / 8 * 16 + (i 3).val / 128 * 8 + (pos (i 0) (i 1) (i 2)).val % 8, l⟩ = pos (i 0) (i 1) (i 2) := Fin.ext (by
    have : (i 3).val < 256 := (i 3).isLt
    dsimp only; omega)
  have e2 : ch2 ⟨(pos (i 0) (i 1) (i 2)).val / 8 * 16 + (i 3).val / 128 * 8 + (pos (i 0) (i 1) (i 2)).val % 8, l⟩ ⟨(i 3).val % 128, Nat.mod_lt _ (by decide)⟩ = i 3 := Fin.ext (by
    have : (i 3).val < 256 := (i 3).isLt
    dsimp only; omega)
  exact congrArg₂ (fun t k => a2C p Y X t k) e1 e2

theorem hq_res : transpose S24x28x36x1024 [2, 0, 1, 3] (shapeCast S28x36x24x1024 (transpose S3024x8x8x128 [0, 2, 1, 3] (shapeCast S3024x8x8x128 (hqArr p Y X : IVec S193536x128 8)
        shapeCasts_S193536x128_S3024x8x8x128) transposes_S3024x8x8x128_S3024x8x8x128_0_2_1_3) shapeCasts_S3024x8x8x128_S28x36x24x1024)
        transposes_S28x36x24x1024_S24x28x36x1024_2_0_1_3 = hqRes p Y X := by
  funext i
  rw [eq_ix4 i]
  refine (hq_lay _ _ _ _ _).trans ?_
  have l : (pos (i 0) (i 1) (i 2)).val / 8 * 64 + (i 3).val / 128 * 8 + (pos (i 0) (i 1) (i 2)).val % 8 < 193536 := by
    have : (i 3).val < 1024 := (i 3).isLt
    omega
  have e1 : tok8 ⟨(pos (i 0) (i 1) (i 2)).val / 8 * 64 + (i 3).val / 128 * 8 + (pos (i 0) (i 1) (i 2)).val % 8, l⟩ = pos (i 0) (i 1) (i 2) := Fin.ext (by
    have : (i 3).val < 1024 := (i 3).isLt
    dsimp only; omega)
  have e2 : ch8 ⟨(pos (i 0) (i 1) (i 2)).val / 8 * 64 + (i 3).val / 128 * 8 + (pos (i 0) (i 1) (i 2)).val % 8, l⟩ ⟨(i 3).val % 128, Nat.mod_lt _ (by decide)⟩ = i 3 := Fin.ext (by
    have : (i 3).val < 1024 := (i 3).isLt
    dsimp only; omega)
  exact congrArg₂ (fun t k => hqC p Y X t k) e1 e2

/-! ## The five results -/

section run
variable (m : (ℓ : Loc nD τ sig) → Buf (Elt Ideal) ℓ) (c : Dev nD)

/-- The block's output, after the host code. -/
theorem tail_y (T : Block.Tame (prm m c)) :
    Pipeline.afterTail₀ cfgs (dats m) 0 (V0 m) [hostOps1] c main_v49 = yRes (prm m c) (Yk m c) (Xk m c) := by
  refine Eq.trans ?_ (y_res (prm m c) (Yk m c) (Xk m c))
  rw [← final9 m c T]
  simp only [Pipeline.afterTail₀, hostOps1, List.flatten_cons, List.flatten_nil, List.append_nil]
  after_results_simp
  have e : Pipeline.withArrays (cfgs 0).spec c (V0 m c) (fun w => (dats m 0 c).arrAt w (cfgs 0).N) (Proc.devRef .tc main_v43_0) = (dats m 0 c).arrAt 9 cfg0.N :=
    Pipeline.withArrays_arr (cfgs 0).spec launch0.win.arr_inj c (V0 m c) (fun w => (dats m 0 c).arrAt w (cfgs 0).N) 9
  rw [e]
  rfl

/-- The first norm's codes, after the host code. -/
theorem tail_on :
    Pipeline.afterTail₀ cfgs (dats m) 0 (V0 m) [hostOps1] c main_v53 = onRes (prm m c) (Yk m c) := by
  refine Eq.trans ?_ (on_res (prm m c) (Yk m c))
  rw [← final10 m c]
  simp only [Pipeline.afterTail₀, hostOps1, List.flatten_cons, List.flatten_nil, List.append_nil]
  after_results_simp
  have e : Pipeline.withArrays (cfgs 0).spec c (V0 m c) (fun w => (dats m 0 c).arrAt w (cfgs 0).N) (Proc.devRef .tc main_v43_1) = (dats m 0 c).arrAt 10 cfg0.N :=
    Pipeline.withArrays_arr (cfgs 0).spec launch0.win.arr_inj c (V0 m c) (fun w => (dats m 0 c).arrAt w (cfgs 0).N) 10
  rw [e]
  rfl

/-- Their scales, after the host code. -/
theorem tail_sc :
    Pipeline.afterTail₀ cfgs (dats m) 0 (V0 m) [hostOps1] c main_v47 = scRes (prm m c) (Yk m c) := by
  refine Eq.trans ?_ (sc_res (prm m c) (Yk m c))
  rw [← final11 m c]
  simp only [Pipeline.afterTail₀, hostOps1, List.flatten_cons, List.flatten_nil, List.append_nil]
  after_results_simp
  have e : Pipeline.withArrays (cfgs 0).spec c (V0 m c) (fun w => (dats m 0 c).arrAt w (cfgs 0).N) (Proc.devRef .tc main_v43_2) = (dats m 0 c).arrAt 11 cfg0.N :=
    Pipeline.withArrays_arr (cfgs 0).spec launch0.win.arr_inj c (V0 m c) (fun w => (dats m 0 c).arrAt w (cfgs 0).N) 11
  rw [e]
  rfl

/-- The second norm's codes, after the host code. -/
theorem tail_a2 (T : Block.Tame (prm m c)) :
    Pipeline.afterTail₀ cfgs (dats m) 0 (V0 m) [hostOps1] c main_v57 = a2Res (prm m c) (Yk m c) (Xk m c) := by
  refine Eq.trans ?_ (a2_res (prm m c) (Yk m c) (Xk m c))
  rw [← final12 m c T]
  simp only [Pipeline.afterTail₀, hostOps1, List.flatten_cons, List.flatten_nil, List.append_nil]
  after_results_simp
  have e : Pipeline.withArrays (cfgs 0).spec c (V0 m c) (fun w => (dats m 0 c).arrAt w (cfgs 0).N) (Proc.devRef .tc main_v43_3) = (dats m 0 c).arrAt 12 cfg0.N :=
    Pipeline.withArrays_arr (cfgs 0).spec launch0.win.arr_inj c (V0 m c) (fun w => (dats m 0 c).arrAt w (cfgs 0).N) 12
  rw [e]
  rfl

/-- The hidden codes, after the host code. -/
theorem tail_hq (T : Block.Tame (prm m c)) :
    Pipeline.afterTail₀ cfgs (dats m) 0 (V0 m) [hostOps1] c main_v61 = hqRes (prm m c) (Yk m c) (Xk m c) := by
  refine Eq.trans ?_ (hq_res (prm m c) (Yk m c) (Xk m c))
  rw [← final13 m c T]
  simp only [Pipeline.afterTail₀, hostOps1, List.flatten_cons, List.flatten_nil, List.append_nil]
  after_results_simp
  have e : Pipeline.withArrays (cfgs 0).spec c (V0 m c) (fun w => (dats m 0 c).arrAt w (cfgs 0).N) (Proc.devRef .tc main_v43_4) = (dats m 0 c).arrAt 13 cfg0.N :=
    Pipeline.withArrays_arr (cfgs 0).spec launch0.win.arr_inj c (V0 m c) (fun w => (dats m 0 c).arrAt w (cfgs 0).N) 13
  rw [e]
  rfl

end run

end Cert.Tail

end
-- ==== Proof.lean ====
module

public import proofs.«01_k».proof.Proof.Gen.FrontRefIdeal.Run
public import proofs.«01_k».proof.Proof.Gen.FrontRefIdeal
public import proofs.«01_k».proof.Proof.Gen.Pre_front_tame
public import proofs.«01_k».proof.Defs
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.Back
public import proofs.«01_k».proof.Proof.Gen.Back.Skeleton
public import proofs.«01_k».proof.Proof.Gen.Back.Launch
public import proofs.«01_k».proof.Proof.Gen.Back.Points
public import proofs.«01_k».proof.Proof.Gen.Back.Frame
public import proofs.«01_k».proof.Proof.Gen.BackIdeal
public import proofs.«01_k».proof.Proof.Gen.BackIdeal.Skeleton
public import proofs.«01_k».proof.Proof.Gen.BackIdeal.Launch
public import proofs.«01_k».proof.Proof.Gen.BackIdeal.Points
public import proofs.«01_k».proof.Proof.Gen.BackIdeal.Frame
public import proofs.«01_k».proof.Proof.Gen.BackRefIdeal
public import proofs.«01_k».proof.Proof.Gen.BackRefIdeal.Run
public import proofs.«01_k».proof.Proof.Gen.Pre_back_tame
public import proofs.«01_k».proof.Proof.FrontRunBits.Frame
public import proofs.«01_k».proof.Proof.FrontRun.Frame
public import proofs.«01_k».proof.Proof.FrontEq
public import proofs.«01_k».proof.Proof.RefRun
public import proofs.«01_k».proof.Proof.Tail
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem

section
open Cert.BackIdeal Cert.BackIdeal.Gen

/-- The kernel's run: its five results are the block's functions of the arguments' rows, and the arguments end unchanged. -/
theorem kernel_run (m : (ℓ : Loc nD τ sig) → Buf (Elt Ideal) ℓ) (ρ : Dev nD → PrngReg) (T : ∀ c, Cert.Block.Tame (Cert.Host.prm m c)) :
    θ_run defs (onTc (τ := τ) (main (F := Ideal))) ⟨m, fun _ => 0, ρ⟩ fun r => ∀ c : Dev nD,
      r.2.mem ((c : Thread nD τ).loc main_v49) = Cert.Goal.yRes (Cert.Host.prm m c) (Cert.Array.Yk m c) (Cert.Array.Xk m c)
      ∧ r.2.mem ((c : Thread nD τ).loc main_v53) = Cert.Goal.onRes (Cert.Host.prm m c) (Cert.Array.Yk m c)
      ∧ r.2.mem ((c : Thread nD τ).loc main_v47) = Cert.Goal.scRes (Cert.Host.prm m c) (Cert.Array.Yk m c)
      ∧ r.2.mem ((c : Thread nD τ).loc main_v57) = Cert.Goal.a2Res (Cert.Host.prm m c) (Cert.Array.Yk m c) (Cert.Array.Xk m c)
      ∧ r.2.mem ((c : Thread nD τ).loc main_v61) = Cert.Goal.hqRes (Cert.Host.prm m c) (Cert.Array.Yk m c) (Cert.Array.Xk m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨((h.1 c).2 main_v49 (Pipeline.mem_restRefs_of main_v49 (by decide) (by decide))).trans (Cert.Tail.tail_y m c (T c)),
    ((h.1 c).2 main_v53 (Pipeline.mem_restRefs_of main_v53 (by decide) (by decide))).trans (Cert.Tail.tail_on m c),
    ((h.1 c).2 main_v47 (Pipeline.mem_restRefs_of main_v47 (by decide) (by decide))).trans (Cert.Tail.tail_sc m c),
    ((h.1 c).2 main_v57 (Pipeline.mem_restRefs_of main_v57 (by decide) (by decide))).trans (Cert.Tail.tail_a2 m c (T c)),
    ((h.1 c).2 main_v61 (Pipeline.mem_restRefs_of main_v61 (by decide) (by decide))).trans (Cert.Tail.tail_hq m c (T c)), h.2 c⟩)
    (θ_run_and (run_main m ρ) (unchanged m ρ))

end

section
variable (m : (ℓ : Loc Cert.BackIdeal.nD Cert.BackIdeal.τ Cert.BackIdeal.sig) → Buf (Elt Ideal) ℓ)
  (m' : (ℓ : Loc Cert.BackRefIdeal.nD Cert.BackRefIdeal.τ Cert.BackRefIdeal.sig) → Buf (Elt Ideal) ℓ) (c : Dev Cert.BackIdeal.nD)
  (h : m' ((c.tc : Thread Cert.BackRefIdeal.nD Cert.BackRefIdeal.τ).loc Cert.BackRefIdeal.main_arg0) = m ((c.tc : Thread Cert.BackIdeal.nD Cert.BackIdeal.τ).loc Cert.BackIdeal.main_arg0)
    ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
    ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
    ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
    ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
    ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
    ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
    ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)
    ∧ m' ((c.tc : Thread Cert.BackRefIdeal.nD Cert.BackRefIdeal.τ).loc Cert.BackRefIdeal.main_arg8) = m ((c.tc : Thread Cert.BackIdeal.nD Cert.BackIdeal.τ).loc Cert.BackIdeal.main_arg8)
    ∧ m' ((c.tc : Thread Cert.BackRefIdeal.nD Cert.BackRefIdeal.τ).loc Cert.BackRefIdeal.main_arg9) = m ((c.tc : Thread Cert.BackIdeal.nD Cert.BackIdeal.τ).loc Cert.BackIdeal.main_arg9)
    ∧ m' ((c.tc : Thread Cert.BackRefIdeal.nD Cert.BackRefIdeal.τ).loc Cert.BackRefIdeal.main_arg10) = m ((c.tc : Thread Cert.BackIdeal.nD Cert.BackIdeal.τ).loc Cert.BackIdeal.main_arg10)
    ∧ m' ((c.tc : Thread Cert.BackRefIdeal.nD Cert.BackRefIdeal.τ).loc Cert.BackRefIdeal.main_arg11) = m ((c.tc : Thread Cert.BackIdeal.nD Cert.BackIdeal.τ).loc Cert.BackIdeal.main_arg11)
    ∧ m' ((c.tc : Thread Cert.BackRefIdeal.nD Cert.BackRefIdeal.τ).loc Cert.BackRefIdeal.main_arg12) = m ((c.tc : Thread Cert.BackIdeal.nD Cert.BackIdeal.τ).loc Cert.BackIdeal.main_arg12)
    ∧ m' ((c.tc : Thread Cert.BackRefIdeal.nD Cert.BackRefIdeal.τ).loc Cert.BackRefIdeal.main_arg13) = m ((c.tc : Thread Cert.BackIdeal.nD Cert.BackIdeal.τ).loc Cert.BackIdeal.main_arg13)
    ∧ m' ((c.tc : Thread Cert.BackRefIdeal.nD Cert.BackRefIdeal.τ).loc Cert.BackRefIdeal.main_arg14) = m ((c.tc : Thread Cert.BackIdeal.nD Cert.BackIdeal.τ).loc Cert.BackIdeal.main_arg14)
    ∧ m' ((c.tc : Thread Cert.BackRefIdeal.nD Cert.BackRefIdeal.τ).loc Cert.BackRefIdeal.main_arg15) = m ((c.tc : Thread Cert.BackIdeal.nD Cert.BackIdeal.τ).loc Cert.BackIdeal.main_arg15)
    ∧ m' ((c.tc : Thread Cert.BackRefIdeal.nD Cert.BackRefIdeal.τ).loc Cert.BackRefIdeal.main_arg16) = m ((c.tc : Thread Cert.BackIdeal.nD Cert.BackIdeal.τ).loc Cert.BackIdeal.main_arg16))
include h

/-- Memories that agree on the arguments hold the same parameters, -/
theorem prm_eq : Cert.Ref.prm (StableHlo.launchContents m' c) = Cert.Host.prm m c := by
  obtain ⟨h0, h1, h2, h3, h4, h5, h6, h7, h8, h9, h10, h11, h12, h13, h14, h15, h16⟩ := h
  show Cert.Row.params (m' ((c.tc : Thread Cert.BackRefIdeal.nD Cert.BackRefIdeal.τ).loc Cert.BackRefIdeal.main_arg2)) (m' ((c.tc : Thread Cert.BackRefIdeal.nD Cert.BackRefIdeal.τ).loc Cert.BackRefIdeal.main_arg3)) (m' ((c.tc : Thread Cert.BackRefIdeal.nD Cert.BackRefIdeal.τ).loc Cert.BackRefIdeal.main_arg4)) (m' ((c.tc : Thread Cert.BackRefIdeal.nD Cert.BackRefIdeal.τ).loc Cert.BackRefIdeal.main_arg5)) (m' ((c.tc : Thread Cert.BackRefIdeal.nD Cert.BackRefIdeal.τ).loc Cert.BackRefIdeal.main_arg6)) (m' ((c.tc : Thread Cert.BackRefIdeal.nD Cert.BackRefIdeal.τ).loc Cert.BackRefIdeal.main_arg7)) (m' ((c.tc : Thread Cert.BackRefIdeal.nD Cert.BackRefIdeal.τ).loc Cert.BackRefIdeal.main_arg8)) (m' ((c.tc : Thread Cert.BackRefIdeal.nD Cert.BackRefIdeal.τ).loc Cert.BackRefIdeal.main_arg9)) (m' ((c.tc : Thread Cert.BackRefIdeal.nD Cert.BackRefIdeal.τ).loc Cert.BackRefIdeal.main_arg10)) (m' ((c.tc : Thread Cert.BackRefIdeal.nD Cert.BackRefIdeal.τ).loc Cert.BackRefIdeal.main_arg11)) (m' ((c.tc : Thread Cert.BackRefIdeal.nD Cert.BackRefIdeal.τ).loc Cert.BackRefIdeal.main_arg12)) (m' ((c.tc : Thread Cert.BackRefIdeal.nD Cert.BackRefIdeal.τ).loc Cert.BackRefIdeal.main_arg13)) (m' ((c.tc : Thread Cert.BackRefIdeal.nD Cert.BackRefIdeal.τ).loc Cert.BackRefIdeal.main_arg14)) (m' ((c.tc : Thread Cert.BackRefIdeal.nD Cert.BackRefIdeal.τ).loc Cert.BackRefIdeal.main_arg15)) (m' ((c.tc : Thread Cert.BackRefIdeal.nD Cert.BackRefIdeal.τ).loc Cert.BackRefIdeal.main_arg16)) = _
  rw [h2, h3, h4, h5, h6, h7, h8, h9, h10, h11, h12, h13, h14, h15, h16]
  rfl

/-- the same rows of the scan's output, -/
theorem yr_eq : Cert.Ref.yr (StableHlo.launchContents m' c) = Cert.Array.Yk m c := by
  funext t
  show Cert.Row.yrow (m' ((c.tc : Thread Cert.BackRefIdeal.nD Cert.BackRefIdeal.τ).loc Cert.BackRefIdeal.main_arg1)) t = _
  rw [h.2.1]

/-- and the same rows of the input. -/
theorem xr_eq : Cert.Ref.xr (StableHlo.launchContents m' c) = Cert.Array.Xk m c := by
  funext t
  show Cert.Row.xrow (m' ((c.tc : Thread Cert.BackRefIdeal.nD Cert.BackRefIdeal.τ).loc Cert.BackRefIdeal.main_arg0)) t = _
  rw [h.1]

end

/-- THE EQUATION: over the extended reals the kernel and the reference leave the same five results. -/
theorem algebraic : Cert.algebraic_BackIdeal_BackRefIdeal_pre_back_tame := by
  intro m g m' g' hpre hag
  have T := fun c => Cert.Pre.tame m c hpre
  refine ⟨fun c => Cert.Goal.yRes (Cert.Host.prm m c) (Cert.Array.Yk m c) (Cert.Array.Xk m c), fun c => Cert.Goal.onRes (Cert.Host.prm m c) (Cert.Array.Yk m c), fun c => Cert.Goal.scRes (Cert.Host.prm m c) (Cert.Array.Yk m c), fun c => Cert.Goal.a2Res (Cert.Host.prm m c) (Cert.Array.Yk m c) (Cert.Array.Xk m c), fun c => Cert.Goal.hqRes (Cert.Host.prm m c) (Cert.Array.Yk m c) (Cert.Array.Xk m c), kernel_run m g T, ?_⟩
  refine (θ_run _ _ _).mono (fun r h c => ?_) (Cert.Ref.run_eq m' g' fun c => (prm_eq m m' c (hag c)).symm ▸ (T c).zH)
  have h := h c
  rw [prm_eq m m' c (hag c), yr_eq m m' c (hag c), xr_eq m m' c (hag c)] at h
  exact h

/-- The reference leaves its arguments unchanged. -/
theorem ref_frame : Cert.quiescent_BackRefIdeal := fun m ρ _ =>
  (θ_run Cert.BackRefIdeal.defs _ _).mono (fun r h => ⟨fun c => (h c).2.2.2.2.2, Idealize.ShloMosaic.sem_eq_zero_of_no_sems (by decide) r.2⟩)
    (Cert.BackRefIdeal.Value.run (F := Ideal) m ρ)

/-- Everything claimed. -/
theorem claim : Cert.Claim := ⟨Cert.Front.Gen.facts, Cert.FrontIdeal.Gen.facts, Cert.FrontRefIdeal.Gen.facts,
  Cert.Back.Gen.facts, Cert.BackIdeal.Gen.facts, Cert.BackRefIdeal.Gen.facts, Cert.Pre_front_tame.Gen.facts, Cert.Pre_back_tame.Gen.facts,
  fun m ρ _ => Cert.Front.Gen.frame m ρ, fun m ρ _ => Cert.FrontIdeal.Gen.frame m ρ, fun m ρ _ => Cert.FrontIdeal.Gen.frame m ρ,
  Cert.FrontEq.ref_frame, fun m ρ _ => Cert.FrontEq.ref_frame m ρ trivial,
  fun m ρ _ => Cert.Back.Gen.frame m ρ, fun m ρ _ => Cert.BackIdeal.Gen.frame m ρ, fun m ρ _ => Cert.BackIdeal.Gen.frame m ρ,
  ref_frame, fun m ρ _ => ref_frame m ρ trivial, trivial, Cert.FrontEq.algebraic, trivial, algebraic⟩

end Cert.Proof

end
